-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_patches" .f32 0x3AE38E39#32 ((1 / 576 : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S8x3x384x384 : Shape := ⟨4, ![8, 3, 384, 384]⟩
abbrev S768x768 : Shape := ⟨2, ![768, 768]⟩
abbrev S_ : Shape := ⟨0, ![]⟩

class Facts : Prop where
  bcast_S_S8x3x384x384 : S_.BroadcastsInDim S8x3x384x384 (![] : Fin 0 → Fin S8x3x384x384.rank)
  reducesTo_S8x3x384x384_S_d0_1_2_3 : S8x3x384x384.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S8x3x384x384 .f32) (main_arg1 : FVec F S768x768 .f32) (main_arg2 : FVec F S768x768 .f32) (main_arg3 : FVec F S768x768 .f32) : IVec S_ 1 :=
  let main_v0 : FVec F S8x3x384x384 .f32 := Host.absf main_arg0
  let main_cst : FVec F S_ .f32 := constant S_ .f32 0x7F800000#32
  let main_v1 : FVec F S8x3x384x384 .f32 := broadcastInDim S8x3x384x384 ![] bcast_S_S8x3x384x384 main_cst
  let main_v2 : IVec S8x3x384x384 1 := cmpf .olt main_v0 main_v1
  let main_c : IVec S_ 1 := constantI S_ 1 1#1
  let main_v3 : IVec S_ 1 := (fun x v => Host.reduce IntOp.andi x v reducesTo_S8x3x384x384_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S8x3x384x384 : Shape := ⟨4, ![8, 3, 384, 384]⟩
abbrev S768x768 : Shape := ⟨2, ![768, 768]⟩
abbrev S24x24x16x384 : Shape := ⟨4, ![24, 24, 16, 384]⟩
abbrev S384x16 : Shape := ⟨2, ![384, 16]⟩
abbrev S_ : Shape := ⟨0, ![]⟩
abbrev S96x2304 : Shape := ⟨2, ![96, 2304]⟩
abbrev S384x768 : Shape := ⟨2, ![384, 768]⟩
abbrev S8x384 : Shape := ⟨2, ![8, 384]⟩
abbrev S3x8x768 : Shape := ⟨3, ![3, 8, 768]⟩
abbrev S6x24x16x384 : Shape := ⟨4, ![6, 24, 16, 384]⟩
abbrev S2304x384 : Shape := ⟨2, ![2304, 384]⟩
abbrev S2304x16 : Shape := ⟨2, ![2304, 16]⟩
abbrev S96x16 : Shape := ⟨2, ![96, 16]⟩
abbrev S1x24x1x384 : Shape := ⟨4, ![1, 24, 1, 384]⟩
abbrev S24x384 : Shape := ⟨2, ![24, 384]⟩
abbrev S24x16 : Shape := ⟨2, ![24, 16]⟩
abbrev S576x16 : Shape := ⟨2, ![576, 16]⟩
abbrev S576x768 : Shape := ⟨2, ![576, 768]⟩
abbrev S1728x768 : Shape := ⟨2, ![1728, 768]⟩
abbrev S1x768 : Shape := ⟨2, ![1, 768]⟩
abbrev S8x768 : Shape := ⟨2, ![8, 768]⟩
abbrev S24x768 : Shape := ⟨2, ![24, 768]⟩
abbrev S24x1728 : Shape := ⟨2, ![24, 1728]⟩
abbrev S24x576 : Shape := ⟨2, ![24, 576]⟩
abbrev S1728x1 : Shape := ⟨2, ![1728, 1]⟩
abbrev S1728 : Shape := ⟨1, ![1728]⟩
abbrev S1x1728 : Shape := ⟨2, ![1, 1728]⟩
abbrev S24 : Shape := ⟨1, ![24]⟩
abbrev S24x1 : Shape := ⟨2, ![24, 1]⟩
abbrev S1x8x768 : Shape := ⟨3, ![1, 8, 768]⟩
abbrev S384x32 : Shape := ⟨2, ![384, 32]⟩
abbrev S384x64 : Shape := ⟨2, ![384, 64]⟩
abbrev S384x128 : Shape := ⟨2, ![384, 128]⟩
abbrev S384x256 : Shape := ⟨2, ![384, 256]⟩
abbrev S384x512 : Shape := ⟨2, ![384, 512]⟩
abbrev S3x5x768 : Shape := ⟨3, ![3, 5, 768]⟩
abbrev S3x1x5x768 : Shape := ⟨4, ![3, 1, 5, 768]⟩

abbrev nBuf : Space → Nat
  | .hbm => 269
  | .vmem => 12
  | .smem => 0
  | _ => 0

abbrev hbmTy0_0 (i : Nat) : BufTy := match i % 128 with
  | 0 => ⟨S8x3x384x384, .f32⟩
  | 1 => ⟨S768x768, .f32⟩
  | 2 => ⟨S768x768, .f32⟩
  | 3 => ⟨S768x768, .f32⟩
  | 4 => ⟨S24x24x16x384, .f32⟩
  | 5 => ⟨S384x16, .i32⟩
  | 6 => ⟨S384x16, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S384x16, .i32⟩
  | 14 => ⟨S384x16, .i32⟩
  | 15 => ⟨S_, .i32⟩
  | 16 => ⟨S384x16, .i32⟩
  | 17 => ⟨S384x16, .i1⟩
  | 18 => ⟨S_, .i32⟩
  | 19 => ⟨S384x16, .i32⟩
  | 20 => ⟨S384x16, .i1⟩
  | 21 => ⟨S_, .i32⟩
  | 22 => ⟨S_, .i1⟩
  | 23 => ⟨S384x16, .i1⟩
  | 24 => ⟨S384x16, .i1⟩
  | 25 => ⟨S384x16, .i1⟩
  | 26 => ⟨S384x16, .i32⟩
  | 27 => ⟨S384x16, .i32⟩
  | 28 => ⟨S384x16, .i32⟩
  | 29 => ⟨S384x16, .i1⟩
  | 30 => ⟨S384x16, .bf16⟩
  | 31 => ⟨S96x2304, .i32⟩
  | 32 => ⟨S96x2304, .i32⟩
  | 33 => ⟨S_, .i32⟩
  | 34 => ⟨S_, .i32⟩
  | 35 => ⟨S96x2304, .i32⟩
  | 36 => ⟨S96x2304, .i32⟩
  | 37 => ⟨S96x2304, .i32⟩
  | 38 => ⟨S_, .i32⟩
  | 39 => ⟨S96x2304, .i32⟩
  | 40 => ⟨S96x2304, .i1⟩
  | 41 => ⟨S96x2304, .i32⟩
  | 42 => ⟨S96x2304, .i32⟩
  | 43 => ⟨S_, .i32⟩
  | 44 => ⟨S96x2304, .i32⟩
  | 45 => ⟨S96x2304, .i1⟩
  | 46 => ⟨S96x2304, .i1⟩
  | 47 => ⟨S_, .i32⟩
  | 48 => ⟨S96x2304, .i32⟩
  | 49 => ⟨S96x2304, .i32⟩
  | 50 => ⟨S96x2304, .i32⟩
  | 51 => ⟨S_, .i32⟩
  | 52 => ⟨S_, .i32⟩
  | 53 => ⟨S96x2304, .i32⟩
  | 54 => ⟨S96x2304, .i32⟩
  | 55 => ⟨S96x2304, .i32⟩
  | 56 => ⟨S_, .i32⟩
  | 57 => ⟨S96x2304, .i32⟩
  | 58 => ⟨S96x2304, .i1⟩
  | 59 => ⟨S96x2304, .i32⟩
  | 60 => ⟨S96x2304, .i32⟩
  | 61 => ⟨S_, .i32⟩
  | 62 => ⟨S96x2304, .i32⟩
  | 63 => ⟨S96x2304, .i1⟩
  | 64 => ⟨S96x2304, .i1⟩
  | 65 => ⟨S_, .i32⟩
  | 66 => ⟨S96x2304, .i32⟩
  | 67 => ⟨S96x2304, .i32⟩
  | 68 => ⟨S96x2304, .i32⟩
  | 69 => ⟨S96x2304, .i1⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S96x2304, .i32⟩
  | 77 => ⟨S96x2304, .i32⟩
  | 78 => ⟨S_, .i32⟩
  | 79 => ⟨S96x2304, .i32⟩
  | 80 => ⟨S96x2304, .i1⟩
  | 81 => ⟨S_, .i32⟩
  | 82 => ⟨S96x2304, .i32⟩
  | 83 => ⟨S96x2304, .i1⟩
  | 84 => ⟨S_, .i32⟩
  | 85 => ⟨S_, .i1⟩
  | 86 => ⟨S96x2304, .i1⟩
  | 87 => ⟨S96x2304, .i1⟩
  | 88 => ⟨S96x2304, .i1⟩
  | 89 => ⟨S96x2304, .i32⟩
  | 90 => ⟨S96x2304, .i32⟩
  | 91 => ⟨S96x2304, .i32⟩
  | 92 => ⟨S_, .i32⟩
  | 93 => ⟨S_, .i32⟩
  | 94 => ⟨S96x2304, .i32⟩
  | 95 => ⟨S96x2304, .i32⟩
  | 96 => ⟨S96x2304, .i32⟩
  | 97 => ⟨S_, .i32⟩
  | 98 => ⟨S96x2304, .i32⟩
  | 99 => ⟨S96x2304, .i1⟩
  | 100 => ⟨S96x2304, .i32⟩
  | 101 => ⟨S96x2304, .i32⟩
  | 102 => ⟨S_, .i32⟩
  | 103 => ⟨S96x2304, .i32⟩
  | 104 => ⟨S96x2304, .i1⟩
  | 105 => ⟨S96x2304, .i1⟩
  | 106 => ⟨S_, .i32⟩
  | 107 => ⟨S96x2304, .i32⟩
  | 108 => ⟨S96x2304, .i32⟩
  | 109 => ⟨S96x2304, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S96x2304, .i32⟩
  | 117 => ⟨S96x2304, .i32⟩
  | 118 => ⟨S_, .i32⟩
  | 119 => ⟨S96x2304, .i32⟩
  | 120 => ⟨S96x2304, .i1⟩
  | 121 => ⟨S_, .i32⟩
  | 122 => ⟨S96x2304, .i32⟩
  | 123 => ⟨S96x2304, .i1⟩
  | 124 => ⟨S_, .i32⟩
  | 125 => ⟨S_, .i1⟩
  | 126 => ⟨S96x2304, .i1⟩
  | 127 => ⟨S96x2304, .i1⟩
  | _ => ⟨S8x3x384x384, .f32⟩

abbrev hbmTy0_1 (i : Nat) : BufTy := match i % 128 with
  | 0 => ⟨S96x2304, .i1⟩
  | 1 => ⟨S96x2304, .i32⟩
  | 2 => ⟨S96x2304, .i32⟩
  | 3 => ⟨S96x2304, .i32⟩
  | 4 => ⟨S_, .i32⟩
  | 5 => ⟨S_, .i32⟩
  | 6 => ⟨S96x2304, .i32⟩
  | 7 => ⟨S96x2304, .i32⟩
  | 8 => ⟨S96x2304, .i32⟩
  | 9 => ⟨S_, .i32⟩
  | 10 => ⟨S96x2304, .i32⟩
  | 11 => ⟨S96x2304, .i1⟩
  | 12 => ⟨S96x2304, .i32⟩
  | 13 => ⟨S96x2304, .i32⟩
  | 14 => ⟨S_, .i32⟩
  | 15 => ⟨S96x2304, .i32⟩
  | 16 => ⟨S96x2304, .i1⟩
  | 17 => ⟨S96x2304, .i1⟩
  | 18 => ⟨S_, .i32⟩
  | 19 => ⟨S96x2304, .i32⟩
  | 20 => ⟨S96x2304, .i32⟩
  | 21 => ⟨S96x2304, .i32⟩
  | 22 => ⟨S96x2304, .i1⟩
  | 23 => ⟨S96x2304, .i1⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S96x2304, .i32⟩
  | 31 => ⟨S96x2304, .i32⟩
  | 32 => ⟨S_, .i32⟩
  | 33 => ⟨S96x2304, .i32⟩
  | 34 => ⟨S96x2304, .i1⟩
  | 35 => ⟨S_, .i32⟩
  | 36 => ⟨S96x2304, .i32⟩
  | 37 => ⟨S96x2304, .i1⟩
  | 38 => ⟨S_, .i32⟩
  | 39 => ⟨S_, .i1⟩
  | 40 => ⟨S96x2304, .i1⟩
  | 41 => ⟨S96x2304, .i1⟩
  | 42 => ⟨S96x2304, .i1⟩
  | 43 => ⟨S96x2304, .i32⟩
  | 44 => ⟨S96x2304, .i32⟩
  | 45 => ⟨S96x2304, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S96x2304, .i32⟩
  | 53 => ⟨S96x2304, .i32⟩
  | 54 => ⟨S_, .i32⟩
  | 55 => ⟨S96x2304, .i32⟩
  | 56 => ⟨S96x2304, .i1⟩
  | 57 => ⟨S_, .i32⟩
  | 58 => ⟨S96x2304, .i32⟩
  | 59 => ⟨S96x2304, .i1⟩
  | 60 => ⟨S_, .i32⟩
  | 61 => ⟨S_, .i1⟩
  | 62 => ⟨S96x2304, .i1⟩
  | 63 => ⟨S96x2304, .i1⟩
  | 64 => ⟨S96x2304, .i1⟩
  | 65 => ⟨S96x2304, .i32⟩
  | 66 => ⟨S96x2304, .i32⟩
  | 67 => ⟨S96x2304, .i32⟩
  | 68 => ⟨S96x2304, .i1⟩
  | 69 => ⟨S96x2304, .i1⟩
  | 70 => ⟨S96x2304, .bf16⟩
  | 71 => ⟨S384x768, .i32⟩
  | 72 => ⟨S384x768, .i32⟩
  | 73 => ⟨S_, .i32⟩
  | 74 => ⟨S_, .i32⟩
  | 75 => ⟨S384x768, .i32⟩
  | 76 => ⟨S384x768, .i32⟩
  | 77 => ⟨S384x768, .i32⟩
  | 78 => ⟨S_, .i32⟩
  | 79 => ⟨S384x768, .i32⟩
  | 80 => ⟨S384x768, .i1⟩
  | 81 => ⟨S384x768, .i32⟩
  | 82 => ⟨S384x768, .i32⟩
  | 83 => ⟨S_, .i32⟩
  | 84 => ⟨S384x768, .i32⟩
  | 85 => ⟨S384x768, .i1⟩
  | 86 => ⟨S384x768, .i1⟩
  | 87 => ⟨S_, .i32⟩
  | 88 => ⟨S384x768, .i32⟩
  | 89 => ⟨S384x768, .i32⟩
  | 90 => ⟨S384x768, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S384x768, .i32⟩
  | 98 => ⟨S384x768, .i32⟩
  | 99 => ⟨S_, .i32⟩
  | 100 => ⟨S384x768, .i32⟩
  | 101 => ⟨S384x768, .i1⟩
  | 102 => ⟨S_, .i32⟩
  | 103 => ⟨S384x768, .i32⟩
  | 104 => ⟨S384x768, .i1⟩
  | 105 => ⟨S_, .i32⟩
  | 106 => ⟨S_, .i1⟩
  | 107 => ⟨S384x768, .i1⟩
  | 108 => ⟨S384x768, .i1⟩
  | 109 => ⟨S384x768, .i1⟩
  | 110 => ⟨S384x768, .i32⟩
  | 111 => ⟨S384x768, .i32⟩
  | 112 => ⟨S384x768, .i32⟩
  | 113 => ⟨S384x768, .i1⟩
  | 114 => ⟨S384x768, .f32⟩
  | 115 => ⟨S8x384, .i32⟩
  | 116 => ⟨S8x384, .i32⟩
  | 117 => ⟨S_, .i32⟩
  | 118 => ⟨S_, .i32⟩
  | 119 => ⟨S8x384, .i32⟩
  | 120 => ⟨S8x384, .i32⟩
  | 121 => ⟨S8x384, .i32⟩
  | 122 => ⟨S_, .i32⟩
  | 123 => ⟨S8x384, .i32⟩
  | 124 => ⟨S8x384, .i1⟩
  | 125 => ⟨S8x384, .i32⟩
  | 126 => ⟨S8x384, .i32⟩
  | 127 => ⟨S_, .i32⟩
  | _ => ⟨S8x3x384x384, .f32⟩

abbrev hbmTy0_2 (i : Nat) : BufTy := match i % 128 with
  | 0 => ⟨S8x384, .i32⟩
  | 1 => ⟨S8x384, .i1⟩
  | 2 => ⟨S8x384, .i1⟩
  | 3 => ⟨S_, .i32⟩
  | 4 => ⟨S8x384, .i32⟩
  | 5 => ⟨S8x384, .i32⟩
  | 6 => ⟨S8x384, .i32⟩
  | 7 => ⟨S8x384, .i1⟩
  | 8 => ⟨S8x384, .bf16⟩
  | 9 => ⟨S3x8x768, .f32⟩
  | 10 => ⟨S3x8x768, .f32⟩
  | 11 => ⟨S3x5x768, .f32⟩
  | 12 => ⟨S3x1x5x768, .f32⟩
  | _ => ⟨S8x3x384x384, .f32⟩

abbrev hbmTy (i : Nat) : BufTy := match i / 128 with
  | 0 => hbmTy0_0 i
  | 1 => hbmTy0_1 i
  | 2 => hbmTy0_2 i
  | _ => ⟨S8x3x384x384, .f32⟩

abbrev bufTy : (tb : Table) → Fin (tcTables nBuf tb) → BufTy
  | .hbm, ⟨i, _⟩ => hbmTy i
  | .local _ .vmem, ⟨0, _⟩ => ⟨S6x24x16x384, .f32⟩
  | .local _ .vmem, ⟨1, _⟩ => ⟨S6x24x16x384, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S384x16, .bf16⟩
  | .local _ .vmem, ⟨6, _⟩ => ⟨S96x2304, .bf16⟩
  | .local _ .vmem, ⟨7, _⟩ => ⟨S384x768, .f32⟩
  | .local _ .vmem, ⟨8, _⟩ => ⟨S8x384, .bf16⟩
  | .local _ .vmem, ⟨9, _⟩ => ⟨S3x8x768, .f32⟩
  | .local _ .vmem, ⟨10, _⟩ => ⟨S3x8x768, .f32⟩
  | .local _ .vmem, ⟨11, _⟩ => ⟨S384x16, .f32⟩
  | _, _ => ⟨S8x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v8 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v9 : Ref sig .tc := ⟨.hbm, 68, rfl⟩
abbrev main_v10 : Ref sig .tc := ⟨.hbm, 69, rfl⟩
abbrev main_c_2 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v11 : Ref sig .tc := ⟨.hbm, 91, rfl⟩
abbrev main_c_3 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_c : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_0 : Ref sig .tc := ⟨.hbm, 106, rfl⟩
abbrev main_call4_v12 : Ref sig .tc := ⟨.hbm, 107, rfl⟩
abbrev main_call4_v13 : Ref sig .tc := ⟨.hbm, 108, rfl⟩
abbrev main_v12 : Ref sig .tc := ⟨.hbm, 109, rfl⟩
abbrev main_c_4 : Ref sig .tc := ⟨.hbm, 110, rfl⟩
abbrev main_call5_v0 : Ref sig .tc := ⟨.hbm, 111, rfl⟩
abbrev main_call5_c : Ref sig .tc := ⟨.hbm, 112, rfl⟩
abbrev main_call5_v1 : Ref sig .tc := ⟨.hbm, 113, rfl⟩
abbrev main_call5_c_0 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_c_1 : Ref sig .tc := ⟨.hbm, 118, rfl⟩
abbrev main_call5_v5 : Ref sig .tc := ⟨.hbm, 119, rfl⟩
abbrev main_call5_v6 : Ref sig .tc := ⟨.hbm, 120, rfl⟩
abbrev main_call5_c_2 : Ref sig .tc := ⟨.hbm, 121, rfl⟩
abbrev main_call5_v7 : Ref sig .tc := ⟨.hbm, 122, rfl⟩
abbrev main_call5_v8 : Ref sig .tc := ⟨.hbm, 123, rfl⟩
abbrev main_call5_c_3 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_v12 : Ref sig .tc := ⟨.hbm, 128, rfl⟩
abbrev main_call5_v13 : Ref sig .tc := ⟨.hbm, 129, rfl⟩
abbrev main_call5_v14 : Ref sig .tc := ⟨.hbm, 130, rfl⟩
abbrev main_v13 : Ref sig .tc := ⟨.hbm, 131, rfl⟩
abbrev main_c_5 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_c : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_c_0 : Ref sig .tc := ⟨.hbm, 146, rfl⟩
abbrev main_call6_v12 : Ref sig .tc := ⟨.hbm, 147, rfl⟩
abbrev main_call6_v13 : Ref sig .tc := ⟨.hbm, 148, rfl⟩
abbrev main_v14 : Ref sig .tc := ⟨.hbm, 149, rfl⟩
abbrev main_v15 : Ref sig .tc := ⟨.hbm, 150, rfl⟩
abbrev main_v16 : Ref sig .tc := ⟨.hbm, 151, rfl⟩
abbrev main_c_6 : Ref sig .tc := ⟨.hbm, 152, rfl⟩
abbrev main_call7_v0 : Ref sig .tc := ⟨.hbm, 153, rfl⟩
abbrev main_call7_c : Ref sig .tc := ⟨.hbm, 154, rfl⟩
abbrev main_call7_v1 : Ref sig .tc := ⟨.hbm, 155, rfl⟩
abbrev main_call7_c_0 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_c_1 : Ref sig .tc := ⟨.hbm, 160, rfl⟩
abbrev main_call7_v5 : Ref sig .tc := ⟨.hbm, 161, rfl⟩
abbrev main_call7_v6 : Ref sig .tc := ⟨.hbm, 162, rfl⟩
abbrev main_call7_c_2 : Ref sig .tc := ⟨.hbm, 163, rfl⟩
abbrev main_call7_v7 : Ref sig .tc := ⟨.hbm, 164, rfl⟩
abbrev main_call7_v8 : Ref sig .tc := ⟨.hbm, 165, rfl⟩
abbrev main_call7_c_3 : Ref sig .tc := ⟨.hbm, 166, rfl⟩
abbrev main_call7_v9 : Ref sig .tc := ⟨.hbm, 167, rfl⟩
abbrev main_call7_v10 : Ref sig .tc := ⟨.hbm, 168, rfl⟩
abbrev main_call7_v11 : Ref sig .tc := ⟨.hbm, 169, rfl⟩
abbrev main_call7_v12 : Ref sig .tc := ⟨.hbm, 170, rfl⟩
abbrev main_call7_v13 : Ref sig .tc := ⟨.hbm, 171, rfl⟩
abbrev main_call7_v14 : Ref sig .tc := ⟨.hbm, 172, rfl⟩
abbrev main_v17 : Ref sig .tc := ⟨.hbm, 173, rfl⟩
abbrev main_c_7 : Ref sig .tc := ⟨.hbm, 174, rfl⟩
abbrev main_call8_v0 : Ref sig .tc := ⟨.hbm, 175, rfl⟩
abbrev main_call8_c : Ref sig .tc := ⟨.hbm, 176, rfl⟩
abbrev main_call8_v1 : Ref sig .tc := ⟨.hbm, 177, rfl⟩
abbrev main_call8_c_0 : Ref sig .tc := ⟨.hbm, 178, rfl⟩
abbrev main_call8_v2 : Ref sig .tc := ⟨.hbm, 179, rfl⟩
abbrev main_call8_v3 : Ref sig .tc := ⟨.hbm, 180, rfl⟩
abbrev main_call8_v4 : Ref sig .tc := ⟨.hbm, 181, rfl⟩
abbrev main_call8_c_1 : Ref sig .tc := ⟨.hbm, 182, rfl⟩
abbrev main_call8_v5 : Ref sig .tc := ⟨.hbm, 183, rfl⟩
abbrev main_call8_v6 : Ref sig .tc := ⟨.hbm, 184, rfl⟩
abbrev main_call8_c_2 : Ref sig .tc := ⟨.hbm, 185, rfl⟩
abbrev main_call8_v7 : Ref sig .tc := ⟨.hbm, 186, rfl⟩
abbrev main_call8_v8 : Ref sig .tc := ⟨.hbm, 187, rfl⟩
abbrev main_call8_c_3 : Ref sig .tc := ⟨.hbm, 188, rfl⟩
abbrev main_call8_v9 : Ref sig .tc := ⟨.hbm, 189, rfl⟩
abbrev main_call8_v10 : Ref sig .tc := ⟨.hbm, 190, rfl⟩
abbrev main_call8_v11 : Ref sig .tc := ⟨.hbm, 191, rfl⟩
abbrev main_call8_v12 : Ref sig .tc := ⟨.hbm, 192, rfl⟩
abbrev main_call8_v13 : Ref sig .tc := ⟨.hbm, 193, rfl⟩
abbrev main_call8_v14 : Ref sig .tc := ⟨.hbm, 194, rfl⟩
abbrev main_v18 : Ref sig .tc := ⟨.hbm, 195, rfl⟩
abbrev main_v19 : Ref sig .tc := ⟨.hbm, 196, rfl⟩
abbrev main_v20 : Ref sig .tc := ⟨.hbm, 197, rfl⟩
abbrev main_v21 : Ref sig .tc := ⟨.hbm, 198, rfl⟩
abbrev main_v22 : Ref sig .tc := ⟨.hbm, 199, rfl⟩
abbrev main_v23 : Ref sig .tc := ⟨.hbm, 200, rfl⟩
abbrev main_c_8 : Ref sig .tc := ⟨.hbm, 201, rfl⟩
abbrev main_call9_v0 : Ref sig .tc := ⟨.hbm, 202, rfl⟩
abbrev main_call9_v1 : Ref sig .tc := ⟨.hbm, 203, rfl⟩
abbrev main_call9_v2 : Ref sig .tc := ⟨.hbm, 204, rfl⟩
abbrev main_call9_v3 : Ref sig .tc := ⟨.hbm, 205, rfl⟩
abbrev main_call9_v4 : Ref sig .tc := ⟨.hbm, 206, rfl⟩
abbrev main_call9_v5 : Ref sig .tc := ⟨.hbm, 207, rfl⟩
abbrev main_call9_v6 : Ref sig .tc := ⟨.hbm, 208, rfl⟩
abbrev main_call9_v7 : Ref sig .tc := ⟨.hbm, 209, rfl⟩
abbrev main_call9_v8 : Ref sig .tc := ⟨.hbm, 210, rfl⟩
abbrev main_call9_c : Ref sig .tc := ⟨.hbm, 211, rfl⟩
abbrev main_call9_v9 : Ref sig .tc := ⟨.hbm, 212, rfl⟩
abbrev main_call9_v10 : Ref sig .tc := ⟨.hbm, 213, rfl⟩
abbrev main_call9_v11 : Ref sig .tc := ⟨.hbm, 214, rfl⟩
abbrev main_call9_c_0 : Ref sig .tc := ⟨.hbm, 215, rfl⟩
abbrev main_call9_v12 : Ref sig .tc := ⟨.hbm, 216, rfl⟩
abbrev main_call9_v13 : Ref sig .tc := ⟨.hbm, 217, rfl⟩
abbrev main_v24 : Ref sig .tc := ⟨.hbm, 218, rfl⟩
abbrev main_c_9 : Ref sig .tc := ⟨.hbm, 219, rfl⟩
abbrev main_call10_v0 : Ref sig .tc := ⟨.hbm, 220, rfl⟩
abbrev main_call10_c : Ref sig .tc := ⟨.hbm, 221, rfl⟩
abbrev main_call10_v1 : Ref sig .tc := ⟨.hbm, 222, rfl⟩
abbrev main_call10_c_0 : Ref sig .tc := ⟨.hbm, 223, rfl⟩
abbrev main_call10_v2 : Ref sig .tc := ⟨.hbm, 224, rfl⟩
abbrev main_call10_v3 : Ref sig .tc := ⟨.hbm, 225, rfl⟩
abbrev main_call10_v4 : Ref sig .tc := ⟨.hbm, 226, rfl⟩
abbrev main_call10_c_1 : Ref sig .tc := ⟨.hbm, 227, rfl⟩
abbrev main_call10_v5 : Ref sig .tc := ⟨.hbm, 228, rfl⟩
abbrev main_call10_v6 : Ref sig .tc := ⟨.hbm, 229, rfl⟩
abbrev main_call10_c_2 : Ref sig .tc := ⟨.hbm, 230, rfl⟩
abbrev main_call10_v7 : Ref sig .tc := ⟨.hbm, 231, rfl⟩
abbrev main_call10_v8 : Ref sig .tc := ⟨.hbm, 232, rfl⟩
abbrev main_call10_c_3 : Ref sig .tc := ⟨.hbm, 233, rfl⟩
abbrev main_call10_v9 : Ref sig .tc := ⟨.hbm, 234, rfl⟩
abbrev main_call10_v10 : Ref sig .tc := ⟨.hbm, 235, rfl⟩
abbrev main_call10_v11 : Ref sig .tc := ⟨.hbm, 236, rfl⟩
abbrev main_call10_v12 : Ref sig .tc := ⟨.hbm, 237, rfl⟩
abbrev main_call10_v13 : Ref sig .tc := ⟨.hbm, 238, rfl⟩
abbrev main_call10_v14 : Ref sig .tc := ⟨.hbm, 239, rfl⟩
abbrev main_v25 : Ref sig .tc := ⟨.hbm, 240, rfl⟩
abbrev main_v26 : Ref sig .tc := ⟨.hbm, 241, rfl⟩
abbrev main_v27 : Ref sig .tc := ⟨.hbm, 242, rfl⟩
abbrev main_v28 : Ref sig .tc := ⟨.hbm, 243, rfl⟩
abbrev main_v29 : Ref sig .tc := ⟨.hbm, 244, rfl⟩
abbrev main_c_10 : Ref sig .tc := ⟨.hbm, 245, rfl⟩
abbrev main_call11_v0 : Ref sig .tc := ⟨.hbm, 246, rfl⟩
abbrev main_call11_v1 : Ref sig .tc := ⟨.hbm, 247, rfl⟩
abbrev main_call11_v2 : Ref sig .tc := ⟨.hbm, 248, rfl⟩
abbrev main_call11_v3 : Ref sig .tc := ⟨.hbm, 249, rfl⟩
abbrev main_call11_v4 : Ref sig .tc := ⟨.hbm, 250, rfl⟩
abbrev main_call11_v5 : Ref sig .tc := ⟨.hbm, 251, rfl⟩
abbrev main_call11_v6 : Ref sig .tc := ⟨.hbm, 252, rfl⟩
abbrev main_call11_v7 : Ref sig .tc := ⟨.hbm, 253, rfl⟩
abbrev main_call11_v8 : Ref sig .tc := ⟨.hbm, 254, rfl⟩
abbrev main_call11_c : Ref sig .tc := ⟨.hbm, 255, rfl⟩
abbrev main_call11_v9 : Ref sig .tc := ⟨.hbm, 256, rfl⟩
abbrev main_call11_v10 : Ref sig .tc := ⟨.hbm, 257, rfl⟩
abbrev main_call11_v11 : Ref sig .tc := ⟨.hbm, 258, rfl⟩
abbrev main_call11_c_0 : Ref sig .tc := ⟨.hbm, 259, rfl⟩
abbrev main_call11_v12 : Ref sig .tc := ⟨.hbm, 260, rfl⟩
abbrev main_call11_v13 : Ref sig .tc := ⟨.hbm, 261, rfl⟩
abbrev main_v30 : Ref sig .tc := ⟨.hbm, 262, rfl⟩
abbrev main_v31 : Ref sig .tc := ⟨.hbm, 263, rfl⟩
abbrev main_v32 : Ref sig .tc := ⟨.hbm, 264, rfl⟩
abbrev main_v33_0 : Ref sig .tc := ⟨.hbm, 265, rfl⟩
abbrev main_v33_1 : Ref sig .tc := ⟨.hbm, 266, rfl⟩
abbrev main_v34 : Ref sig .tc := ⟨.hbm, 267, rfl⟩
abbrev main_v35 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c2_i32 : BitVec 32 := 2#32
  let v25 : BitVec 32 := Scalar.muli arg0 c2_i32
  let c48_i32 : BitVec 32 := 48#32
  let v26 : BitVec 32 := Scalar.muli v25 c48_i32
  let v27 : Index := Scalar.indexCast v26
  let c0_14 : Index := 0#32
  ![v27.toNat, 0]
def k0_cond2 (i : grid0.Coords) : BitVec 1 :=
  let arg0 : BitVec 32 := BitVec.ofNat 32 (i 0).val
  let c3_i32 : BitVec 32 := 3#32
  let v34 : BitVec 1 := Scalar.cmpi .eq arg0 c3_i32
  let v35 : BitVec 32 := Scalar.extui v34
  let c0_i32_16 : BitVec 32 := 0#32
  let v36 : BitVec 1 := Scalar.cmpi .ne v35 c0_i32_16
  v36

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_15 : BitVec 32 := 0#32
  let v33 : BitVec 1 := Scalar.cmpi .ne v32 c0_i32_15
  v33

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S6x24x16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x8x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_patches" => some ((1 / 576 : ℝ) : EReal)
  | _ => none
-- ==== ReferenceIdeal.lean ====
abbrev S8x3x384x384 : Shape := ⟨4, ![8, 3, 384, 384]⟩
abbrev S768x768 : Shape := ⟨2, ![768, 768]⟩
abbrev S8x3x24x16x24x16 : Shape := ⟨6, ![8, 3, 24, 16, 24, 16]⟩
abbrev S8x24x24x3x16x16 : Shape := ⟨6, ![8, 24, 24, 3, 16, 16]⟩
abbrev S8x576x768 : Shape := ⟨3, ![8, 576, 768]⟩
abbrev S_ : Shape := ⟨0, ![]⟩
abbrev S8x768 : Shape := ⟨2, ![8, 768]⟩
abbrev S1x8x768 : Shape := ⟨3, ![1, 8, 768]⟩
abbrev S3x8x768 : Shape := ⟨3, ![3, 8, 768]⟩
abbrev S1x576x768 : Shape := ⟨3, ![1, 576, 768]⟩
abbrev S576x768 : Shape := ⟨2, ![576, 768]⟩
abbrev S5x768 : Shape := ⟨2, ![5, 768]⟩
abbrev S576 : Shape := ⟨1, ![576]⟩
abbrev S576x1 : Shape := ⟨2, ![576, 1]⟩
abbrev S768x5 : Shape := ⟨2, ![768, 5]⟩
abbrev S576x5 : Shape := ⟨2, ![576, 5]⟩
abbrev S5 : Shape := ⟨1, ![5]⟩
abbrev S1x5 : Shape := ⟨2, ![1, 5]⟩
abbrev S5x1 : Shape := ⟨2, ![5, 1]⟩
abbrev S1x5x768 : Shape := ⟨3, ![1, 5, 768]⟩
abbrev S1x1x5x768 : Shape := ⟨4, ![1, 1, 5, 768]⟩
abbrev S3x1x5x768 : Shape := ⟨4, ![3, 1, 5, 768]⟩

abbrev nBuf : Space → Nat
  | .hbm => 220
  | .vmem => 0
  | .smem => 0
  | _ => 0

abbrev hbmTy0_0 (i : Nat) : BufTy := match i % 128 with
  | 0 => ⟨S8x3x384x384, .f32⟩
  | 1 => ⟨S768x768, .f32⟩
  | 2 => ⟨S768x768, .f32⟩
  | 3 => ⟨S768x768, .f32⟩
  | 4 => ⟨S8x3x24x16x24x16, .f32⟩
  | 5 => ⟨S8x24x24x3x16x16, .f32⟩
  | 6 => ⟨S8x576x768, .f32⟩
  | 7 => ⟨S8x576x768, .f32⟩
  | 8 => ⟨S8x576x768, .f32⟩
  | 9 => ⟨S8x576x768, .f32⟩
  | 10 => ⟨S_, .f32⟩
  | 11 => ⟨S8x768, .f32⟩
  | 12 => ⟨S_, .f32⟩
  | 13 => ⟨S8x768, .f32⟩
  | 14 => ⟨S8x768, .f32⟩
  | 15 => ⟨S_, .f32⟩
  | 16 => ⟨S8x768, .f32⟩
  | 17 => ⟨S_, .f32⟩
  | 18 => ⟨S8x768, .f32⟩
  | 19 => ⟨S8x768, .f32⟩
  | 20 => ⟨S_, .f32⟩
  | 21 => ⟨S8x768, .f32⟩
  | 22 => ⟨S_, .f32⟩
  | 23 => ⟨S8x768, .f32⟩
  | 24 => ⟨S8x768, .f32⟩
  | 25 => ⟨S1x8x768, .f32⟩
  | 26 => ⟨S1x8x768, .f32⟩
  | 27 => ⟨S1x8x768, .f32⟩
  | 28 => ⟨S3x8x768, .f32⟩
  | 29 => ⟨S1x576x768, .f32⟩
  | 30 => ⟨S576x768, .f32⟩
  | 31 => ⟨S1x576x768, .f32⟩
  | 32 => ⟨S576x768, .f32⟩
  | 33 => ⟨S1x576x768, .f32⟩
  | 34 => ⟨S576x768, .f32⟩
  | 35 => ⟨S5x768, .f32⟩
  | 36 => ⟨S5x768, .f32⟩
  | 37 => ⟨S5x768, .f32⟩
  | 38 => ⟨S_, .i32⟩
  | 39 => ⟨S_, .i32⟩
  | 40 => ⟨S576x768, .f32⟩
  | 41 => ⟨S576x768, .f32⟩
  | 42 => ⟨S576x768, .f32⟩
  | 43 => ⟨S_, .i32⟩
  | 44 => ⟨S_, .i32⟩
  | 45 => ⟨S5x768, .f32⟩
  | 46 => ⟨S5x768, .f32⟩
  | 47 => ⟨S5x768, .f32⟩
  | 48 => ⟨S_, .i32⟩
  | 49 => ⟨S_, .i1⟩
  | 50 => ⟨S_, .i32⟩
  | 51 => ⟨S_, .i32⟩
  | 52 => ⟨S576x768, .f32⟩
  | 53 => ⟨S_, .f32⟩
  | 54 => ⟨S576, .f32⟩
  | 55 => ⟨S576x1, .f32⟩
  | 56 => ⟨S768x5, .f32⟩
  | 57 => ⟨S576x5, .f32⟩
  | 58 => ⟨S_, .f32⟩
  | 59 => ⟨S576x5, .f32⟩
  | 60 => ⟨S576x5, .f32⟩
  | 61 => ⟨S576x5, .f32⟩
  | 62 => ⟨S576x5, .f32⟩
  | 63 => ⟨S5x768, .f32⟩
  | 64 => ⟨S_, .f32⟩
  | 65 => ⟨S5, .f32⟩
  | 66 => ⟨S1x5, .f32⟩
  | 67 => ⟨S576x5, .f32⟩
  | 68 => ⟨S576x5, .f32⟩
  | 69 => ⟨S576x5, .i32⟩
  | 70 => ⟨S_, .f32⟩
  | 71 => ⟨S_, .i32⟩
  | 72 => ⟨S576, .f32⟩
  | 73 => ⟨S576, .i32⟩
  | 74 => ⟨S_, .f32⟩
  | 75 => ⟨S5x768, .f32⟩
  | 76 => ⟨S_, .i32⟩
  | 77 => ⟨S576, .i32⟩
  | 78 => ⟨S576, .i1⟩
  | 79 => ⟨S_, .i32⟩
  | 80 => ⟨S576, .i32⟩
  | 81 => ⟨S576, .i32⟩
  | 82 => ⟨S576, .i32⟩
  | 83 => ⟨S576x1, .i32⟩
  | 84 => ⟨S5x768, .f32⟩
  | 85 => ⟨S_, .f32⟩
  | 86 => ⟨S5, .f32⟩
  | 87 => ⟨S_, .i32⟩
  | 88 => ⟨S576, .i32⟩
  | 89 => ⟨S576, .i1⟩
  | 90 => ⟨S_, .i32⟩
  | 91 => ⟨S576, .i32⟩
  | 92 => ⟨S576, .i32⟩
  | 93 => ⟨S576, .i32⟩
  | 94 => ⟨S576x1, .i32⟩
  | 95 => ⟨S_, .f32⟩
  | 96 => ⟨S576, .f32⟩
  | 97 => ⟨S5, .f32⟩
  | 98 => ⟨S5x1, .f32⟩
  | 99 => ⟨S_, .f32⟩
  | 100 => ⟨S_, .f32⟩
  | 101 => ⟨S5x1, .f32⟩
  | 102 => ⟨S5x1, .f32⟩
  | 103 => ⟨S5x768, .f32⟩
  | 104 => ⟨S5x768, .f32⟩
  | 105 => ⟨S576x768, .f32⟩
  | 106 => ⟨S_, .f32⟩
  | 107 => ⟨S576, .f32⟩
  | 108 => ⟨S576x1, .f32⟩
  | 109 => ⟨S768x5, .f32⟩
  | 110 => ⟨S576x5, .f32⟩
  | 111 => ⟨S_, .f32⟩
  | 112 => ⟨S576x5, .f32⟩
  | 113 => ⟨S576x5, .f32⟩
  | 114 => ⟨S576x5, .f32⟩
  | 115 => ⟨S576x5, .f32⟩
  | 116 => ⟨S5x768, .f32⟩
  | 117 => ⟨S_, .f32⟩
  | 118 => ⟨S5, .f32⟩
  | 119 => ⟨S1x5, .f32⟩
  | 120 => ⟨S576x5, .f32⟩
  | 121 => ⟨S576x5, .f32⟩
  | 122 => ⟨S576x5, .i32⟩
  | 123 => ⟨S_, .f32⟩
  | 124 => ⟨S_, .i32⟩
  | 125 => ⟨S576, .f32⟩
  | 126 => ⟨S576, .i32⟩
  | 127 => ⟨S_, .f32⟩
  | _ => ⟨S8x3x384x384, .f32⟩

abbrev hbmTy0_1 (i : Nat) : BufTy := match i % 128 with
  | 0 => ⟨S5x768, .f32⟩
  | 1 => ⟨S_, .i32⟩
  | 2 => ⟨S576, .i32⟩
  | 3 => ⟨S576, .i1⟩
  | 4 => ⟨S_, .i32⟩
  | 5 => ⟨S576, .i32⟩
  | 6 => ⟨S576, .i32⟩
  | 7 => ⟨S576, .i32⟩
  | 8 => ⟨S576x1, .i32⟩
  | 9 => ⟨S5x768, .f32⟩
  | 10 => ⟨S_, .f32⟩
  | 11 => ⟨S5, .f32⟩
  | 12 => ⟨S_, .i32⟩
  | 13 => ⟨S576, .i32⟩
  | 14 => ⟨S576, .i1⟩
  | 15 => ⟨S_, .i32⟩
  | 16 => ⟨S576, .i32⟩
  | 17 => ⟨S576, .i32⟩
  | 18 => ⟨S576, .i32⟩
  | 19 => ⟨S576x1, .i32⟩
  | 20 => ⟨S_, .f32⟩
  | 21 => ⟨S576, .f32⟩
  | 22 => ⟨S5, .f32⟩
  | 23 => ⟨S5x1, .f32⟩
  | 24 => ⟨S_, .f32⟩
  | 25 => ⟨S_, .f32⟩
  | 26 => ⟨S5x1, .f32⟩
  | 27 => ⟨S5x1, .f32⟩
  | 28 => ⟨S5x768, .f32⟩
  | 29 => ⟨S5x768, .f32⟩
  | 30 => ⟨S576x768, .f32⟩
  | 31 => ⟨S_, .f32⟩
  | 32 => ⟨S576, .f32⟩
  | 33 => ⟨S576x1, .f32⟩
  | 34 => ⟨S768x5, .f32⟩
  | 35 => ⟨S576x5, .f32⟩
  | 36 => ⟨S_, .f32⟩
  | 37 => ⟨S576x5, .f32⟩
  | 38 => ⟨S576x5, .f32⟩
  | 39 => ⟨S576x5, .f32⟩
  | 40 => ⟨S576x5, .f32⟩
  | 41 => ⟨S5x768, .f32⟩
  | 42 => ⟨S_, .f32⟩
  | 43 => ⟨S5, .f32⟩
  | 44 => ⟨S1x5, .f32⟩
  | 45 => ⟨S576x5, .f32⟩
  | 46 => ⟨S576x5, .f32⟩
  | 47 => ⟨S576x5, .i32⟩
  | 48 => ⟨S_, .f32⟩
  | 49 => ⟨S_, .i32⟩
  | 50 => ⟨S576, .f32⟩
  | 51 => ⟨S576, .i32⟩
  | 52 => ⟨S_, .f32⟩
  | 53 => ⟨S5x768, .f32⟩
  | 54 => ⟨S_, .i32⟩
  | 55 => ⟨S576, .i32⟩
  | 56 => ⟨S576, .i1⟩
  | 57 => ⟨S_, .i32⟩
  | 58 => ⟨S576, .i32⟩
  | 59 => ⟨S576, .i32⟩
  | 60 => ⟨S576, .i32⟩
  | 61 => ⟨S576x1, .i32⟩
  | 62 => ⟨S5x768, .f32⟩
  | 63 => ⟨S_, .f32⟩
  | 64 => ⟨S5, .f32⟩
  | 65 => ⟨S_, .i32⟩
  | 66 => ⟨S576, .i32⟩
  | 67 => ⟨S576, .i1⟩
  | 68 => ⟨S_, .i32⟩
  | 69 => ⟨S576, .i32⟩
  | 70 => ⟨S576, .i32⟩
  | 71 => ⟨S576, .i32⟩
  | 72 => ⟨S576x1, .i32⟩
  | 73 => ⟨S_, .f32⟩
  | 74 => ⟨S576, .f32⟩
  | 75 => ⟨S5, .f32⟩
  | 76 => ⟨S5x1, .f32⟩
  | 77 => ⟨S_, .f32⟩
  | 78 => ⟨S_, .f32⟩
  | 79 => ⟨S5x1, .f32⟩
  | 80 => ⟨S5x1, .f32⟩
  | 81 => ⟨S5x768, .f32⟩
  | 82 => ⟨S5x768, .f32⟩
  | 83 => ⟨S_, .i32⟩
  | 84 => ⟨S_, .i32⟩
  | 85 => ⟨S1x5x768, .f32⟩
  | 86 => ⟨S1x5x768, .f32⟩
  | 87 => ⟨S1x5x768, .f32⟩
  | 88 => ⟨S1x1x5x768, .f32⟩
  | 89 => ⟨S1x1x5x768, .f32⟩
  | 90 => ⟨S1x1x5x768, .f32⟩
  | 91 => ⟨S3x1x5x768, .f32⟩
  | _ => ⟨S8x3x384x384, .f32⟩

abbrev hbmTy (i : Nat) : BufTy := match i / 128 with
  | 0 => hbmTy0_0 i
  | 1 => hbmTy0_1 i
  | _ => ⟨S8x3x384x384, .f32⟩

abbrev bufTy : (tb : Table) → Fin (tcTables nBuf tb) → BufTy
  | .hbm, ⟨i, _⟩ => hbmTy i
  | _, _ => ⟨S8x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_c_5 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v28_7 : Ref sig .tc := ⟨.hbm, 47, rfl⟩
abbrev main_while0c_c_13 : Ref sig .tc := ⟨.hbm, 48, rfl⟩
abbrev main_while0c_v36 : Ref sig .tc := ⟨.hbm, 49, rfl⟩
abbrev main_while0b_c_13 : Ref sig .tc := ⟨.hbm, 50, rfl⟩
abbrev main_while0b_v36 : Ref sig .tc := ⟨.hbm, 51, rfl⟩
abbrev main_while0b_v37 : Ref sig .tc := ⟨.hbm, 52, rfl⟩
abbrev main_while0b_cst_14 : Ref sig .tc := ⟨.hbm, 53, rfl⟩
abbrev main_while0b_v38 : Ref sig .tc := ⟨.hbm, 54, rfl⟩
abbrev main_while0b_v39 : Ref sig .tc := ⟨.hbm, 55, rfl⟩
abbrev main_while0b_v40 : Ref sig .tc := ⟨.hbm, 56, rfl⟩
abbrev main_while0b_v41 : Ref sig .tc := ⟨.hbm, 57, rfl⟩
abbrev main_while0b_cst_15 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_v46 : Ref sig .tc := ⟨.hbm, 63, rfl⟩
abbrev main_while0b_cst_16 : Ref sig .tc := ⟨.hbm, 64, rfl⟩
abbrev main_while0b_v47 : Ref sig .tc := ⟨.hbm, 65, rfl⟩
abbrev main_while0b_v48 : Ref sig .tc := ⟨.hbm, 66, rfl⟩
abbrev main_while0b_v49 : Ref sig .tc := ⟨.hbm, 67, rfl⟩
abbrev main_while0b_v50 : Ref sig .tc := ⟨.hbm, 68, rfl⟩
abbrev main_while0b_call0_v0 : Ref sig .tc := ⟨.hbm, 69, rfl⟩
abbrev main_while0b_call0_cst : Ref sig .tc := ⟨.hbm, 70, rfl⟩
abbrev main_while0b_call0_c : Ref sig .tc := ⟨.hbm, 71, rfl⟩
abbrev main_while0b_call0_v1_0 : Ref sig .tc := ⟨.hbm, 72, rfl⟩
abbrev main_while0b_v51 : Ref sig .tc := ⟨.hbm, 73, rfl⟩
abbrev main_while0b_cst_17 : Ref sig .tc := ⟨.hbm, 74, rfl⟩
abbrev main_while0b_v52 : Ref sig .tc := ⟨.hbm, 75, rfl⟩
abbrev main_while0b_c_18 : Ref sig .tc := ⟨.hbm, 76, rfl⟩
abbrev main_while0b_v53 : Ref sig .tc := ⟨.hbm, 77, rfl⟩
abbrev main_while0b_v54 : Ref sig .tc := ⟨.hbm, 78, rfl⟩
abbrev main_while0b_c_19 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_cst_20 : Ref sig .tc := ⟨.hbm, 85, rfl⟩
abbrev main_while0b_v60 : Ref sig .tc := ⟨.hbm, 86, rfl⟩
abbrev main_while0b_c_21 : Ref sig .tc := ⟨.hbm, 87, rfl⟩
abbrev main_while0b_v61 : Ref sig .tc := ⟨.hbm, 88, rfl⟩
abbrev main_while0b_v62 : Ref sig .tc := ⟨.hbm, 89, rfl⟩
abbrev main_while0b_c_22 : Ref sig .tc := ⟨.hbm, 90, rfl⟩
abbrev main_while0b_v63 : Ref sig .tc := ⟨.hbm, 91, rfl⟩
abbrev main_while0b_v64 : Ref sig .tc := ⟨.hbm, 92, rfl⟩
abbrev main_while0b_v65 : Ref sig .tc := ⟨.hbm, 93, rfl⟩
abbrev main_while0b_v66 : Ref sig .tc := ⟨.hbm, 94, rfl⟩
abbrev main_while0b_cst_23 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_cst_24 : Ref sig .tc := ⟨.hbm, 99, rfl⟩
abbrev main_while0b_call1_v0 : Ref sig .tc := ⟨.hbm, 100, rfl⟩
abbrev main_while0b_call1_v1 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_cst_25 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_cst_26 : Ref sig .tc := ⟨.hbm, 111, rfl⟩
abbrev main_while0b_v78 : Ref sig .tc := ⟨.hbm, 112, rfl⟩
abbrev main_while0b_v79 : Ref sig .tc := ⟨.hbm, 113, rfl⟩
abbrev main_while0b_v80 : Ref sig .tc := ⟨.hbm, 114, rfl⟩
abbrev main_while0b_v81 : Ref sig .tc := ⟨.hbm, 115, rfl⟩
abbrev main_while0b_v82 : Ref sig .tc := ⟨.hbm, 116, rfl⟩
abbrev main_while0b_cst_27 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_call2_v0 : Ref sig .tc := ⟨.hbm, 122, rfl⟩
abbrev main_while0b_call2_cst : Ref sig .tc := ⟨.hbm, 123, rfl⟩
abbrev main_while0b_call2_c : Ref sig .tc := ⟨.hbm, 124, rfl⟩
abbrev main_while0b_call2_v1_0 : Ref sig .tc := ⟨.hbm, 125, rfl⟩
abbrev main_while0b_v87 : Ref sig .tc := ⟨.hbm, 126, rfl⟩
abbrev main_while0b_cst_28 : Ref sig .tc := ⟨.hbm, 127, rfl⟩
abbrev main_while0b_v88 : Ref sig .tc := ⟨.hbm, 128, rfl⟩
abbrev main_while0b_c_29 : Ref sig .tc := ⟨.hbm, 129, rfl⟩
abbrev main_while0b_v89 : Ref sig .tc := ⟨.hbm, 130, rfl⟩
abbrev main_while0b_v90 : Ref sig .tc := ⟨.hbm, 131, rfl⟩
abbrev main_while0b_c_30 : Ref sig .tc := ⟨.hbm, 132, rfl⟩
abbrev main_while0b_v91 : Ref sig .tc := ⟨.hbm, 133, rfl⟩
abbrev main_while0b_v92 : Ref sig .tc := ⟨.hbm, 134, rfl⟩
abbrev main_while0b_v93 : Ref sig .tc := ⟨.hbm, 135, rfl⟩
abbrev main_while0b_v94 : Ref sig .tc := ⟨.hbm, 136, rfl⟩
abbrev main_while0b_v95 : Ref sig .tc := ⟨.hbm, 137, rfl⟩
abbrev main_while0b_cst_31 : Ref sig .tc := ⟨.hbm, 138, rfl⟩
abbrev main_while0b_v96 : Ref sig .tc := ⟨.hbm, 139, rfl⟩
abbrev main_while0b_c_32 : Ref sig .tc := ⟨.hbm, 140, rfl⟩
abbrev main_while0b_v97 : Ref sig .tc := ⟨.hbm, 141, rfl⟩
abbrev main_while0b_v98 : Ref sig .tc := ⟨.hbm, 142, rfl⟩
abbrev main_while0b_c_33 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_cst_34 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_cst_35 : Ref sig .tc := ⟨.hbm, 152, rfl⟩
abbrev main_while0b_call3_v0 : Ref sig .tc := ⟨.hbm, 153, rfl⟩
abbrev main_while0b_call3_v1 : Ref sig .tc := ⟨.hbm, 154, rfl⟩
abbrev main_while0b_v106 : Ref sig .tc := ⟨.hbm, 155, rfl⟩
abbrev main_while0b_v107 : Ref sig .tc := ⟨.hbm, 156, rfl⟩
abbrev main_while0b_v108 : Ref sig .tc := ⟨.hbm, 157, rfl⟩
abbrev main_while0b_v109 : Ref sig .tc := ⟨.hbm, 158, rfl⟩
abbrev main_while0b_cst_36 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_cst_37 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_cst_38 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_v122 : Ref sig .tc := ⟨.hbm, 174, rfl⟩
abbrev main_while0b_call4_v0 : Ref sig .tc := ⟨.hbm, 175, rfl⟩
abbrev main_while0b_call4_cst : Ref sig .tc := ⟨.hbm, 176, rfl⟩
abbrev main_while0b_call4_c : Ref sig .tc := ⟨.hbm, 177, rfl⟩
abbrev main_while0b_call4_v1_0 : Ref sig .tc := ⟨.hbm, 178, rfl⟩
abbrev main_while0b_v123 : Ref sig .tc := ⟨.hbm, 179, rfl⟩
abbrev main_while0b_cst_39 : Ref sig .tc := ⟨.hbm, 180, rfl⟩
abbrev main_while0b_v124 : Ref sig .tc := ⟨.hbm, 181, rfl⟩
abbrev main_while0b_c_40 : Ref sig .tc := ⟨.hbm, 182, rfl⟩
abbrev main_while0b_v125 : Ref sig .tc := ⟨.hbm, 183, rfl⟩
abbrev main_while0b_v126 : Ref sig .tc := ⟨.hbm, 184, rfl⟩
abbrev main_while0b_c_41 : Ref sig .tc := ⟨.hbm, 185, rfl⟩
abbrev main_while0b_v127 : Ref sig .tc := ⟨.hbm, 186, rfl⟩
abbrev main_while0b_v128 : Ref sig .tc := ⟨.hbm, 187, rfl⟩
abbrev main_while0b_v129 : Ref sig .tc := ⟨.hbm, 188, rfl⟩
abbrev main_while0b_v130 : Ref sig .tc := ⟨.hbm, 189, rfl⟩
abbrev main_while0b_v131 : Ref sig .tc := ⟨.hbm, 190, rfl⟩
abbrev main_while0b_cst_42 : Ref sig .tc := ⟨.hbm, 191, rfl⟩
abbrev main_while0b_v132 : Ref sig .tc := ⟨.hbm, 192, rfl⟩
abbrev main_while0b_c_43 : Ref sig .tc := ⟨.hbm, 193, rfl⟩
abbrev main_while0b_v133 : Ref sig .tc := ⟨.hbm, 194, rfl⟩
abbrev main_while0b_v134 : Ref sig .tc := ⟨.hbm, 195, rfl⟩
abbrev main_while0b_c_44 : Ref sig .tc := ⟨.hbm, 196, rfl⟩
abbrev main_while0b_v135 : Ref sig .tc := ⟨.hbm, 197, rfl⟩
abbrev main_while0b_v136 : Ref sig .tc := ⟨.hbm, 198, rfl⟩
abbrev main_while0b_v137 : Ref sig .tc := ⟨.hbm, 199, rfl⟩
abbrev main_while0b_v138 : Ref sig .tc := ⟨.hbm, 200, rfl⟩
abbrev main_while0b_cst_45 : Ref sig .tc := ⟨.hbm, 201, rfl⟩
abbrev main_while0b_v139 : Ref sig .tc := ⟨.hbm, 202, rfl⟩
abbrev main_while0b_v140 : Ref sig .tc := ⟨.hbm, 203, rfl⟩
abbrev main_while0b_v141 : Ref sig .tc := ⟨.hbm, 204, rfl⟩
abbrev main_while0b_cst_46 : Ref sig .tc := ⟨.hbm, 205, rfl⟩
abbrev main_while0b_call5_v0 : Ref sig .tc := ⟨.hbm, 206, rfl⟩
abbrev main_while0b_call5_v1 : Ref sig .tc := ⟨.hbm, 207, rfl⟩
abbrev main_while0b_v142 : Ref sig .tc := ⟨.hbm, 208, rfl⟩
abbrev main_while0b_v143 : Ref sig .tc := ⟨.hbm, 209, rfl⟩
abbrev main_while0b_v144 : Ref sig .tc := ⟨.hbm, 210, rfl⟩
abbrev main_while0b_c_47 : Ref sig .tc := ⟨.hbm, 211, rfl⟩
abbrev main_while0b_v145 : Ref sig .tc := ⟨.hbm, 212, rfl⟩
abbrev main_v29 : Ref sig .tc := ⟨.hbm, 213, rfl⟩
abbrev main_v30 : Ref sig .tc := ⟨.hbm, 214, rfl⟩
abbrev main_v31 : Ref sig .tc := ⟨.hbm, 215, rfl⟩
abbrev main_v32 : Ref sig .tc := ⟨.hbm, 216, rfl⟩
abbrev main_v33 : Ref sig .tc := ⟨.hbm, 217, rfl⟩
abbrev main_v34 : Ref sig .tc := ⟨.hbm, 218, rfl⟩
abbrev main_v35 : Ref sig .tc := ⟨.hbm, 219, rfl⟩

abbrev nD : Nat := 1
abbrev τ : Topo := Topo.v7x

variable {F : FTy → Type} [FloatOps F]

abbrev main_while0_count : Scf.Loop 32 := ⟨0#32, 10#32, 1#32⟩
-- ==== Proof.RealSums.lean ====
/- Finite sums over the reals: an index split by quotient and remainder, sums with one selected term, and
   the reals inside the extended reals. -/
module

public import Idealize.ShloMosaic.Lib.Pointwise

@[expose] public section

namespace Cert.Sums

open scoped BigOperators

/-- A sum over `a * b` places, by blocks of `b`. -/
theorem sum_range_blocks (a b : ℕ) (f : ℕ → ℝ) :
    ∑ q ∈ Finset.range (a * b), f q = ∑ i ∈ Finset.range a, ∑ j ∈ Finset.range b, f (i * b + j) := by
  induction a with
  | zero => simp
  | succ a ih => rw [Nat.succ_mul, Finset.sum_range_add, ih, Finset.sum_range_succ]

/-- One selected term of a sum. -/
theorem sum_range_pick (n a : ℕ) (ha : a < n) (f : ℕ → ℝ) :
    ∑ i ∈ Finset.range n, (if i = a then f i else 0) = f a := by
  rw [Finset.sum_ite_eq' (Finset.range n) a f, if_pos (Finset.mem_range.mpr ha)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sub_self (a : ℝ) : (a : EReal) - (a : EReal) = 0 := by
  rw [← EReal.coe_sub, sub_self, EReal.coe_zero]

theorem coe_ite (p : Prop) [Decidable p] : (if p then (1 : EReal) else 0) = ((if p then (1 : ℝ) else 0 : ℝ) : EReal) := by
  split <;> simp

/-- The patch sum picked out by the two selectors: the slab, its row residue and its column residue. -/
theorem patch_sum (x : ℕ → ℕ → ℕ → ℕ → ℝ) (r j : ℕ) (hr : r < 96) (hj : j < 16) :
    ∑ q ∈ Finset.range 2304, (if (q / 1152 = r / 48 ∧ q % 1152 / 384 = r % 48 / 16) ∧ q % 16 = r % 16 then (1 : ℝ) else 0)
        * ∑ w ∈ Finset.range 384, x (q / 384) (q / 16 % 24) (q % 16) w * (if w % 16 = j then 1 else 0)
      = ∑ gh ∈ Finset.range 24, ∑ gw ∈ Finset.range 24, x (r / 16) gh (r % 16) (gw * 16 + j) := by
  have inner : ∀ a b c : ℕ, ∑ w ∈ Finset.range 384, x a b c w * (if w % 16 = j then 1 else 0) = ∑ gw ∈ Finset.range 24, x a b c (gw * 16 + j) := by
    intro a b c
    rw [show (384 : ℕ) = 24 * 16 from rfl, sum_range_blocks]
    refine Finset.sum_congr rfl fun gw _ => ?_
    rw [← sum_range_pick 16 j hj fun i => x a b c (gw * 16 + i)]
    refine Finset.sum_congr rfl fun i hi => ?_
    have hi' := Finset.mem_range.mp hi
    by_cases h : i = j
    · rw [if_pos h, if_pos (by omega), mul_one]
    · rw [if_neg h, if_neg (by omega), mul_zero]
  rw [Finset.sum_congr rfl fun q _ => by rw [inner]]
  rw [show (2304 : ℕ) = 6 * 384 from rfl, sum_range_blocks]
  rw [← sum_range_pick 6 (r / 16) (by omega) fun s => ∑ gh ∈ Finset.range 24, ∑ gw ∈ Finset.range 24, x s gh (r % 16) (gw * 16 + j)]
  refine Finset.sum_congr rfl fun s hs => ?_
  have hs' := Finset.mem_range.mp hs
  rw [show (384 : ℕ) = 24 * 16 from rfl, sum_range_blocks]
  by_cases h : s = r / 16
  · rw [if_pos h]
    refine Finset.sum_congr rfl fun gh hgh => ?_
    have hgh' := Finset.mem_range.mp hgh
    rw [← sum_range_pick 16 (r % 16) (Nat.mod_lt _ (by decide)) fun i => ∑ gw ∈ Finset.range 24, x s gh i (gw * 16 + j)]
    refine Finset.sum_congr rfl fun i hi => ?_
    have hi' := Finset.mem_range.mp hi
    have e1 : (s * (24 * 16) + (gh * 16 + i)) / (24 * 16) = s := by omega
    have e2 : (s * (24 * 16) + (gh * 16 + i)) / 16 % 24 = gh := by omega
    have e3 : (s * (24 * 16) + (gh * 16 + i)) % 16 = i := by omega
    rw [e1, e2, e3]
    by_cases h' : i = r % 16
    · rw [if_pos h', if_pos (by omega), one_mul]
    · rw [if_neg h', if_neg (by omega), zero_mul]
  · rw [if_neg h]
    refine Finset.sum_eq_zero fun gh hgh => Finset.sum_eq_zero fun i hi => ?_
    have hgh' := Finset.mem_range.mp hgh
    have hi' := Finset.mem_range.mp hi
    rw [if_neg (by omega), zero_mul]

/-- The entry picked out by the image selector and the mask. -/
theorem mean_pick (S : ℕ → ℕ → ℝ) (b col : ℕ) (hb : b < 8) (hc : col < 768) :
    ∑ g ∈ Finset.range 384, (if g / 48 = b then (1 : ℝ) else 0) * (S g (col % 16) * (if col / 16 = g % 48 then 1 else 0))
      = S (b * 48 + col / 16) (col % 16) := by
  rw [← sum_range_pick 384 (b * 48 + col / 16) (by omega) fun g => S g (col % 16)]
  refine Finset.sum_congr rfl fun g hg => ?_
  have hg' := Finset.mem_range.mp hg
  by_cases h : g = b * 48 + col / 16
  · rw [if_pos h, if_pos (by omega), if_pos (by omega)]; ring
  · rw [if_neg h]
    by_cases h1 : g / 48 = b
    · rw [if_neg (show ¬ col / 16 = g % 48 by omega)]; ring
    · rw [if_neg h1]; ring

/-- A product of a value split in a rounded part and its remainder, when rounding is the identity. -/
theorem split_one {ι : Type} [Fintype ι] (L X : ι → ℝ) :
    ∑ q, (L q : EReal) * (X q : EReal) + ∑ q, (L q : EReal) * ((X q : EReal) - (X q : EReal)) = ((∑ q, L q * X q : ℝ) : EReal) := by
  simp only [coe_sub_self, mul_zero, Finset.sum_const_zero, add_zero, ← EReal.coe_mul, ← coe_sum]

theorem split_one' {ι : Type} [Fintype ι] (X R : ι → ℝ) :
    ∑ w, (X w : EReal) * (R w : EReal) + ∑ w, ((X w : EReal) - (X w : EReal)) * (R w : EReal) = ((∑ w, X w * R w : ℝ) : EReal) := by
  simp only [coe_sub_self, zero_mul, Finset.sum_const_zero, add_zero, ← EReal.coe_mul, ← coe_sum]

/-- Two such products, one after the other. -/
theorem split_two {ι κ : Type} [Fintype ι] [Fintype κ] (L : ι → ℝ) (X : ι → κ → ℝ) (R : κ → ℝ) :
    ∑ q, (L q : EReal) * (∑ w, (X q w : EReal) * (R w : EReal) + ∑ w, ((X q w : EReal) - (X q w : EReal)) * (R w : EReal))
      + ∑ q, (L q : EReal) * ((∑ w, (X q w : EReal) * (R w : EReal) + ∑ w, ((X q w : EReal) - (X q w : EReal)) * (R w : EReal))
          - (∑ w, (X q w : EReal) * (R w : EReal) + ∑ w, ((X q w : EReal) - (X q w : EReal)) * (R w : EReal)))
      = ((∑ q, L q * ∑ w, X q w * R w : ℝ) : EReal) := by
  simp only [split_one']
  exact split_one L fun q => ∑ w, X q w * R w

end Cert.Sums
-- ==== Proof.Arrays.lean ====
/- Arrays of finite extended reals as real functions of natural numbers. -/
module

public import proofs.«01_k».proof.Proof.RealSums

@[expose] public section

set_option maxRecDepth 16384

noncomputable section

namespace Cert.Sums

open Idealize.ShloMosaic
open scoped BigOperators

/-- Every entry is a real number. -/
def Fin1 {s : Shape} (X : s.Idx → EReal) : Prop := ∀ i, X i = ((X i).toReal : EReal)

/-- The image as a real function. -/
def xN (x : (⟨4, ![8, 3, 384, 384]⟩ : Shape).Idx → EReal) (b c h w : ℕ) : ℝ :=
  (x (ix4 ⟨b % 8, Nat.mod_lt _ (by decide)⟩ ⟨c % 3, Nat.mod_lt _ (by decide)⟩ ⟨h % 384, Nat.mod_lt _ (by decide)⟩ ⟨w % 384, Nat.mod_lt _ (by decide)⟩)).toReal

/-- A weight matrix as a real function. -/
def wN (W : (⟨2, ![768, 768]⟩ : Shape).Idx → EReal) (k d : ℕ) : ℝ :=
  (W (ix2 ⟨k % 768, Nat.mod_lt _ (by decide)⟩ ⟨d % 768, Nat.mod_lt _ (by decide)⟩)).toReal

theorem x_at {x : (⟨4, ![8, 3, 384, 384]⟩ : Shape).Idx → EReal} (hx : Fin1 x) (b : Fin 8) (c : Fin 3) (h w : Fin 384) :
    x (ix4 b c h w) = (xN x b c h w : EReal) := by
  rw [hx (ix4 b c h w)]
  unfold xN
  simp only [Nat.mod_eq_of_lt b.isLt, Nat.mod_eq_of_lt c.isLt, Nat.mod_eq_of_lt h.isLt, Nat.mod_eq_of_lt w.isLt]

theorem w_at {W : (⟨2, ![768, 768]⟩ : Shape).Idx → EReal} (hW : Fin1 W) (k d : Fin 768) : W (ix2 k d) = (wN W k d : EReal) := by
  rw [hW (ix2 k d)]
  unfold wN
  simp only [Nat.mod_eq_of_lt k.isLt, Nat.mod_eq_of_lt d.isLt]

/-- One entry of one patch: image `b`, patch `p`, place `k` in the patch. -/
def patchN (x : (⟨4, ![8, 3, 384, 384]⟩ : Shape).Idx → EReal) (b p k : ℕ) : ℝ :=
  xN x b (k / 256) (p / 24 * 16 + k / 16 % 16) (p % 24 * 16 + k % 16)

end Cert.Sums
-- ==== Proof.Finite.lean ====
/- Under the precondition every entry of every argument is a real number. -/
module

public import proofs.«01_k».proof.Defs
public import proofs.«01_k».proof.Proof.Gen.Pre_finite_arguments
public import proofs.«01_k».proof.Proof.Arrays
public import Idealize.ShloMosaic.Lib.ReduceAll
public import Idealize.ShloMosaic.Lib.Pointwise

@[expose] public section

set_option maxRecDepth 16384

noncomputable section

namespace Cert.Both

open Cert.Sums
open Idealize.ShloMosaic Idealize.ShloMosaic.TcCoe Idealize.ShloMosaic.Tactic

/-- A comparison of absolute values with infinity that always holds. -/
theorem fin1_of_lt {s : Shape} (x : s.Idx → EReal) (B : s.Idx → EReal) (hB : ∀ i, B i = ⊤)
    (h : ∀ i, cmpf (F := Ideal) (φ := .f32) .olt (Host.absf (F := Ideal) (φ := .f32) x) B i = 1#1) : Fin1 x := by
  intro i
  have hi := h i
  change BitVec.ofBool (decide ((max (x i) (-(x i)) : EReal) < B i)) = 1#1 at hi
  rw [hB i] at hi
  have h2 : (max (x i) (-(x i)) : EReal) < ⊤ := by
    by_contra hc
    rw [decide_eq_false hc] at hi
    exact absurd hi (by decide)
  have h3 : x i ≠ ⊤ := by
    intro hx
    rw [hx] at h2
    simp at h2
  have h4 : x i ≠ ⊥ := by
    intro hx
    rw [hx] at h2
    simp at h2
  exact (EReal.coe_toReal h3 h4).symm

theorem and_one {a b : BitVec 1} (h : IntOp.andi a b = 1#1) : a = 1#1 ∧ b = 1#1 := by
  revert a b
  decide

theorem bits_inf : Ideal.ofBits .f32 0x7F800000#32 = ⊤ := by
  simp [Ideal.ofBits, Ideal.ieee]

instance : Subsingleton Pre_finite_arguments.S_.Idx := ⟨fun a b => funext fun i => i.elim0⟩

/-- Every argument is finite on every device. -/
theorem args_finite (m : (ℓ : Loc KernelIdeal.nD KernelIdeal.τ KernelIdeal.sig) → Buf (Elt Ideal) ℓ)
    (h : Pre_KernelIdeal_finite_arguments m) (c : Dev KernelIdeal.nD) :
    Fin1 (s := KernelIdeal.S8x3x384x384) (m ((c : Thread KernelIdeal.nD KernelIdeal.τ).loc KernelIdeal.main_arg0))
    ∧ Fin1 (s := KernelIdeal.S768x768) (m ((c : Thread KernelIdeal.nD KernelIdeal.τ).loc KernelIdeal.main_arg1))
    ∧ Fin1 (s := KernelIdeal.S768x768) (m ((c : Thread KernelIdeal.nD KernelIdeal.τ).loc KernelIdeal.main_arg2))
    ∧ Fin1 (s := KernelIdeal.S768x768) (m ((c : Thread KernelIdeal.nD KernelIdeal.τ).loc KernelIdeal.main_arg3)) := by
  have e := congrFun (h c) (fun i => i.elim0)
  unfold Pre_finite_arguments.fn Pre_finite_arguments.fn_part1 at e
  obtain ⟨e, e3⟩ := and_one e
  obtain ⟨e, e2⟩ := and_one e
  obtain ⟨e0, e1⟩ := and_one e
  exact ⟨fin1_of_lt _ _ (fun _ => bits_inf) (Host.reduce_andi_all _ _ _ _ _ e0),
    fin1_of_lt _ _ (fun _ => bits_inf) (Host.reduce_andi_all _ _ _ _ _ e1),
    fin1_of_lt _ _ (fun _ => bits_inf) (Host.reduce_andi_all _ _ _ _ _ e2),
    fin1_of_lt _ _ (fun _ => bits_inf) (Host.reduce_andi_all _ _ _ _ _ e3)⟩

end Cert.Both
-- ==== Proof.KFacts.lean ====
/- When the two branches of the kernel body run, and the names of its staging buffers. -/
module

public import proofs.«01_k».proof.Proof.Gen.KernelIdeal.Frame
public import proofs.«01_k».proof.Proof.Gen.KernelIdeal.Skeleton
public import Idealize.ShloMosaic.Lib.Exec

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0, an input, is live at every point. -/
theorem liveAt0_0 : ∀ t : Fin cfg0.N, cfg0.idle 0 (grid0.coords t) = false := fun _ => rfl
/-- Window 1, an input, is live at every point. -/
theorem liveAt0_1 : ∀ t : Fin cfg0.N, cfg0.idle 1 (grid0.coords t) = false := fun _ => rfl
/-- Window 2, an input, is live at every point. -/
theorem liveAt0_2 : ∀ t : Fin cfg0.N, cfg0.idle 2 (grid0.coords t) = false := fun _ => rfl
/-- Window 3, an input, is live at every point. -/
theorem liveAt0_3 : ∀ t : Fin cfg0.N, cfg0.idle 3 (grid0.coords t) = false := fun _ => rfl
/-- Window 4, an input, is live at every point. -/
theorem liveAt0_4 : ∀ t : Fin cfg0.N, cfg0.idle 4 (grid0.coords t) = false := fun _ => rfl
/-- Window 5, an input, is live at every point. -/
theorem liveAt0_5 : ∀ t : Fin cfg0.N, cfg0.idle 5 (grid0.coords t) = false := fun _ => rfl
/-- Window 6, an input, is live at every point. -/
theorem liveAt0_6 : ∀ t : Fin cfg0.N, cfg0.idle 6 (grid0.coords t) = false := fun _ => rfl
/-- Window 7, an input, is live at every point. -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6x24x16x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S384x16 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x2304 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x384 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x8x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x8x768 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S384x16 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Val

end
-- ==== Proof.KRunA.lean ====
/- The kernel body run in one of its three cases. -/
module

public import proofs.«01_k».proof.Proof.KFacts

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where its first condition holds and its second fails: what it leaves in the output blocks and in
    the scratch, as functions of what they held. -/
def runA (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : k0_cond1 i = 1#1) (hc1 : ¬ k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) :
    Σ' (O9 : Vec F S3x8x768 .f32 → Vec F S3x8x768 .f32), { O11 : Vec F S384x16 .f32 → Vec F S384x16 .f32 // ∀ (d9 d10 : Vec F S3x8x768 .f32) (d11 : Vec F S384x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d9 ∗ owns (c : Thread nD τ) arg10 fullShare d10 ∗ owns (c : Thread nD τ) arg11 fullShare d11 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (d9) ∗ owns (c : Thread nD τ) arg10 fullShare (O9 d10) ∗ owns (c : Thread nD τ) arg11 fullShare (O11 d11)) -∗ K ⟨⟩))
          ⊢ wp frame (wpE (defs₀ (F := F)) Variants.none c none) E (cc0__kfn i arg1 harg1 arg2 harg2 arg3 harg3 arg4 harg4 arg5 harg5 arg6 harg6 arg7 harg7 arg8 harg8 arg9 harg9 arg10 harg10 arg11 harg11) K } := by
  refine ⟨?_, ?_, fun d9 d10 d11 E K => ?run⟩
  case run =>
  simp only [cc0__kfn_eq_skeleton]; unfold cc0__kfn_skel
  simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; rfl
  · iexists _; isplitr; swap; · iexact H10
    ipureintro; rfl

end Cert.KernelIdeal.Val

end
-- ==== Proof.KRunB.lean ====
/- The kernel body run in one of its three cases. -/
module

public import proofs.«01_k».proof.Proof.KFacts

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where its first condition fails and its second fails: what it leaves in the output blocks and in
    the scratch, as functions of what they held. -/
def runB (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : ¬ k0_cond1 i = 1#1) (hc1 : ¬ k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) :
    { O11 : Vec F S384x16 .f32 → Vec F S384x16 .f32 // ∀ (d9 d10 : Vec F S3x8x768 .f32) (d11 : Vec F S384x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d9 ∗ owns (c : Thread nD τ) arg10 fullShare d10 ∗ owns (c : Thread nD τ) arg11 fullShare d11 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (d9) ∗ owns (c : Thread nD τ) arg10 fullShare (d10) ∗ owns (c : Thread nD τ) arg11 fullShare (O11 d11)) -∗ K ⟨⟩))
          ⊢ wp frame (wpE (defs₀ (F := F)) Variants.none c none) E (cc0__kfn i arg1 harg1 arg2 harg2 arg3 harg3 arg4 harg4 arg5 harg5 arg6 harg6 arg7 harg7 arg8 harg8 arg9 harg9 arg10 harg10 arg11 harg11) K } := by
  refine ⟨?_, fun d9 d10 d11 E K => ?run⟩
  case run =>
  simp only [cc0__kfn_eq_skeleton]; unfold cc0__kfn_skel
  simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  · iexists _; isplitr; swap; · iexact H10
    ipureintro; rfl

end Cert.KernelIdeal.Val

end
-- ==== Proof.KRunC.lean ====
/- The kernel body run in one of its three cases. -/
module

public import proofs.«01_k».proof.Proof.KFacts

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where its first condition fails and its second holds: what it leaves in the output blocks and in
    the scratch, as functions of what they held. -/
def runC (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : ¬ k0_cond1 i = 1#1) (hc1 : k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) :
    Σ' (O8 : Vec F S384x16 .f32 → Vec F S3x8x768 .f32 → Vec F S3x8x768 .f32), { O11 : Vec F S384x16 .f32 → Vec F S384x16 .f32 // ∀ (d9 d10 : Vec F S3x8x768 .f32) (d11 : Vec F S384x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d9 ∗ owns (c : Thread nD τ) arg10 fullShare d10 ∗ owns (c : Thread nD τ) arg11 fullShare d11 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (O8 d11 d9) ∗ owns (c : Thread nD τ) arg10 fullShare (d10) ∗ owns (c : Thread nD τ) arg11 fullShare (O11 d11)) -∗ K ⟨⟩))
          ⊢ wp frame (wpE (defs₀ (F := F)) Variants.none c none) E (cc0__kfn i arg1 harg1 arg2 harg2 arg3 harg3 arg4 harg4 arg5 harg5 arg6 harg6 arg7 harg7 arg8 harg8 arg9 harg9 arg10 harg10 arg11 harg11) K } := by
  refine ⟨?_, ?_, fun d9 d10 d11 E K => ?run⟩
  case run =>
  simp only [cc0__kfn_eq_skeleton]; unfold cc0__kfn_skel
  simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; rfl
  isplitl [H9]
  · iexists _; isplitr; · ipureintro; exact harg10.read_unread _
    iexact H9
  · iexists _; isplitr; swap; · iexact H10
    ipureintro; rfl

end Cert.KernelIdeal.Val

end
-- ==== Proof.KOut.lean ====
/- What the kernel body stores, told by index: the scratch rows, the centre blocks and the features. -/
module

public import proofs.«01_k».proof.Proof.KRunA
public import proofs.«01_k».proof.Proof.KRunB
public import proofs.«01_k».proof.Proof.KRunC
public import Idealize.ShloMosaic.Lib.WholeRead
public import Idealize.ShloMosaic.Lib.Writes
public import Idealize.ShloMosaic.Lib.ValueIdx
public import Idealize.ShloMosaic.Lib.ValueLayout

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-- A whole staging buffer read whole is its contents. -/
theorem readAt_whole {s : Shape} {e : EltTy} {M : Memref sig .tc .vmem s e} (hM : M.IsWhole) (X : Vec F s e) (off : Fin s.rank → ℕ)
    (h0 : ∀ a, off a = 0) (h : ∀ a, off a + s.size a ≤ s.size a) :
    View.readAt (Elt F) M.view (Rect.unit off s.size h).toLoadRect (hM.unread X) = X := by
  funext x
  refine (hM.readAt_unread X _ x).trans (congrArg X (funext fun a => Fin.ext ?_))
  show off a + 1 * (x a).val = (x a).val
  rw [h0 a]; omega

theorem zero2 : ∀ a, (![0, 0] : Fin 2 → ℕ) a = 0 := by decide
theorem zero4 : ∀ a, (![0, 0, 0, 0] : Fin 4 → ℕ) a = 0 := by decide

/-- The partial patch sums one grid point computes from its block of the image. -/
def psumPay (x0 : Vec F S6x24x16x384 .f32) (x4 : Vec F S384x16 .bf16) (x5 : Vec F S96x2304 .bf16) : FVec F S96x16 .f32 :=
  k0_pay390 x0 x4 x4 x5 x5

/-- The scratch after grid point `b`: its 96 rows replaced by what the point computes. -/
def psumStep (b : ℕ) (p : FVec F S96x16 .f32) (d : Vec F S384x16 .f32) : Vec F S384x16 .f32 := fun y =>
  if h : 96 * b ≤ (y 0).val ∧ (y 0).val < 96 * b + 96 then p (ix2 ⟨(y 0).val - 96 * b, by omega⟩ (y 1)) else d y

theorem psumStep_read {M : Memref sig .tc .vmem S384x16 .f32} (hM : M.IsWhole) (i : grid0.Coords)
    (h : ∀ a, k0_off1 i a + S96x16.size a ≤ S384x16.size a) (p : FVec F S96x16 .f32) (d : Vec F S384x16 .f32) :
    View.read (Elt F) M.view (M.view.writes (Elt F) (hM.unread d) [⟨Rect.unit (k0_off1 i) S96x16.size h, p⟩]) = psumStep (i 0).val p d := by
  have e0 : k0_off1 i 0 = 96 * (i 0).val := by rw [k0_off1_eq]; rfl
  have e1 : k0_off1 i 1 = 0 := by rw [k0_off1_eq]; rfl
  funext y
  unfold psumStep
  split
  · rename_i hy
    refine View.read_writes_cons_hit_of_coords _ _ _ _ _ _ _ fun a => ?_
    match a with
    | ⟨0, _⟩ => show (y 0).val = k0_off1 i 0 + 1 * ((y 0).val - 96 * (i 0).val); rw [e0]; omega
    | ⟨1, _⟩ => show (y 1).val = k0_off1 i 1 + 1 * (y 1).val; rw [e1]; omega
  · rename_i hy
    rw [View.read_writes_cons_miss_of_axis (y := y) (a := (0 : Fin 2)) (o := 96 * (i 0).val) (n := 96) (ho := e0) (hst := rfl) (hn := rfl)
      (h := by by_contra hh; exact hy (by omega)), View.writes_nil, hM.read_unread]

/-- Three slabs of one array, written one by one, read back. -/
theorem slabs_read {M : Memref sig .tc .vmem S3x8x768 .f32} (f : M.view.ty.Contents (Elt F))
    (h0 h1 h2) (p0 p1 p2 : FVec F S1x8x768 .f32) (e : Fin 3) (q : Fin 8) (k : Fin 768) :
    View.read (Elt F) M.view (M.view.writes (Elt F) f [⟨Rect.unit (s := S3x8x768) ![2, 0, 0] S1x8x768.size h2, p2⟩,
      ⟨Rect.unit (s := S3x8x768) ![1, 0, 0] S1x8x768.size h1, p1⟩, ⟨Rect.unit (s := S3x8x768) ![0, 0, 0] S1x8x768.size h0, p0⟩]) (ix3 e q k)
      = (match e with | 0 => p0 | 1 => p1 | 2 => p2) (ix3 0 q k) := by
  match e with
  | 0 =>
    rw [View.read_writes_cons_miss_of_axis (a := (0 : Fin 3)) (o := 2) (n := 1) (ho := rfl) (hst := rfl) (hn := rfl) (h := .inl (by show 0 < 2; omega)),
      View.read_writes_cons_miss_of_axis (a := (0 : Fin 3)) (o := 1) (n := 1) (ho := rfl) (hst := rfl) (hn := rfl) (h := .inl (by show 0 < 1; omega))]
    refine View.read_writes_cons_hit_of_coords _ _ _ _ _ _ _ fun a => ?_
    match a with
    | ⟨0, _⟩ => rfl
    | ⟨1, _⟩ => show q.val = 0 + 1 * q.val; omega
    | ⟨2, _⟩ => show k.val = 0 + 1 * k.val; omega
  | 1 =>
    rw [View.read_writes_cons_miss_of_axis (a := (0 : Fin 3)) (o := 2) (n := 1) (ho := rfl) (hst := rfl) (hn := rfl) (h := .inl (by show 1 < 2; omega))]
    refine View.read_writes_cons_hit_of_coords _ _ _ _ _ _ _ fun a => ?_
    match a with
    | ⟨0, _⟩ => rfl
    | ⟨1, _⟩ => show q.val = 0 + 1 * q.val; omega
    | ⟨2, _⟩ => show k.val = 0 + 1 * k.val; omega
  | 2 =>
    refine View.read_writes_cons_hit_of_coords _ _ _ _ _ _ _ fun a => ?_
    match a with
    | ⟨0, _⟩ => rfl
    | ⟨1, _⟩ => show q.val = 0 + 1 * q.val; omega
    | ⟨2, _⟩ => show k.val = 0 + 1 * k.val; omega

/-- One embedding's features, from the whole of the scratch. -/
def featSlab (e : Fin 3) (S : Vec F S384x16 .f32) (x1 x2 x3 : Vec F S768x768 .f32) (x6 : Vec F S384x768 .f32) (x7 : Vec F S8x384 .bf16) : FVec F S1x8x768 .f32 :=
  match e with
  | 0 => k0_pay388 S x6 x7 x7 x1
  | 1 => k0_pay389 S x6 x7 x7 x2
  | 2 => k0_pay1 (k0_pay387 S x6 x7 x7) x3

/-- The features the last grid point stores, from the whole of the scratch. -/
def featOut (S : Vec F S384x16 .f32) (x1 x2 x3 : Vec F S768x768 .f32) (x6 : Vec F S384x768 .f32) (x7 : Vec F S8x384 .bf16) : Vec F S3x8x768 .f32 :=
  fun y => featSlab (y 0) S x1 x2 x3 x6 x7 (ix3 (n0 := 1) 0 (y 1) (y 2))

/-- The 24 centres the first grid point ends with (eight rows per embedding). -/
def centres (c : Dev nD) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole)
    (x0 : Vec F S6x24x16x384 .f32) (x1 x2 x3 : Vec F S768x768 .f32) : FVec F S24x768 .f32 :=
  runA.sl.v1743 c arg1 harg1 arg2 harg2 arg3 harg3 arg4 harg4 x0 x1 x2 x3

/-- The centre blocks stored: eight rows of the 24 for each embedding. -/
def centOut (v : FVec F S24x768 .f32) : Vec F S3x8x768 .f32 := fun y => v (ix2 ⟨8 * (y 0).val + (y 1).val, by have h0 : (y 0).val < 3 := (y 0).isLt; have h1 : (y 1).val < 8 := (y 1).isLt; omega⟩ (y 2))

theorem pay391_apply (v : FVec F S8x768 .f32) (q : Fin 8) (k : Fin 768) : k0_pay391 v (ix3 0 q k) = v (ix2 q k) :=
  shapeCast_ab_1ab_apply v shapeCasts_S8x768_S1x8x768 0 q k

theorem pay392_apply (v : FVec F S24x768 .f32) (q : Fin 8) (k : Fin 768) : k0_pay392 v (ix3 0 q k) = v (ix2 ⟨8 + q.val, by omega⟩ k) :=
  (shapeCast_ab_1ab_apply _ shapeCasts_S8x768_S1x8x768 0 q k).trans
    (slice2_axis0_apply 8 v slices_S24x768_o8_0_S8x768 q k ⟨8 + q.val, by omega⟩ rfl)

theorem pay393_apply (v : FVec F S24x768 .f32) (q : Fin 8) (k : Fin 768) : k0_pay393 v (ix3 0 q k) = v (ix2 ⟨16 + q.val, by omega⟩ k) :=
  (shapeCast_ab_1ab_apply _ shapeCasts_S8x768_S1x8x768 0 q k).trans
    (slice2_axis0_apply 16 v slices_S24x768_o16_0_S8x768 q k ⟨16 + q.val, by omega⟩ rfl)

theorem runA_scratch (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : k0_cond1 i = 1#1) (hc1 : ¬ k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) (d : Vec F S384x16 .f32) :
    (runA c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 d = psumStep (i 0).val (psumPay x0 x4 x5) d := by
  refine (psumStep_read harg11 i _ _ d).trans (congrArg (fun p => psumStep (i 0).val p d) ?_)
  unfold psumPay
  congr 1
  · exact readAt_whole harg1 x0 _ zero4 _
  · exact readAt_whole harg5 x4 _ zero2 _
  · exact readAt_whole harg5 x4 _ zero2 _
  · exact readAt_whole harg6 x5 _ zero2 _
  · exact readAt_whole harg6 x5 _ zero2 _

theorem runB_scratch (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : ¬ k0_cond1 i = 1#1) (hc1 : ¬ k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) (d : Vec F S384x16 .f32) :
    (runB c i arg1 harg1 arg2 harg2 arg3 harg3 arg4 harg4 arg5 harg5 arg6 harg6 arg7 harg7 arg8 harg8 arg9 harg9 arg10 harg10 arg11 harg11 hc0 hc1 x0 x1 x2 x3 x4 x5 x6 x7).1 d = psumStep (i 0).val (psumPay x0 x4 x5) d := by
  refine (psumStep_read harg11 i _ _ d).trans (congrArg (fun p => psumStep (i 0).val p d) ?_)
  unfold psumPay
  congr 1
  · exact readAt_whole harg1 x0 _ zero4 _
  · exact readAt_whole harg5 x4 _ zero2 _
  · exact readAt_whole harg5 x4 _ zero2 _
  · exact readAt_whole harg6 x5 _ zero2 _
  · exact readAt_whole harg6 x5 _ zero2 _

theorem runC_scratch (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : ¬ k0_cond1 i = 1#1) (hc1 : k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) (d : Vec F S384x16 .f32) :
    (runC c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 d = psumStep (i 0).val (psumPay x0 x4 x5) d := by
  refine (psumStep_read harg11 i _ _ d).trans (congrArg (fun p => psumStep (i 0).val p d) ?_)
  unfold psumPay
  congr 1
  · exact readAt_whole harg1 x0 _ zero4 _
  · exact readAt_whole harg5 x4 _ zero2 _
  · exact readAt_whole harg5 x4 _ zero2 _
  · exact readAt_whole harg6 x5 _ zero2 _
  · exact readAt_whole harg6 x5 _ zero2 _

theorem runA_cent (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : k0_cond1 i = 1#1) (hc1 : ¬ k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) (d : Vec F S3x8x768 .f32) :
    (runA c i arg1 harg1 arg2 harg2 arg3 harg3 arg4 harg4 arg5 harg5 arg6 harg6 arg7 harg7 arg8 harg8 arg9 harg9 arg10 harg10 arg11 harg11 hc0 hc1 x0 x1 x2 x3 x4 x5 x6 x7).1 d = centOut (centres c arg1 harg1 arg2 harg2 arg3 harg3 arg4 harg4 x0 x1 x2 x3) := by
  funext y
  obtain ⟨e, q, k, rfl⟩ : ∃ e q k, y = ix3 e q k := ⟨_, _, _, eq_ix3 y⟩
  refine (slabs_read _ _ _ _ _ _ _ e q k).trans ?_
  unfold centOut
  match e with
  | 0 =>
    refine (pay391_apply _ q k).trans ((slice2_axis0_apply 0 _ slices_S24x768_o0_0_S8x768 q k ⟨0 + q.val, by omega⟩ rfl).trans ?_)
    exact congrArg _ (congrArg (fun r => ix2 r k) (Fin.ext (show 0 + q.val = 8 * 0 + q.val by omega)))
  | 1 => exact pay392_apply _ q k
  | 2 => exact pay393_apply _ q k

theorem runC_feat (c : Dev nD) (i : grid0.Coords) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S384x16 .bf16) (harg5 : arg5.IsWhole) (arg6 : Memref sig .tc .vmem S96x2304 .bf16) (harg6 : arg6.IsWhole) (arg7 : Memref sig .tc .vmem S384x768 .f32) (harg7 : arg7.IsWhole) (arg8 : Memref sig .tc .vmem S8x384 .bf16) (harg8 : arg8.IsWhole) (arg9 : Memref sig .tc .vmem S3x8x768 .f32) (harg9 : arg9.IsWhole) (arg10 : Memref sig .tc .vmem S3x8x768 .f32) (harg10 : arg10.IsWhole) (arg11 : Memref sig .tc .vmem S384x16 .f32) (harg11 : arg11.IsWhole) (hc0 : ¬ k0_cond1 i = 1#1) (hc1 : k0_cond2 i = 1#1)
    (x0 : Vec F S6x24x16x384 .f32) (x1 : Vec F S768x768 .f32) (x2 : Vec F S768x768 .f32) (x3 : Vec F S768x768 .f32) (x4 : Vec F S384x16 .bf16) (x5 : Vec F S96x2304 .bf16) (x6 : Vec F S384x768 .f32) (x7 : Vec F S8x384 .bf16) (d11 : Vec F S384x16 .f32) (d : Vec F S3x8x768 .f32) :
    (runC c i arg1 harg1 arg2 harg2 arg3 harg3 arg4 harg4 arg5 harg5 arg6 harg6 arg7 harg7 arg8 harg8 arg9 harg9 arg10 harg10 arg11 harg11 hc0 hc1 x0 x1 x2 x3 x4 x5 x6 x7).1 d11 d = featOut (psumStep (i 0).val (psumPay x0 x4 x5) d11) x1 x2 x3 x6 x7 := by
  have hS : View.readAt (Elt F) arg11.view (Rect.unit (s := S384x16) ![0, 0] S384x16.size inb_S384x16_S384x16_0_0).toLoadRect
      (arg11.view.writes (Elt F) (harg11.unread d11) (runC.sl.H10_1 c i arg1 harg1 arg5 harg5 arg6 harg6 x0 x4 x5))
        = psumStep (i 0).val (psumPay x0 x4 x5) d11 := by
    rw [← runC_scratch c i arg1 harg1 arg2 harg2 arg3 harg3 arg4 harg4 arg5 harg5 arg6 harg6 arg7 harg7 arg8 harg8 arg9 harg9 arg10 harg10 arg11 harg11 hc0 hc1 x0 x1 x2 x3 x4 x5 x6 x7 d11]
    funext x
    refine congrArg (View.read (Elt F) arg11.view _) (funext fun a => Fin.ext ?_)
    match a with
    | ⟨0, _⟩ => show 0 + 1 * (x 0).val = (x 0).val; omega
    | ⟨1, _⟩ => show 0 + 1 * (x 1).val = (x 1).val; omega
  funext y
  obtain ⟨e, q, k, rfl⟩ : ∃ e q k, y = ix3 e q k := ⟨_, _, _, eq_ix3 y⟩
  refine (slabs_read _ _ _ _ _ _ _ e q k).trans ?_
  unfold featOut
  match e with
  | 0 =>
    refine congrFun (?_ : k0_pay388 _ _ _ _ _ = k0_pay388 _ _ _ _ _) _
    congr 1
    · exact readAt_whole harg7 x6 _ zero2 _
    · exact readAt_whole harg8 x7 _ zero2 _
    · exact readAt_whole harg8 x7 _ zero2 _
    · exact readAt_whole harg2 x1 _ zero2 _
  | 1 =>
    refine congrFun (?_ : k0_pay389 _ _ _ _ _ = k0_pay389 _ _ _ _ _) _
    congr 1
    · exact readAt_whole harg7 x6 _ zero2 _
    · exact readAt_whole harg8 x7 _ zero2 _
    · exact readAt_whole harg8 x7 _ zero2 _
    · exact readAt_whole harg3 x2 _ zero2 _
  | 2 =>
    refine congrFun (?_ : k0_pay1 (k0_pay387 _ _ _ _) _ = k0_pay1 (k0_pay387 _ _ _ _) _) _
    congr 1
    · congr 1
      · exact readAt_whole harg7 x6 _ zero2 _
      · exact readAt_whole harg8 x7 _ zero2 _
      · exact readAt_whole harg8 x7 _ zero2 _
    · exact readAt_whole harg4 x3 _ zero2 _

end Cert.KernelIdeal.Val

end
-- ==== Proof.KFrame.lean ====
/- The run of the kernel program with the two output arrays named. -/
module

public import proofs.«01_k».proof.Proof.KOut
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The first and the last grid point. -/
abbrev tFirst : Fin cfg0.N := ⟨0, by rw [show cfg0.N = 4 from N_0]; omega⟩
abbrev tLast : Fin cfg0.N := ⟨3, by rw [show cfg0.N = 4 from N_0]; omega⟩

/-- The partial patch sums of one grid point. -/
def psumAt (c : Dev nD) (t : Fin cfg0.N) : FVec F S96x16 .f32 := psumPay (iblk m c 0 t) (iblk m c 4 t) (iblk m c 5 t)

/-- The scratch when every grid point has stored its rows. -/
def psumFull (c : Dev nD) : Vec F S384x16 .f32 := fun y =>
  psumAt m c ⟨(y 0).val / 96, by rw [show cfg0.N = 4 from N_0]; have h : (y 0).val < 384 := (y 0).isLt; omega⟩
    (ix2 ⟨(y 0).val % 96, Nat.mod_lt _ (by omega)⟩ (y 1))

/-- The rows of the grid points before `t` are in the scratch. -/
def psumOk (c : Dev nD) (t : ℕ) (d : Vec F S384x16 .f32) : Prop := ∀ y : S384x16.Idx, (y 0).val < 96 * t → d y = psumFull m c y

theorem coords_val (t : Fin cfg0.N) : (grid0.coords t 0).val = t.val := by
  have ht : t.val < 4 := Nat.lt_of_lt_of_eq t.isLt N_0
  have e0 : (grid0.coords t 0).val = t.val / 1 % 4 := Pipeline.Grid.coords_val t 0 (by decide) rfl
  omega

theorem psumOk_step (c : Dev nD) (t : Fin cfg0.N) (d : Vec F S384x16 .f32) (h : psumOk m c t.val d) :
    psumOk m c (t.val + 1) (psumStep (grid0.coords t 0).val (psumAt m c t) d) := by
  rw [coords_val]
  intro y hy
  unfold psumStep
  split
  · rename_i hr
    unfold psumFull
    have e1 : (y 0).val / 96 = t.val := by omega
    have e2 : (y 0).val % 96 = (y 0).val - 96 * t.val := by omega
    congr 1
    · congr 1; exact Fin.ext e1.symm
    · exact congrArg (fun r => ix2 r (y 1)) (Fin.ext e2.symm)
  · rename_i hr
    exact h y (by omega)

theorem psumOk_last (c : Dev nD) (d : Vec F S384x16 .f32) (h : psumOk m c 4 d) : d = psumFull m c :=
  funext fun y => h y (by have hy : (y 0).val < 384 := (y 0).isLt; omega)

/-- The centres the first grid point stores, and the features the last one stores. -/
def centAt (c : Dev nD) : Vec F S3x8x768 .f32 :=
  centOut (centres c (ms0_0 tFirst) (hs0_0 tFirst) (ms0_1 tFirst) (hs0_1 tFirst) (ms0_2 tFirst) (hs0_2 tFirst) (ms0_3 tFirst) (hs0_3 tFirst)
    (iblk m c 0 tFirst) (iblk m c 1 tFirst) (iblk m c 2 tFirst) (iblk m c 3 tFirst))

def featAt (c : Dev nD) : Vec F S3x8x768 .f32 :=
  featOut (psumFull m c) (iblk m c 1 tLast) (iblk m c 2 tLast) (iblk m c 3 tLast) (iblk m c 6 tLast) (iblk m c 7 tLast)

/-- The proof data: inputs at their blocks, the features and the centres in the two outputs, the scratch rows so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => featAt m c
    | ⟨9, _⟩ => centAt m c
  Φ t := iprop((∃ d, ⌜psumOk m c t.val d⌝ ∗ owns (c : Thread nD τ) scM0_0 fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = featAt m c := by dsimp only [dats]
theorem after0_9 (c : Dev nD) (t : Fin cfg0.N) : (dats m 0 c).after 9 t = centAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Where the outputs are idle: the features before the last point, the centres after the first. -/
theorem idle0_8 (t : Fin cfg0.N) (h : t.val ≠ 3) : cfg0.idle 8 (grid0.coords t) = true := by
  have ht : t.val < 4 := Nat.lt_of_lt_of_eq t.isLt N_0
  have hn : ¬ k0_cond2 (grid0.coords t) = 1#1 := fun h' => by have := (hcond0_1 t).mp h'; omega
  show (!(k0_cond2 (grid0.coords t) == 1#1)) = true
  simp [hn]
theorem live0_8 (t : Fin cfg0.N) (h : t.val = 3) : cfg0.idle 8 (grid0.coords t) = false := by
  have hn : k0_cond2 (grid0.coords t) = 1#1 := (hcond0_1 t).mpr (by omega)
  show (!(k0_cond2 (grid0.coords t) == 1#1)) = false
  simp [hn]
theorem idle0_9 (t : Fin cfg0.N) (h : t.val ≠ 0) : cfg0.idle 9 (grid0.coords t) = true := by
  have ht : t.val < 4 := Nat.lt_of_lt_of_eq t.isLt N_0
  have hn : ¬ k0_cond1 (grid0.coords t) = 1#1 := fun h' => by have := (hcond0_0 t).mp h'; omega
  show (!(k0_cond1 (grid0.coords t) == 1#1)) = true
  simp [hn]
theorem live0_9 (t : Fin cfg0.N) (h : t.val = 0) : cfg0.idle 9 (grid0.coords t) = false := by
  have hn : k0_cond1 (grid0.coords t) = 1#1 := (hcond0_0 t).mpr (by omega)
  show (!(k0_cond1 (grid0.coords t) == 1#1)) = false
  simp [hn]

theorem noflush0_8 (t : Fin cfg0.N) (h : t.val ≠ 3) : (cfg0.win 8).flush t = false := by
  have ht : t.val < 4 := Nat.lt_of_lt_of_eq t.isLt N_0
  exact Bool.eq_false_iff.mpr fun h' => by have := (flush0_8 t).mp h'; omega
theorem noflush0_9 (t : Fin cfg0.N) (h : t.val ≠ 3) : (cfg0.win 9).flush t = false := by
  have ht : t.val < 4 := Nat.lt_of_lt_of_eq t.isLt N_0
  exact Bool.eq_false_iff.mpr fun h' => by have := (flush0_9 t).mp h'; omega

/-- After the first point the centres' buffer holds the centres. -/
theorem before0_9 (c : Dev nD) (n : ℕ) : ∀ (t : Fin cfg0.N), t.val = n + 1 → ∀ d, (dats m 0 c).before 9 t d = centAt m c := by
  induction n with
  | zero =>
    intro t h d
    have ht : t.val < 4 := Nat.lt_of_lt_of_eq t.isLt N_0
    rw [(dats m 0 c).before_of_pos 9 t (by omega) ((cfg0.win 9).fetch_out rfl t), noflush0_9 _ (by show t.val - 1 ≠ 3; omega), if_neg Bool.false_ne_true]
    unfold Dat.left
    rw [live0_9 _ (by show t.val - 1 = 0; omega)]
    unfold Dat.kept
    rw [Pipeline.fill_of_clip_none (cfg := cfg0) 9 _ (fun _ => rfl) d ((dats m 0 c).after 9 _), Pipeline.Window.fill_cut, after0_9]
  | succ n ih =>
    intro t h d
    have ht : t.val < 4 := Nat.lt_of_lt_of_eq t.isLt N_0
    rw [(dats m 0 c).before_of_pos 9 t (by omega) ((cfg0.win 9).fetch_out rfl t), noflush0_9 _ (by show t.val - 1 ≠ 3; omega), if_neg Bool.false_ne_true]
    unfold Dat.left
    rw [idle0_9 _ (by show t.val - 1 ≠ 0; omega)]
    exact ih _ (by show t.val - 1 = n + 1; omega) d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_idle8 (c : Dev nD) (t : Fin cfg0.N) (h : t.val ≠ 3) :
    (dats m 0 c).leavesExact 8 t = iprop(∃ d, owns (c : Thread nD τ) (ms0_8 t) fullShare ((dats m 0 c).before 8 t d)) :=
  (dats m 0 c).leavesExact_idle 8 t (idle0_8 t h) (noflush0_8 t h)
theorem leaves_live8 (c : Dev nD) (t : Fin cfg0.N) (h : t.val = 3) :
    (dats m 0 c).leavesExact 8 t = owns (c : Thread nD τ) (ms0_8 t) fullShare (featAt m c) := by
  unfold Dat.leavesExact; rw [live0_8 t h, after0_8]
theorem leaves_live9 (c : Dev nD) (t : Fin cfg0.N) (h : t.val = 0) :
    (dats m 0 c).leavesExact 9 t = owns (c : Thread nD τ) (ms0_9 t) fullShare (centAt m c) := by
  unfold Dat.leavesExact; rw [live0_9 t h, after0_9]
theorem leaves_idle9 (c : Dev nD) (t : Fin cfg0.N) (h : t.val ≠ 0) (h3 : t.val ≠ 3) :
    (dats m 0 c).leavesExact 9 t = iprop(∃ d, owns (c : Thread nD τ) (ms0_9 t) fullShare ((dats m 0 c).before 9 t d)) :=
  (dats m 0 c).leavesExact_idle 9 t (idle0_9 t h) (noflush0_9 t h3)
theorem leaves_last9 (c : Dev nD) (t : Fin cfg0.N) (h : t.val = 3) :
    (dats m 0 c).leavesExact 9 t = owns (c : Thread nD τ) (ms0_9 t) fullShare (centAt m c) := by
  unfold Dat.leavesExact; rw [idle0_9 t (by omega), (flush0_9 t).mpr (by omega), after0_9]

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]
theorem leaves_in5 (c : Dev nD) (t : Fin cfg0.N) : (dats m 0 c).leavesExact 5 t = owns (c : Thread nD τ) (ms0_5 t) fullShare (iblk m c 5 t) := by
  unfold Dat.leavesExact; rw [liveAt0_5 t, after0_5]
theorem leaves_in6 (c : Dev nD) (t : Fin cfg0.N) : (dats m 0 c).leavesExact 6 t = owns (c : Thread nD τ) (ms0_6 t) fullShare (iblk m c 6 t) := by
  unfold Dat.leavesExact; rw [liveAt0_6 t, after0_6]
theorem leaves_in7 (c : Dev nD) (t : Fin cfg0.N) : (dats m 0 c).leavesExact 7 t = owns (c : Thread nD τ) (ms0_7 t) fullShare (iblk m c 7 t) := by
  unfold Dat.leavesExact; rw [liveAt0_7 t, after0_7]

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves_in0, leaves_in1, leaves_in2, leaves_in3, leaves_in4, leaves_in5, leaves_in6, leaves_in7]
  rw [show (dats m 0 c).owesAt () t.succ = (dats m 0 c).owesAt () t.castSucc from rfl]
  rw [show (dats m 0 c).Φ t.castSucc = iprop((∃ d, ⌜psumOk m c t.val d⌝ ∗ owns (c : Thread nD τ) scM0_0 fullShare d) ∗ (∃ r, prngReg c r)) from rfl,
    show (dats m 0 c).Φ t.succ = iprop((∃ d, ⌜psumOk m c (t.val + 1) d⌝ ∗ owns (c : Thread nD τ) scM0_0 fullShare d) ∗ (∃ r, prngReg c r)) from rfl]
  have hN : t.val < 4 := lt_of_lt_of_eq t.isLt (show cfg0.N = 4 from N_0)
  by_cases h0 : t.val % 4 = 0
  · have h1 : ¬ t.val % 4 = 3 := by omega
    rw [leaves_idle8 m c t (by omega), leaves_live9 m c t (by omega)]
    iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA (F := F) c (grid0.coords t) _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ _ ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexists _; isplitr; swap; · iexact HS
        ipureintro
        rw [runA_scratch]
        exact psumOk_step m c t ds hds
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    rw [runA_cent]
    obtain rfl : t = tFirst := Fin.ext (show t.val = 0 by omega)
    iexact H9
  · by_cases h1 : t.val % 4 = 3
    ·
      rw [leaves_live8 m c t (by omega), leaves_last9 m c t (by omega)]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC (F := F) c (grid0.coords t) _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)).2.2 _ _ ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]
        · iexists _; isplitr; swap; · iexact HS
          ipureintro
          rw [runC_scratch]
          exact psumOk_step m c t ds hds
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · rw [runC_feat]
        have hfull : psumStep (grid0.coords t 0).val (psumPay (iblk m c 0 t) (iblk m c 4 t) (iblk m c 5 t)) ds = psumFull m c :=
          psumOk_last m c _ (by have := psumOk_step m c t ds hds; rw [show t.val + 1 = 4 by omega] at this; exact this)
        rw [hfull]
        obtain rfl : t = tLast := Fin.ext (show t.val = 3 by omega)
        iexact H8
      rw [before0_9 m c 2 t (by omega) d9]
      iexact H9
    ·
      rw [leaves_idle8 m c t (by omega), leaves_idle9 m c t (by omega) (by omega)]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB (F := F) c (grid0.coords t) _ (hs0_0 t) _ (hs0_1 t) _ (hs0_2 t) _ (hs0_3 t) _ (hs0_4 t) _ (hs0_5 t) _ (hs0_6 t) _ (hs0_7 t) _ (hs0_8 t) _ (hs0_9 t) _ (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t)).2 _ _ ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]
        · iexists _; isplitr; swap; · iexact HS
          ipureintro
          rw [runB_scratch]
          exact psumOk_step m c t ds hds
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      iexists d9; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ (dats m 0 c).Φ 0 := by
  rw [PhiA0_eq, show (dats m 0 c).Φ 0 = iprop((∃ d, ⌜psumOk m c 0 d⌝ ∗ owns (c : Thread nD τ) scM0_0 fullShare d) ∗ (∃ r, prngReg c r)) from rfl]
  iintro ⟨⟨%d, HS⟩, Hg⟩
  isplitl [HS]
  · iexists d; isplitr; swap; · iexact HS
    ipureintro
    intro y hy; omega
  iexact Hg

theorem phi_out (c : Dev nD) : (dats m 0 c).Φ (Fin.last cfg0.N) ⊢ Pipeline.ΦA spec0 c := by
  rw [PhiA0_eq, show (dats m 0 c).Φ (Fin.last cfg0.N) = iprop((∃ d, ⌜psumOk m c cfg0.N d⌝ ∗ owns (c : Thread nD τ) scM0_0 fullShare d) ∗ (∃ r, prngReg c r)) from rfl]
  iintro ⟨⟨%d, -, HS⟩, Hg⟩
  isplitl [HS]
  · iexists d; iexact HS
  iexact Hg

set_option backward.isDefEq.respectTransparency.types false in
set_option maxHeartbeats 800000 in
/-- The run of the whole program: every array as the proof data leave it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The arguments end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Val

end
-- ==== Proof.KHost.lean ====
/- What the kernel's constant arrays and its re-laid argument hold when the call starts. -/
module

public import proofs.«01_k».proof.Proof.KFrame
public import Idealize.ShloMosaic.Lib.StableHlo.RunRead
public import Idealize.ShloMosaic.Lib.Pointwise
public import Idealize.ShloMosaic.Lib.Routing.Words

@[expose] public section

set_option maxRecDepth 16384

noncomputable section

namespace Cert.KernelIdeal.Val

open Cert.KernelIdeal.Gen
open Idealize.ShloMosaic Idealize.ShloMosaic.TcCoe Idealize.ShloMosaic.Tactic
open Idealize.ShloMosaic.ValueIdx Idealize.ShloMosaic.Routing Idealize.ShloMosaic.WordCmp

/-- A comparison for equality of two small words, as a bit. -/
theorem eq_bit {a b : ℕ} (ha : a < 2 ^ 31) (hb : b < 2 ^ 31) :
    IntOp.cmpi .eq (BitVec.ofNat 32 a) (BitVec.ofNat 32 b) = BitVec.ofBool (decide (a = b)) :=
  cmpi_eq_ofNat (w := 32) (by omega) (by omega)

/-- A bit as a number: one where the proposition holds, zero elsewhere. -/
theorem bit_val (φ : FTy) (p : Prop) [Decidable p] :
    (FloatOps.uitofp φ (BitVec.ofBool (decide p)) : Ideal φ) = if p then (1 : EReal) else 0 := by
  by_cases h : p
  · simp only [h, decide_true, if_true]
    show (((1#1 : BitVec 1).toNat : ℝ) : EReal) = 1
    norm_num
  · simp only [h, decide_false, if_false]
    show (((0#1 : BitVec 1).toNat : ℝ) : EReal) = 0
    norm_num

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

variable (m : (ℓ : Loc nD τ sig) → Buf (Elt Ideal) ℓ)

/-- The image argument, its rows regrouped. -/
theorem V_v0 (c : Dev nD) : @Eq (S24x24x16x384.Idx → EReal) (V0 m c (Proc.devRef .tc main_v0)) (shapeCast S24x24x16x384 (m ((c : Thread nD τ).loc main_arg0)) shapeCasts_S8x3x384x384_S24x24x16x384) := by
  unfold V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  after_reads_simp
  rfl

/-- The column selector, as computed. -/
theorem V_v5 (c : Dev nD) : @Eq (S384x16.Idx → EReal) (V0 m c (Proc.devRef .tc main_v5)) (uitofp (F := Ideal) .bf16 (cmpi .eq (pyRem bcast_S_S384x16 (iotaInDim S384x16 32 0) (constantI S_ 32 16#32)) (iotaInDim S384x16 32 1))) := by
  unfold V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  after_reads_simp
  simp only [StableHlo.TRef.ofBuf, StableHlo.TRef.toBuf, cast_eq, id]; rfl

/-- The row selector, as computed. -/
theorem V_v21 (c : Dev nD) : @Eq (S96x2304.Idx → EReal) (V0 m c (Proc.devRef .tc main_v21)) (uitofp (F := Ideal) .bf16 (andi (andi (cmpi .eq (pyDiv bcast_S_S96x2304 (iotaInDim S96x2304 32 1) (constantI S_ 32 1152#32)) (pyDiv bcast_S_S96x2304 (iotaInDim S96x2304 32 0) (constantI S_ 32 48#32))) (cmpi .eq (pyDiv bcast_S_S96x2304 (pyRem bcast_S_S96x2304 (iotaInDim S96x2304 32 1) (constantI S_ 32 1152#32)) (constantI S_ 32 384#32)) (pyDiv bcast_S_S96x2304 (pyRem bcast_S_S96x2304 (iotaInDim S96x2304 32 0) (constantI S_ 32 48#32)) (constantI S_ 32 16#32)))) (cmpi .eq (pyRem bcast_S_S96x2304 (iotaInDim S96x2304 32 1) (constantI S_ 32 16#32)) (pyRem bcast_S_S96x2304 (iotaInDim S96x2304 32 0) (constantI S_ 32 16#32))))) := by
  unfold V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  after_reads_simp
  simp only [StableHlo.TRef.ofBuf, StableHlo.TRef.toBuf, cast_eq, id]; rfl

/-- The mask of the patch columns, as computed. -/
theorem V_v27 (c : Dev nD) : @Eq (S384x768.Idx → EReal) (V0 m c (Proc.devRef .tc main_v27)) (uitofp (F := Ideal) .f32 (cmpi .eq (pyDiv bcast_S_S384x768 (iotaInDim S384x768 32 1) (constantI S_ 32 16#32)) (pyRem bcast_S_S384x768 (iotaInDim S384x768 32 0) (constantI S_ 32 48#32)))) := by
  unfold V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  after_reads_simp
  simp only [StableHlo.TRef.ofBuf, StableHlo.TRef.toBuf, cast_eq, id]; rfl

/-- The image selector, as computed. -/
theorem V_v32 (c : Dev nD) : @Eq (S8x384.Idx → EReal) (V0 m c (Proc.devRef .tc main_v32)) (uitofp (F := Ideal) .bf16 (cmpi .eq (pyDiv bcast_S_S8x384 (iotaInDim S8x384 32 1) (constantI S_ 32 48#32)) (iotaInDim S8x384 32 0))) := by
  unfold V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  after_reads_simp
  simp only [StableHlo.TRef.ofBuf, StableHlo.TRef.toBuf, cast_eq, id]; rfl

theorem Rm_at (c : Dev nD) (i : Fin 384) (j : Fin 16) :
    @Eq EReal ((V0 m c (Proc.devRef .tc main_v5) : S384x16.Idx → EReal) (ValueIdx.ix2 i j)) (if i.val % 16 = j.val then 1 else 0) := by
  have hi := i.isLt
  have hj := j.isLt
  rw [V_v5]
  have h1 : pyRem bcast_S_S384x16 (iotaInDim S384x16 32 0) (constantI S_ 32 16#32) (ValueIdx.ix2 i j) = BitVec.ofNat 32 (i.val % 16) :=
    pyRem_ap _ _ _ _ rfl rfl (by omega) (by decide) (by decide)
  show (FloatOps.uitofp .bf16 (IntOp.cmpi .eq (pyRem bcast_S_S384x16 (iotaInDim S384x16 32 0) (constantI S_ 32 16#32) (ValueIdx.ix2 i j)) (BitVec.ofNat 32 j.val)) : Ideal .bf16) = _
  rw [h1, eq_bit (by omega) (by omega), bit_val]

theorem Lm_at (c : Dev nD) (i : Fin 96) (j : Fin 2304) :
    @Eq EReal ((V0 m c (Proc.devRef .tc main_v21) : S96x2304.Idx → EReal) (ValueIdx.ix2 i j)) (if (j.val / 1152 = i.val / 48 ∧ j.val % 1152 / 384 = i.val % 48 / 16) ∧ j.val % 16 = i.val % 16 then 1 else 0) := by
  have hi := i.isLt
  have hj := j.isLt
  rw [V_v21]
  have h1 : pyDiv bcast_S_S96x2304 (iotaInDim S96x2304 32 1) (constantI S_ 32 1152#32) (ValueIdx.ix2 i j) = BitVec.ofNat 32 (j.val / 1152) :=
    pyDiv_ap _ _ _ _ rfl rfl (by omega) (by decide) (by decide)
  have h2 : pyDiv bcast_S_S96x2304 (iotaInDim S96x2304 32 0) (constantI S_ 32 48#32) (ValueIdx.ix2 i j) = BitVec.ofNat 32 (i.val / 48) :=
    pyDiv_ap _ _ _ _ rfl rfl (by omega) (by decide) (by decide)
  have h3 : pyRem bcast_S_S96x2304 (iotaInDim S96x2304 32 1) (constantI S_ 32 1152#32) (ValueIdx.ix2 i j) = BitVec.ofNat 32 (j.val % 1152) :=
    pyRem_ap _ _ _ _ rfl rfl (by omega) (by decide) (by decide)
  have h4 : pyDiv bcast_S_S96x2304 (pyRem bcast_S_S96x2304 (iotaInDim S96x2304 32 1) (constantI S_ 32 1152#32)) (constantI S_ 32 384#32) (ValueIdx.ix2 i j) = BitVec.ofNat 32 (j.val % 1152 / 384) :=
    pyDiv_ap _ _ _ _ h3 rfl (by omega) (by decide) (by decide)
  have h5 : pyRem bcast_S_S96x2304 (iotaInDim S96x2304 32 0) (constantI S_ 32 48#32) (ValueIdx.ix2 i j) = BitVec.ofNat 32 (i.val % 48) :=
    pyRem_ap _ _ _ _ rfl rfl (by omega) (by decide) (by decide)
  have h6 : pyDiv bcast_S_S96x2304 (pyRem bcast_S_S96x2304 (iotaInDim S96x2304 32 0) (constantI S_ 32 48#32)) (constantI S_ 32 16#32) (ValueIdx.ix2 i j) = BitVec.ofNat 32 (i.val % 48 / 16) :=
    pyDiv_ap _ _ _ _ h5 rfl (by omega) (by decide) (by decide)
  have h7 : pyRem bcast_S_S96x2304 (iotaInDim S96x2304 32 1) (constantI S_ 32 16#32) (ValueIdx.ix2 i j) = BitVec.ofNat 32 (j.val % 16) :=
    pyRem_ap _ _ _ _ rfl rfl (by omega) (by decide) (by decide)
  have h8 : pyRem bcast_S_S96x2304 (iotaInDim S96x2304 32 0) (constantI S_ 32 16#32) (ValueIdx.ix2 i j) = BitVec.ofNat 32 (i.val % 16) :=
    pyRem_ap _ _ _ _ rfl rfl (by omega) (by decide) (by decide)
  show (FloatOps.uitofp .bf16 (IntOp.andi (IntOp.andi (IntOp.cmpi .eq ((pyDiv bcast_S_S96x2304 (iotaInDim S96x2304 32 1) (constantI S_ 32 1152#32)) (ValueIdx.ix2 i j)) ((pyDiv bcast_S_S96x2304 (iotaInDim S96x2304 32 0) (constantI S_ 32 48#32)) (ValueIdx.ix2 i j))) (IntOp.cmpi .eq ((pyDiv bcast_S_S96x2304 (pyRem bcast_S_S96x2304 (iotaInDim S96x2304 32 1) (constantI S_ 32 1152#32)) (constantI S_ 32 384#32)) (ValueIdx.ix2 i j)) ((pyDiv bcast_S_S96x2304 (pyRem bcast_S_S96x2304 (iotaInDim S96x2304 32 0) (constantI S_ 32 48#32)) (constantI S_ 32 16#32)) (ValueIdx.ix2 i j)))) (IntOp.cmpi .eq ((pyRem bcast_S_S96x2304 (iotaInDim S96x2304 32 1) (constantI S_ 32 16#32)) (ValueIdx.ix2 i j)) ((pyRem bcast_S_S96x2304 (iotaInDim S96x2304 32 0) (constantI S_ 32 16#32)) (ValueIdx.ix2 i j)))) : Ideal .bf16) = _
  rw [h1, h2, h4, h6, h7, h8, eq_bit (by omega) (by omega), eq_bit (by omega) (by omega), eq_bit (by omega) (by omega), and_bit, and_bit, bit_val]

theorem Mm_at (c : Dev nD) (i : Fin 384) (j : Fin 768) :
    @Eq EReal ((V0 m c (Proc.devRef .tc main_v27) : S384x768.Idx → EReal) (ValueIdx.ix2 i j)) (if j.val / 16 = i.val % 48 then 1 else 0) := by
  have hi := i.isLt
  have hj := j.isLt
  rw [V_v27]
  have h1 : pyDiv bcast_S_S384x768 (iotaInDim S384x768 32 1) (constantI S_ 32 16#32) (ValueIdx.ix2 i j) = BitVec.ofNat 32 (j.val / 16) :=
    pyDiv_ap _ _ _ _ rfl rfl (by omega) (by decide) (by decide)
  have h2 : pyRem bcast_S_S384x768 (iotaInDim S384x768 32 0) (constantI S_ 32 48#32) (ValueIdx.ix2 i j) = BitVec.ofNat 32 (i.val % 48) :=
    pyRem_ap _ _ _ _ rfl rfl (by omega) (by decide) (by decide)
  show (FloatOps.uitofp .f32 (IntOp.cmpi .eq ((pyDiv bcast_S_S384x768 (iotaInDim S384x768 32 1) (constantI S_ 32 16#32)) (ValueIdx.ix2 i j)) ((pyRem bcast_S_S384x768 (iotaInDim S384x768 32 0) (constantI S_ 32 48#32)) (ValueIdx.ix2 i j))) : Ideal .f32) = _
  rw [h1, h2, eq_bit (by omega) (by omega), bit_val]

theorem Sel_at (c : Dev nD) (i : Fin 8) (j : Fin 384) :
    @Eq EReal ((V0 m c (Proc.devRef .tc main_v32) : S8x384.Idx → EReal) (ValueIdx.ix2 i j)) (if j.val / 48 = i.val then 1 else 0) := by
  have hi := i.isLt
  have hj := j.isLt
  rw [V_v32]
  have h1 : pyDiv bcast_S_S8x384 (iotaInDim S8x384 32 1) (constantI S_ 32 48#32) (ValueIdx.ix2 i j) = BitVec.ofNat 32 (j.val / 48) :=
    pyDiv_ap _ _ _ _ rfl rfl (by omega) (by decide) (by decide)
  show (FloatOps.uitofp .bf16 (IntOp.cmpi .eq ((pyDiv bcast_S_S8x384 (iotaInDim S8x384 32 1) (constantI S_ 32 48#32)) (ValueIdx.ix2 i j)) (BitVec.ofNat 32 i.val)) : Ideal .bf16) = _
  rw [h1, eq_bit (by omega) (by omega), bit_val]

end Cert.KernelIdeal.Val
-- ==== Proof.KBlk.lean ====
/- What each block handed to the kernel body holds. -/
module

public import proofs.«01_k».proof.Proof.KHost
public import Idealize.ShloMosaic.Lib.Pipeline.ValueKit.Point

@[expose] public section

set_option maxRecDepth 16384

noncomputable section

namespace Cert.KernelIdeal.Val

open Cert.KernelIdeal.Gen
open Idealize.ShloMosaic Idealize.ShloMosaic.TcCoe Idealize.ShloMosaic.Tactic

variable (m : (ℓ : Loc nD τ sig) → Buf (Elt Ideal) ℓ)

/-- Window 1 hands over the whole weight matrix. -/
theorem iblk1 (c : Dev nD) (t : Fin cfg0.N) :
    @Eq (S768x768.Idx → EReal) (iblk m c 1 t) (m ((c : Thread nD τ).loc main_arg1)) := by
  rw [← V_main_arg1 m c]
  have idx : ∀ t, win0_1.index t = ![0, 0] := by decide
  funext y
  blk_ext [iblk, idx t]

/-- Window 2 hands over the whole weight matrix. -/
theorem iblk2 (c : Dev nD) (t : Fin cfg0.N) :
    @Eq (S768x768.Idx → EReal) (iblk m c 2 t) (m ((c : Thread nD τ).loc main_arg2)) := by
  rw [← V_main_arg2 m c]
  have idx : ∀ t, win0_2.index t = ![0, 0] := by decide
  funext y
  blk_ext [iblk, idx t]

/-- Window 3 hands over the whole weight matrix. -/
theorem iblk3 (c : Dev nD) (t : Fin cfg0.N) :
    @Eq (S768x768.Idx → EReal) (iblk m c 3 t) (m ((c : Thread nD τ).loc main_arg3)) := by
  rw [← V_main_arg3 m c]
  have idx : ∀ t, win0_3.index t = ![0, 0] := by decide
  funext y
  blk_ext [iblk, idx t]

/-- Window 4 hands over a whole constant array. -/
theorem iblk4 (c : Dev nD) (t : Fin cfg0.N) :
    @Eq (S384x16.Idx → EReal) (iblk m c 4 t) (V0 m c (Proc.devRef .tc main_v5)) := by
  have idx : ∀ t, win0_4.index t = ![0, 0] := by decide
  funext y
  blk_ext [iblk, idx t]

/-- Window 5 hands over a whole constant array. -/
theorem iblk5 (c : Dev nD) (t : Fin cfg0.N) :
    @Eq (S96x2304.Idx → EReal) (iblk m c 5 t) (V0 m c (Proc.devRef .tc main_v21)) := by
  have idx : ∀ t, win0_5.index t = ![0, 0] := by decide
  funext y
  blk_ext [iblk, idx t]

/-- Window 6 hands over a whole constant array. -/
theorem iblk6 (c : Dev nD) (t : Fin cfg0.N) :
    @Eq (S384x768.Idx → EReal) (iblk m c 6 t) (V0 m c (Proc.devRef .tc main_v27)) := by
  have idx : ∀ t, win0_6.index t = ![0, 0] := by decide
  funext y
  blk_ext [iblk, idx t]

/-- Window 7 hands over a whole constant array. -/
theorem iblk7 (c : Dev nD) (t : Fin cfg0.N) :
    @Eq (S8x384.Idx → EReal) (iblk m c 7 t) (V0 m c (Proc.devRef .tc main_v32)) := by
  have idx : ∀ t, win0_7.index t = ![0, 0] := by decide
  funext y
  blk_ext [iblk, idx t]

/-- Window 0 hands over the regrouped image six slabs at a time. -/
theorem iblk0 (c : Dev nD) (t : Fin cfg0.N) (a : Fin 6) (b : Fin 24) (i : Fin 16) (j : Fin 384) :
    @Eq EReal ((iblk m c 0 t : S6x24x16x384.Idx → EReal) (ValueIdx.ix4 a b i j))
     ((V0 m c (Proc.devRef .tc main_v0) : S24x24x16x384.Idx → EReal) (ValueIdx.ix4 ⟨6 * t.val + a.val, by have := t.isLt; have := a.isLt; have : cfg0.N = 4 := rfl; omega⟩ b i j)) := by
  have idx : ∀ t, win0_0.index t = ![t.val, 0, 0, 0] := by decide
  blk_ext [iblk, idx t]
  show t.val * 6 + a.val = 6 * t.val + a.val
  omega

end Cert.KernelIdeal.Val
-- ==== Proof.KEnd.lean ====
/- The kernel program's results after a run. -/
module

public import proofs.«01_k».proof.Proof.KBlk

@[expose] public section

set_option maxRecDepth 16384

noncomputable section

namespace Cert.KernelIdeal.Val

open Cert.KernelIdeal.Gen
open Idealize.ShloMosaic Idealize.ShloMosaic.TcCoe Idealize.ShloMosaic.Tactic

variable (m : (ℓ : Loc nD τ sig) → Buf (Elt Ideal) ℓ) (ρ : Dev nD → PrngReg)

theorem last_of_flush8 (t : Fin cfg0.N) (h : (cfg0.win 8).flush t = true) : t = tLast := by
  have h3 := (flush0_8 t).mp h
  have hN : t.val < 4 := t.isLt
  exact Fin.ext (by show t.val = 3; omega)

theorem last_of_flush9 (t : Fin cfg0.N) (h : (cfg0.win 9).flush t = true) : t = tLast := by
  have h3 := (flush0_9 t).mp h
  have hN : t.val < 4 := t.isLt
  exact Fin.ext (by show t.val = 3; omega)

theorem arr8 (c : Dev nD) : (dats m 0 c).arrAt 8 (cfgs 0).N = featAt m c := by
  have idx : ∀ t, win0_8.index t = ![0, 0, 0] := by decide
  refine (dats m 0 c).arrAt_eq_of_covers 8 _ (by decide +kernel) fun t hf y => ?_
  obtain rfl := last_of_flush8 t hf
  blk_simp [idx tLast]
  rw [after0_8]
  blk_ext [idx tLast]

theorem arr9 (c : Dev nD) : (dats m 0 c).arrAt 9 (cfgs 0).N = centAt m c := by
  have idx : ∀ t, win0_9.index t = ![0, 0, 0] := by decide
  refine (dats m 0 c).arrAt_eq_of_covers 9 _ (by decide +kernel) fun t hf y => ?_
  obtain rfl := last_of_flush9 t hf
  blk_simp [idx tLast]
  rw [after0_9]
  generalize (centAt m c : S3x8x768.Idx → EReal) = G
  blk_ext [idx tLast]

/-- The second result: the first five rows of each block of eight. -/
def centRes (c : Dev nD) : S3x1x5x768.Idx → EReal :=
  broadcastInDim S3x1x5x768 ![0, 2, 3] bcast_S3x5x768_S3x1x5x768_0_2_3
    (extractStridedSlice S3x5x768 ![0, 0, 0] (centAt m c : S3x8x768.Idx → EReal) slices_S3x8x768_S3x5x768_0_0_0)

theorem tail_v35 (c : Dev nD) :
    @Eq (S3x1x5x768.Idx → EReal) (Pipeline.afterTail₀ cfgs (dats m) 0 (V0 m) [hostOps1] c main_v35) (centRes m c) := by
  unfold Pipeline.afterTail₀
  simp only [hostOps1, List.flatten_cons, List.flatten_nil, List.append_nil, List.cons_append, List.nil_append]
  after_reads_simp
  have h9 := Pipeline.withArrays_arr spec0 (by decide : Function.Injective (Pipeline.arrRef spec0)) c (V0 m c) (fun w => (dats m 0 c).arrAt w (cfgs 0).N) 9
  rw [show Pipeline.withArrays (cfgs 0).spec c (V0 m c) (fun w => (dats m 0 c).arrAt w (cfgs 0).N) (Proc.devRef .tc main_v33_1) = centAt m c from h9.trans (arr9 m c)]
  rfl

/-- Every run ends with the two results as named and the arguments unchanged. -/
theorem run_vals : θ_run defs (onTc (τ := τ) (main (F := Ideal))) ⟨m, fun _ => 0, ρ⟩ (fun r => ∀ c : Dev nD,
      r.2.mem ((c.tc : Thread nD τ).loc main_v33_0) = featAt m c
      ∧ r.2.mem ((c.tc : Thread nD τ).loc main_v35) = centRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).1 8).trans (arr8 m c),
      ((h.1.1 c).2 main_v35 (Pipeline.mem_restRefs_of main_v35 (by decide) (by decide))).trans (tail_v35 m c),
      (h.2.1 c)⟩)
    (θ_run_and (run_main m ρ) (frame m ρ))

end Cert.KernelIdeal.Val
-- ==== Proof.RefOps.lean ====
/- The reference program as lists of host operations: the stretch before its loop, the loop's body in
   stretches, and the stretch after it; each list touches only the device's own buffers, and the program is
   the lists in order. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1392

noncomputable section

namespace Cert.ReferenceIdeal.Fold

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev hostOps0 : List (HloOp τ sig (Elt F)) :=
  ( StableHlo.reshape main_arg0 main_v0 (rfl : (.f32 : EltTy) = .f32) shapeCasts_S8x3x384x384_S8x3x24x16x24x16
  :: StableHlo.unary main_v0 main_v1 ((transpose S8x24x24x3x16x16 [0, 2, 4, 1, 3, 5] · transposes_S8x3x24x16x24x16_S8x24x24x3x16x16_0_2_4_1_3_5) : (⟨S8x3x24x16x24x16, .f32⟩ : BufTy).Contents (Elt F) → (⟨S8x24x24x3x16x16, .f32⟩ : BufTy).Contents (Elt F))
  :: StableHlo.reshape main_v1 main_v2 (rfl : (.f32 : EltTy) = .f32) shapeCasts_S8x24x24x3x16x16_S8x576x768
  :: StableHlo.binary main_v2 main_arg1 main_v3 ((fun l r => Host.dotGeneral dot_S8x576x768_S768x768_S8x576x768_2_0_01_1_n_n none l r) : (⟨S8x576x768, .f32⟩ : BufTy).Contents (Elt F) → (⟨S768x768, .f32⟩ : BufTy).Contents (Elt F) → (⟨S8x576x768, .f32⟩ : BufTy).Contents (Elt F))
  :: StableHlo.binary main_v2 main_arg2 main_v4 ((fun l r => Host.dotGeneral dot_S8x576x768_S768x768_S8x576x768_2_0_01_1_n_n none l r) : (⟨S8x576x768, .f32⟩ : BufTy).Contents (Elt F) → (⟨S768x768, .f32⟩ : BufTy).Contents (Elt F) → (⟨S8x576x768, .f32⟩ : BufTy).Contents (Elt F))
  :: StableHlo.binary main_v2 main_arg3 main_v5 ((fun l r => Host.dotGeneral dot_S8x576x768_S768x768_S8x576x768_2_0_01_1_n_n none l r) : (⟨S8x576x768, .f32⟩ : BufTy).Contents (Elt F) → (⟨S768x768, .f32⟩ : BufTy).Contents (Elt F) → (⟨S8x576x768, .f32⟩ : BufTy).Contents (Elt F))
  :: StableHlo.nullary main_cst (constant S_ .f32 0x00000000#32)
  :: StableHlo.binary main_v3 main_cst main_v6 ((fun x v => Host.reduceAdd x v reducesTo_S8x576x768_S8x768_d1 h_S_) : (⟨S8x576x768, .f32⟩ : BufTy).Contents (Elt F) → (⟨S_, .f32⟩ : BufTy).Contents (Elt F) → (⟨S8x768, .f32⟩ : BufTy).Contents (Elt F))
  :: StableHlo.nullary main_cst_0 (constant S_ .f32 0x44100000#32)
  :: StableHlo.unary main_cst_0 main_v7 (broadcastInDim S8x768 ![] bcast_S_S8x768 : (⟨S_, .f32⟩ : BufTy).Contents (Elt F) → (⟨S8x768, .f32⟩ : BufTy).Contents (Elt F))
  :: StableHlo.binary main_v6 main_v7 main_v8 (Host.divf : (⟨S8x768, .f32⟩ : BufTy).Contents (Elt F) → (⟨S8x768, .f32⟩ : BufTy).Contents (Elt F) → (⟨S8x768, .f32⟩ : BufTy).Contents (Elt F))
  :: StableHlo.nullary main_cst_1 (constant S_ .f32 0x00000000#32)
  :: StableHlo.binary main_v4 main_cst_1 main_v9 ((fun x v => Host.reduceAdd x v reducesTo_S8x576x768_S8x768_d1 h_S_) : (⟨S8x576x768, .f32⟩ : BufTy).Contents (Elt F) → (⟨S_, .f32⟩ : BufTy).Contents (Elt F) → (⟨S8x768, .f32⟩ : BufTy).Contents (Elt F))
  :: StableHlo.nullary main_cst_2 (constant S_ .f32 0x44100000#32)
  :: StableHlo.unary main_cst_2 main_v10 (broadcastInDim S8x768 ![] bcast_S_S8x768 : (⟨S_, .f32⟩ : BufTy).Contents (Elt F) → (⟨S8x768, .f32⟩ : BufTy).Contents (Elt F))
  :: StableHlo.binary main_v9 main_v10 main_v11 (Host.divf : (⟨S8x768, .f32⟩ : BufTy).Contents (Elt F) → (⟨S8x768, .f32⟩ : BufTy).Contents (Elt F) → (⟨S8x768, .f32⟩ : BufTy).Contents (Elt F))
  :: StableHlo.nullary main_cst_3 (constant S_ .f32 0x00000000#32)
  :: StableHlo.binary main_v5 main_cst_3 main_v12 ((fun x v => Host.reduceAdd x v reducesTo_S8x576x768_S8x768_d1 h_S_) : (⟨S8x576x768, .f32⟩ : BufTy).Contents (Elt F) → (⟨S_, .f32⟩ : BufTy).Contents (Elt F) → (⟨S8x768, .f32⟩ : BufTy).Contents (Elt F))
  :: StableHlo.nullary main_cst_4 (constant S_ .f32 0x44100000#32)
  :: StableHlo.unary main_cst_4 main_v13 (broadcastInDim S8x768 ![] bcast_S_S8x768 : (⟨S_, .f32⟩ : BufTy).Contents (Elt F) → (⟨S8x768, .f32⟩ : BufTy).Contents (Elt F))
  :: StableHlo.binary main_v12 main_v13 main_v14 (Host.divf : (⟨S8x768, .f32⟩ : BufTy).Contents (Elt F) → (⟨S8x768, .f32⟩ : BufTy).Contents (Elt F) → (⟨S8x768, .f32⟩ : BufTy).Contents (Elt F))
  :: StableHlo.unary main_v8 main_v15 (broadcastInDim S1x8x768 ![1, 2] bcast_S8x768_S1x8x768_1_2 : (⟨S8x768, .f32⟩ : BufTy).Contents (Elt F) → (⟨S1x8x768, .f32⟩ : BufTy).Contents (Elt F))
  :: StableHlo.unary main_v11 main_v16 (broadcastInDim S1x8x768 ![1, 2] bcast_S8x768_S1x8x768_1_2 : (⟨S8x768, .f32⟩ : BufTy).Contents (Elt F) → (⟨S1x8x768, .f32⟩ : BufTy).Contents (Elt F))
  :: StableHlo.unary main_v14 main_v17 (broadcastInDim S1x8x768 ![1, 2] bcast_S8x768_S1x8x768_1_2 : (⟨S8x768, .f32⟩ : BufTy).Contents (Elt F) → (⟨S1x8x768, .f32⟩ : BufTy).Contents (Elt F))
  :: StableHlo.nary ![main_v15, main_v16, main_v17] main_v18 (fun u => (concatenate S3x8x768 0 [⟨S1x8x768, (u 0 : (⟨S1x8x768, .f32⟩ : BufTy).Contents (Elt F))⟩, ⟨S1x8x768, (u 1 : (⟨S1x8x768, .f32⟩ : BufTy).Contents (Elt F))⟩, ⟨S1x8x768, (u 2 : (⟨S1x8x768, .f32⟩ : BufTy).Contents (Elt F))⟩] concatenates_S1x8x768_S1x8x768_S1x8x768_S3x8x768_d0 : (⟨S3x8x768, .f32⟩ : BufTy).Contents (Elt F)))
  :: StableHlo.unary main_v3 main_v19 ((extractStridedSlice S1x576x768 ![0, 0, 0] · slices_S8x576x768_S1x576x768_0_0_0) : (⟨S8x576x768, .f32⟩ : BufTy).Contents (Elt F) → (⟨S1x576x768, .f32⟩ : BufTy).Contents (Elt F))
  :: StableHlo.reshape main_v19 main_v20 (rfl : (.f32 : EltTy) = .f32) shapeCasts_S1x576x768_S576x768
  :: StableHlo.unary main_v4 main_v21 ((extractStridedSlice S1x576x768 ![0, 0, 0] · slices_S8x576x768_S1x576x768_0_0_0) : (⟨S8x576x768, .f32⟩ : BufTy).Contents (Elt F) → (⟨S1x576x768, .f32⟩ : BufTy).Contents (Elt F))
  :: StableHlo.reshape main_v21 main_v22 (rfl : (.f32 : EltTy) = .f32) shapeCasts_S1x576x768_S576x768
  :: StableHlo.unary main_v5 main_v23 ((extractStridedSlice S1x576x768 ![0, 0, 0] · slices_S8x576x768_S1x576x768_0_0_0) : (⟨S8x576x768, .f32⟩ : BufTy).Contents (Elt F) → (⟨S1x576x768, .f32⟩ : BufTy).Contents (Elt F))
  :: StableHlo.reshape main_v23 main_v24 (rfl : (.f32 : EltTy) = .f32) shapeCasts_S1x576x768_S576x768
  :: StableHlo.unary main_v20 main_v25 ((extractStridedSlice S5x768 ![0, 0] · slices_S576x768_S5x768_0_0) : (⟨S576x768, .f32⟩ : BufTy).Contents (Elt F) → (⟨S5x768, .f32⟩ : BufTy).Contents (Elt F))
  :: StableHlo.unary main_v22 main_v26 ((extractStridedSlice S5x768 ![0, 0] · slices_S576x768_S5x768_0_0) : (⟨S576x768, .f32⟩ : BufTy).Contents (Elt F) → (⟨S5x768, .f32⟩ : BufTy).Contents (Elt F))
  :: StableHlo.unary main_v24 main_v27 ((extractStridedSlice S5x768 ![0, 0] · slices_S576x768_S5x768_0_0) : (⟨S576x768, .f32⟩ : BufTy).Contents (Elt F) → (⟨S5x768, .f32⟩ : BufTy).Contents (Elt F))
  :: StableHlo.nullary main_c (constantI S_ 32 0#32)
  :: StableHlo.nullary main_c_5 (constantI S_ 32 0#32)
  :: StableHlo.unary main_v20 main_v28_0 id
  :: StableHlo.unary main_v22 main_v28_1 id
  :: StableHlo.unary main_v24 main_v28_2 id
  :: StableHlo.unary main_c_5 main_v28_3 id
  :: StableHlo.unary main_c main_v28_4 id
  :: StableHlo.unary main_v25 main_v28_5 id
  :: StableHlo.unary main_v26 main_v28_6 id
  :: StableHlo.unary main_v27 main_v28_7 id
  :: [] )
theorem hostOps0_sub : (hostOps0 : List (HloOp τ sig (Elt F))).Forall fun op => op.bufs ⊆ StableHlo.tcRefs τ sig :=
  ⟨StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev hostOps0_1 : List (HloOp τ sig (Elt F)) :=
  [ StableHlo.unary main_v28_5 main_v29 (broadcastInDim S1x5x768 ![1, 2] bcast_S5x768_S1x5x768_1_2 : (⟨S5x768, .f32⟩ : BufTy).Contents (Elt F) → (⟨S1x5x768, .f32⟩ : BufTy).Contents (Elt F)),
    StableHlo.unary main_v28_6 main_v30 (broadcastInDim S1x5x768 ![1, 2] bcast_S5x768_S1x5x768_1_2 : (⟨S5x768, .f32⟩ : BufTy).Contents (Elt F) → (⟨S1x5x768, .f32⟩ : BufTy).Contents (Elt F)),
    StableHlo.unary main_v28_7 main_v31 (broadcastInDim S1x5x768 ![1, 2] bcast_S5x768_S1x5x768_1_2 : (⟨S5x768, .f32⟩ : BufTy).Contents (Elt F) → (⟨S1x5x768, .f32⟩ : BufTy).Contents (Elt F)),
    StableHlo.unary main_v29 main_v32 (broadcastInDim S1x1x5x768 ![1, 2, 3] bcast_S1x5x768_S1x1x5x768_1_2_3 : (⟨S1x5x768, .f32⟩ : BufTy).Contents (Elt F) → (⟨S1x1x5x768, .f32⟩ : BufTy).Contents (Elt F)),
    StableHlo.unary main_v30 main_v33 (broadcastInDim S1x1x5x768 ![1, 2, 3] bcast_S1x5x768_S1x1x5x768_1_2_3 : (⟨S1x5x768, .f32⟩ : BufTy).Contents (Elt F) → (⟨S1x1x5x768, .f32⟩ : BufTy).Contents (Elt F)),
    StableHlo.unary main_v31 main_v34 (broadcastInDim S1x1x5x768 ![1, 2, 3] bcast_S1x5x768_S1x1x5x768_1_2_3 : (⟨S1x5x768, .f32⟩ : BufTy).Contents (Elt F) → (⟨S1x1x5x768, .f32⟩ : BufTy).Contents (Elt F)),
    StableHlo.nary ![main_v32, main_v33, main_v34] main_v35 (fun u => (concatenate S3x1x5x768 0 [⟨S1x1x5x768, (u 0 : (⟨S1x1x5x768, .f32⟩ : BufTy).Contents (Elt F))⟩, ⟨S1x1x5x768, (u 1 : (⟨S1x1x5x768, .f32⟩ : BufTy).Contents (Elt F))⟩, ⟨S1x1x5x768, (u 2 : (⟨S1x1x5x768, .f32⟩ : BufTy).Contents (Elt F))⟩] concatenates_S1x1x5x768_S1x1x5x768_S1x1x5x768_S3x1x5x768_d0 : (⟨S3x1x5x768, .f32⟩ : BufTy).Contents (Elt F))) ]
theorem hostOps0_1_sub : (hostOps0_1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nary_bufs_sub ..⟩
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

abbrev while0Ops0 : List (HloOp τ sig (Elt F)) :=
  [ StableHlo.nullary main_while0b_c_13 (constantI S_ 32 1#32),
    StableHlo.binary main_v28_4 main_while0b_c_13 main_while0b_v36 (addi : (⟨S_, .i32⟩ : BufTy).Contents (Elt F) → (⟨S_, .i32⟩ : BufTy).Contents (Elt F) → (⟨S_, .i32⟩ : BufTy).Contents (Elt F)),
    StableHlo.binary main_v28_0 main_v28_0 main_while0b_v37 (mulf : (⟨S576x768, .f32⟩ : BufTy).Contents (Elt F) → (⟨S576x768, .f32⟩ : BufTy).Contents (Elt F) → (⟨S576x768, .f32⟩ : BufTy).Contents (Elt F)),
    StableHlo.nullary main_while0b_cst_14 (constant S_ .f32 0x00000000#32),
    StableHlo.binary main_while0b_v37 main_while0b_cst_14 main_while0b_v38 ((fun x v => Host.reduceAdd x v reducesTo_S576x768_S576_d1 h_S_) : (⟨S576x768, .f32⟩ : BufTy).Contents (Elt F) → (⟨S_, .f32⟩ : BufTy).Contents (Elt F) → (⟨S576, .f32⟩ : BufTy).Contents (Elt F)),
    StableHlo.unary main_while0b_v38 main_while0b_v39 (broadcastInDim S576x1 ![0] bcast_S576_S576x1_0 : (⟨S576, .f32⟩ : BufTy).Contents (Elt F) → (⟨S576x1, .f32⟩ : BufTy).Contents (Elt F)),
    StableHlo.unary main_v28_5 main_while0b_v40 ((transpose S768x5 [1, 0] · transposes_S5x768_S768x5_1_0) : (⟨S5x768, .f32⟩ : BufTy).Contents (Elt F) → (⟨S768x5, .f32⟩ : BufTy).Contents (Elt F)),
    StableHlo.binary main_v28_0 main_while0b_v40 main_while0b_v41 ((fun l r => Host.dotGeneral dot_S576x768_S768x5_S576x5_1_0_0_1_n_n none l r) : (⟨S576x768, .f32⟩ : BufTy).Contents (Elt F) → (⟨S768x5, .f32⟩ : BufTy).Contents (Elt F) → (⟨S576x5, .f32⟩ : BufTy).Contents (Elt F)),
    StableHlo.nullary main_while0b_cst_15 (constant S_ .f32 0x40000000#32),
    StableHlo.unary main_while0b_cst_15 main_while0b_v42 (broadcastInDim S576x5 ![] bcast_S_S576x5 : (⟨S_, .f32⟩ : BufTy).Contents (Elt F) → (⟨S576x5, .f32⟩ : BufTy).Contents (Elt F)),
    StableHlo.binary main_while0b_v42 main_while0b_v41 main_while0b_v43 (mulf : (⟨S576x5, .f32⟩ : BufTy).Contents (Elt F) → (⟨S576x5, .f32⟩ : BufTy).Contents (Elt F) → (⟨S576x5, .f32⟩ : BufTy).Contents (Elt F)),
    StableHlo.unary main_while0b_v39 main_while0b_v44 (broadcastInDim S576x5 ![0, 1] bcast_S576x1_S576x5_0_1 : (⟨S576x1, .f32⟩ : BufTy).Contents (Elt F) → (⟨S576x5, .f32⟩ : BufTy).Contents (Elt F)),
    StableHlo.binary main_while0b_v44 main_while0b_v43 main_while0b_v45 (subf : (⟨S576x5, .f32⟩ : BufTy).Contents (Elt F) → (⟨S576x5, .f32⟩ : BufTy).Contents (Elt F) → (⟨S576x5, .f32⟩ : BufTy).Contents (Elt F)),
    StableHlo.binary main_v28_5 main_v28_5 main_while0b_v46 (mulf : (⟨S5x768, .f32⟩ : BufTy).Contents (Elt F) → (⟨S5x768, .f32⟩ : BufTy).Contents (Elt F) → (⟨S5x768, .f32⟩ : BufTy).Contents (Elt F)),
    StableHlo.nullary main_while0b_cst_16 (constant S_ .f32 0x00000000#32),
    StableHlo.binary main_while0b_v46 main_while0b_cst_16 main_while0b_v47 ((fun x v => Host.reduceAdd x v reducesTo_S5x768_S5_d1 h_S_) : (⟨S5x768, .f32⟩ : BufTy).Contents (Elt F) → (⟨S_, .f32⟩ : BufTy).Contents (Elt F) → (⟨S5, .f32⟩ : BufTy).Contents (Elt F)),
    StableHlo.unary main_while0b_v47 main_while0b_v48 (broadcastInDim S1x5 ![1] bcast_S5_S1x5_1 : (⟨S5, .f32⟩ : BufTy).Contents (Elt F) → (⟨S1x5, .f32⟩ : BufTy).Contents (Elt F)),
    StableHlo.unary main_while0b_v48 main_while0b_v49 (broadcastInDim S576x5 ![0, 1] bcast_S1x5_S576x5_0_1 : (⟨S1x5, .f32⟩ : BufTy).Contents (Elt F) → (⟨S576x5, .f32⟩ : BufTy).Contents (Elt F)),
    StableHlo.binary main_while0b_v45 main_while0b_v49 main_while0b_v50 (addf : (⟨S576x5, .f32⟩ : BufTy).Contents (Elt F) → (⟨S576x5, .f32⟩ : BufTy).Contents (Elt F) → (⟨S576x5, .f32⟩ : BufTy).Contents (Elt F)) ]
theorem while0Ops0_sub : (while0Ops0 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
abbrev while0Ops0_1 : List (HloOp τ sig (Elt F)) :=
  [ StableHlo.TRef.nullary (.of main_while0b_call0_v0 : StableHlo.TRef sig ⟨S576x5, .i32⟩) (iotaInDim S576x5 32 1),
    StableHlo.TRef.nullary (.of main_while0b_call0_cst : StableHlo.TRef sig ⟨S_, .f32⟩) (constant S_ .f32 0x7F800000#32),
    StableHlo.TRef.nullary (.of main_while0b_call0_c : StableHlo.TRef sig ⟨S_, .i32⟩) (constantI S_ 32 0#32),
    StableHlo.TRef.quaternary (.of main_while0b_v50 : StableHlo.TRef sig ⟨S576x5, .f32⟩) (.of main_while0b_call0_v0 : StableHlo.TRef sig ⟨S576x5, .i32⟩) (.of main_while0b_call0_cst : StableHlo.TRef sig ⟨S_, .f32⟩) (.of main_while0b_call0_c : StableHlo.TRef sig ⟨S_, .i32⟩) (.of main_while0b_call0_v1_0 : StableHlo.TRef sig ⟨S576, .f32⟩) (fun x y u v j => (Host.argReduce reducer_argmin_f32_i32 x y u v reducesTo_S576x5_S576_d1 h_S_ j).1),
    StableHlo.TRef.quaternary (.of main_while0b_v50 : StableHlo.TRef sig ⟨S576x5, .f32⟩) (.of main_while0b_call0_v0 : StableHlo.TRef sig ⟨S576x5, .i32⟩) (.of main_while0b_call0_cst : StableHlo.TRef sig ⟨S_, .f32⟩) (.of main_while0b_call0_c : StableHlo.TRef sig ⟨S_, .i32⟩) (.of main_while0b_v51 : StableHlo.TRef sig ⟨S576, .i32⟩) (fun x y u v j => (Host.argReduce reducer_argmin_f32_i32 x y u v reducesTo_S576x5_S576_d1 h_S_ j).2) ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev while0Ops0_2 : List (HloOp τ sig (Elt F)) :=
  [ StableHlo.nullary main_while0b_cst_17 (constant S_ .f32 0x00000000#32),
    StableHlo.unary main_while0b_cst_17 main_while0b_v52 (broadcastInDim S5x768 ![] bcast_S_S5x768 : (⟨S_, .f32⟩ : BufTy).Contents (Elt F) → (⟨S5x768, .f32⟩ : BufTy).Contents (Elt F)),
    StableHlo.nullary main_while0b_c_18 (constantI S_ 32 0#32),
    StableHlo.unary main_while0b_c_18 main_while0b_v53 (broadcastInDim S576 ![] bcast_S_S576 : (⟨S_, .i32⟩ : BufTy).Contents (Elt F) → (⟨S576, .i32⟩ : BufTy).Contents (Elt F)),
    StableHlo.binary main_while0b_v51 main_while0b_v53 main_while0b_v54 (cmpi .slt : (⟨S576, .i32⟩ : BufTy).Contents (Elt F) → (⟨S576, .i32⟩ : BufTy).Contents (Elt F) → (⟨S576, .i1⟩ : BufTy).Contents (Elt F)),
    StableHlo.nullary main_while0b_c_19 (constantI S_ 32 5#32),
    StableHlo.unary main_while0b_c_19 main_while0b_v55 (broadcastInDim S576 ![] bcast_S_S576 : (⟨S_, .i32⟩ : BufTy).Contents (Elt F) → (⟨S576, .i32⟩ : BufTy).Contents (Elt F)),
    StableHlo.binary main_while0b_v51 main_while0b_v55 main_while0b_v56 (addi : (⟨S576, .i32⟩ : BufTy).Contents (Elt F) → (⟨S576, .i32⟩ : BufTy).Contents (Elt F) → (⟨S576, .i32⟩ : BufTy).Contents (Elt F)),
    StableHlo.ternary main_while0b_v54 main_while0b_v56 main_while0b_v51 main_while0b_v57 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v57 main_while0b_v58 (broadcastInDim S576x1 ![0] bcast_S576_S576x1_0 : (⟨S576, .i32⟩ : BufTy).Contents (Elt F) → (⟨S576x1, .i32⟩ : BufTy).Contents (Elt F)),
    StableHlo.ternary main_while0b_v52 main_while0b_v58 main_v28_0 main_while0b_v59 ((fun x i u => Host.scatterAdd scatter_S5x768_S576x1_S576x768_1_0_0_1 x i u) : (⟨S5x768, .f32⟩ : BufTy).Contents (Elt F) → (⟨S576x1, .i32⟩ : BufTy).Contents (Elt F) → (⟨S576x768, .f32⟩ : BufTy).Contents (Elt F) → (⟨S5x768, .f32⟩ : BufTy).Contents (Elt F)),
    StableHlo.nullary main_while0b_cst_20 (constant S_ .f32 0x00000000#32),
    StableHlo.unary main_while0b_cst_20 main_while0b_v60 (broadcastInDim S5 ![] bcast_S_S5 : (⟨S_, .f32⟩ : BufTy).Contents (Elt F) → (⟨S5, .f32⟩ : BufTy).Contents (Elt F)),
    StableHlo.nullary main_while0b_c_21 (constantI S_ 32 0#32),
    StableHlo.unary main_while0b_c_21 main_while0b_v61 (broadcastInDim S576 ![] bcast_S_S576 : (⟨S_, .i32⟩ : BufTy).Contents (Elt F) → (⟨S576, .i32⟩ : BufTy).Contents (Elt F)),
    StableHlo.binary main_while0b_v51 main_while0b_v61 main_while0b_v62 (cmpi .slt : (⟨S576, .i32⟩ : BufTy).Contents (Elt F) → (⟨S576, .i32⟩ : BufTy).Contents (Elt F) → (⟨S576, .i1⟩ : BufTy).Contents (Elt F)),
    StableHlo.nullary main_while0b_c_22 (constantI S_ 32 5#32),
    StableHlo.unary main_while0b_c_22 main_while0b_v63 (broadcastInDim S576 ![] bcast_S_S576 : (⟨S_, .i32⟩ : BufTy).Contents (Elt F) → (⟨S576, .i32⟩ : BufTy).Contents (Elt F)),
    StableHlo.binary main_while0b_v51 main_while0b_v63 main_while0b_v64 (addi : (⟨S576, .i32⟩ : BufTy).Contents (Elt F) → (⟨S576, .i32⟩ : BufTy).Contents (Elt F) → (⟨S576, .i32⟩ : BufTy).Contents (Elt F)),
    StableHlo.ternary main_while0b_v62 main_while0b_v64 main_while0b_v51 main_while0b_v65 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v65 main_while0b_v66 (broadcastInDim S576x1 ![0] bcast_S576_S576x1_0 : (⟨S576, .i32⟩ : BufTy).Contents (Elt F) → (⟨S576x1, .i32⟩ : BufTy).Contents (Elt F)),
    StableHlo.nullary main_while0b_cst_23 (constant S_ .f32 0x3F800000#32),
    StableHlo.unary main_while0b_cst_23 main_while0b_v67 (broadcastInDim S576 ![] bcast_S_S576 : (⟨S_, .f32⟩ : BufTy).Contents (Elt F) → (⟨S576, .f32⟩ : BufTy).Contents (Elt F)),
    StableHlo.ternary main_while0b_v60 main_while0b_v66 main_while0b_v67 main_while0b_v68 ((fun x i u => Host.scatterAdd scatter_S5_S576x1_S576_n_0_0_1 x i u) : (⟨S5, .f32⟩ : BufTy).Contents (Elt F) → (⟨S576x1, .i32⟩ : BufTy).Contents (Elt F) → (⟨S576, .f32⟩ : BufTy).Contents (Elt F) → (⟨S5, .f32⟩ : BufTy).Contents (Elt F)),
    StableHlo.unary main_while0b_v68 main_while0b_v69 (broadcastInDim S5x1 ![0] bcast_S5_S5x1_0 : (⟨S5, .f32⟩ : BufTy).Contents (Elt F) → (⟨S5x1, .f32⟩ : BufTy).Contents (Elt F)),
    StableHlo.nullary main_while0b_cst_24 (constant S_ .f32 0x3F800000#32) ]
theorem while0Ops0_2_sub : (while0Ops0_2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.unary_bufs_sub .., StableHlo.nullary_bufs_sub ..⟩
abbrev while0Ops0_3 : List (HloOp τ sig (Elt F)) :=
  [ StableHlo.TRef.unary (.of main_while0b_cst_24 : StableHlo.TRef sig ⟨S_, .f32⟩) (.of main_while0b_call1_v0 : StableHlo.TRef sig ⟨S_, .f32⟩) id,
    StableHlo.TRef.unary (.of main_while0b_call1_v0 : StableHlo.TRef sig ⟨S_, .f32⟩) (.of main_while0b_call1_v1 : StableHlo.TRef sig ⟨S5x1, .f32⟩) (broadcastInDim S5x1 ![] bcast_S_S5x1),
    StableHlo.TRef.binary (.of main_while0b_call1_v1 : StableHlo.TRef sig ⟨S5x1, .f32⟩) (.of main_while0b_v69 : StableHlo.TRef sig ⟨S5x1, .f32⟩) (.of main_while0b_v70 : StableHlo.TRef sig ⟨S5x1, .f32⟩) maximumf ]
theorem while0Ops0_3_sub : (while0Ops0_3 : List (HloOp τ sig (Elt F))).Forall fun op => op.bufs ⊆ StableHlo.tcRefs τ sig :=
  ⟨StableHlo.unary_bufs_sub .., StableHlo.unary_bufs_sub .., StableHlo.binary_bufs_sub ..⟩
abbrev while0Ops0_4 : List (HloOp τ sig (Elt F)) :=
  [ StableHlo.unary main_while0b_v70 main_while0b_v71 (broadcastInDim S5x768 ![0, 1] bcast_S5x1_S5x768_0_1 : (⟨S5x1, .f32⟩ : BufTy).Contents (Elt F) → (⟨S5x768, .f32⟩ : BufTy).Contents (Elt F)),
    StableHlo.binary main_while0b_v59 main_while0b_v71 main_while0b_v72 (Host.divf : (⟨S5x768, .f32⟩ : BufTy).Contents (Elt F) → (⟨S5x768, .f32⟩ : BufTy).Contents (Elt F) → (⟨S5x768, .f32⟩ : BufTy).Contents (Elt F)),
    StableHlo.binary main_v28_1 main_v28_1 main_while0b_v73 (mulf : (⟨S576x768, .f32⟩ : BufTy).Contents (Elt F) → (⟨S576x768, .f32⟩ : BufTy).Contents (Elt F) → (⟨S576x768, .f32⟩ : BufTy).Contents (Elt F)),
    StableHlo.nullary main_while0b_cst_25 (constant S_ .f32 0x00000000#32),
    StableHlo.binary main_while0b_v73 main_while0b_cst_25 main_while0b_v74 ((fun x v => Host.reduceAdd x v reducesTo_S576x768_S576_d1 h_S_) : (⟨S576x768, .f32⟩ : BufTy).Contents (Elt F) → (⟨S_, .f32⟩ : BufTy).Contents (Elt F) → (⟨S576, .f32⟩ : BufTy).Contents (Elt F)),
    StableHlo.unary main_while0b_v74 main_while0b_v75 (broadcastInDim S576x1 ![0] bcast_S576_S576x1_0 : (⟨S576, .f32⟩ : BufTy).Contents (Elt F) → (⟨S576x1, .f32⟩ : BufTy).Contents (Elt F)),
    StableHlo.unary main_v28_6 main_while0b_v76 ((transpose S768x5 [1, 0] · transposes_S5x768_S768x5_1_0) : (⟨S5x768, .f32⟩ : BufTy).Contents (Elt F) → (⟨S768x5, .f32⟩ : BufTy).Contents (Elt F)),
    StableHlo.binary main_v28_1 main_while0b_v76 main_while0b_v77 ((fun l r => Host.dotGeneral dot_S576x768_S768x5_S576x5_1_0_0_1_n_n none l r) : (⟨S576x768, .f32⟩ : BufTy).Contents (Elt F) → (⟨S768x5, .f32⟩ : BufTy).Contents (Elt F) → (⟨S576x5, .f32⟩ : BufTy).Contents (Elt F)),
    StableHlo.nullary main_while0b_cst_26 (constant S_ .f32 0x40000000#32),
    StableHlo.unary main_while0b_cst_26 main_while0b_v78 (broadcastInDim S576x5 ![] bcast_S_S576x5 : (⟨S_, .f32⟩ : BufTy).Contents (Elt F) → (⟨S576x5, .f32⟩ : BufTy).Contents (Elt F)),
    StableHlo.binary main_while0b_v78 main_while0b_v77 main_while0b_v79 (mulf : (⟨S576x5, .f32⟩ : BufTy).Contents (Elt F) → (⟨S576x5, .f32⟩ : BufTy).Contents (Elt F) → (⟨S576x5, .f32⟩ : BufTy).Contents (Elt F)),
    StableHlo.unary main_while0b_v75 main_while0b_v80 (broadcastInDim S576x5 ![0, 1] bcast_S576x1_S576x5_0_1 : (⟨S576x1, .f32⟩ : BufTy).Contents (Elt F) → (⟨S576x5, .f32⟩ : BufTy).Contents (Elt F)),
    StableHlo.binary main_while0b_v80 main_while0b_v79 main_while0b_v81 (subf : (⟨S576x5, .f32⟩ : BufTy).Contents (Elt F) → (⟨S576x5, .f32⟩ : BufTy).Contents (Elt F) → (⟨S576x5, .f32⟩ : BufTy).Contents (Elt F)),
    StableHlo.binary main_v28_6 main_v28_6 main_while0b_v82 (mulf : (⟨S5x768, .f32⟩ : BufTy).Contents (Elt F) → (⟨S5x768, .f32⟩ : BufTy).Contents (Elt F) → (⟨S5x768, .f32⟩ : BufTy).Contents (Elt F)),
    StableHlo.nullary main_while0b_cst_27 (constant S_ .f32 0x00000000#32),
    StableHlo.binary main_while0b_v82 main_while0b_cst_27 main_while0b_v83 ((fun x v => Host.reduceAdd x v reducesTo_S5x768_S5_d1 h_S_) : (⟨S5x768, .f32⟩ : BufTy).Contents (Elt F) → (⟨S_, .f32⟩ : BufTy).Contents (Elt F) → (⟨S5, .f32⟩ : BufTy).Contents (Elt F)),
    StableHlo.unary main_while0b_v83 main_while0b_v84 (broadcastInDim S1x5 ![1] bcast_S5_S1x5_1 : (⟨S5, .f32⟩ : BufTy).Contents (Elt F) → (⟨S1x5, .f32⟩ : BufTy).Contents (Elt F)),
    StableHlo.unary main_while0b_v84 main_while0b_v85 (broadcastInDim S576x5 ![0, 1] bcast_S1x5_S576x5_0_1 : (⟨S1x5, .f32⟩ : BufTy).Contents (Elt F) → (⟨S576x5, .f32⟩ : BufTy).Contents (Elt F)),
    StableHlo.binary main_while0b_v81 main_while0b_v85 main_while0b_v86 (addf : (⟨S576x5, .f32⟩ : BufTy).Contents (Elt F) → (⟨S576x5, .f32⟩ : BufTy).Contents (Elt F) → (⟨S576x5, .f32⟩ : BufTy).Contents (Elt F)) ]
theorem while0Ops0_4_sub : (while0Ops0_4 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
abbrev while0Ops0_5 : List (HloOp τ sig (Elt F)) :=
  [ StableHlo.TRef.nullary (.of main_while0b_call2_v0 : StableHlo.TRef sig ⟨S576x5, .i32⟩) (iotaInDim S576x5 32 1),
    StableHlo.TRef.nullary (.of main_while0b_call2_cst : StableHlo.TRef sig ⟨S_, .f32⟩) (constant S_ .f32 0x7F800000#32),
    StableHlo.TRef.nullary (.of main_while0b_call2_c : StableHlo.TRef sig ⟨S_, .i32⟩) (constantI S_ 32 0#32),
    StableHlo.TRef.quaternary (.of main_while0b_v86 : StableHlo.TRef sig ⟨S576x5, .f32⟩) (.of main_while0b_call2_v0 : StableHlo.TRef sig ⟨S576x5, .i32⟩) (.of main_while0b_call2_cst : StableHlo.TRef sig ⟨S_, .f32⟩) (.of main_while0b_call2_c : StableHlo.TRef sig ⟨S_, .i32⟩) (.of main_while0b_call2_v1_0 : StableHlo.TRef sig ⟨S576, .f32⟩) (fun x y u v j => (Host.argReduce reducer_argmin_f32_i32 x y u v reducesTo_S576x5_S576_d1 h_S_ j).1),
    StableHlo.TRef.quaternary (.of main_while0b_v86 : StableHlo.TRef sig ⟨S576x5, .f32⟩) (.of main_while0b_call2_v0 : StableHlo.TRef sig ⟨S576x5, .i32⟩) (.of main_while0b_call2_cst : StableHlo.TRef sig ⟨S_, .f32⟩) (.of main_while0b_call2_c : StableHlo.TRef sig ⟨S_, .i32⟩) (.of main_while0b_v87 : StableHlo.TRef sig ⟨S576, .i32⟩) (fun x y u v j => (Host.argReduce reducer_argmin_f32_i32 x y u v reducesTo_S576x5_S576_d1 h_S_ j).2) ]
theorem while0Ops0_5_sub : (while0Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev while0Ops0_6 : List (HloOp τ sig (Elt F)) :=
  [ StableHlo.nullary main_while0b_cst_28 (constant S_ .f32 0x00000000#32),
    StableHlo.unary main_while0b_cst_28 main_while0b_v88 (broadcastInDim S5x768 ![] bcast_S_S5x768 : (⟨S_, .f32⟩ : BufTy).Contents (Elt F) → (⟨S5x768, .f32⟩ : BufTy).Contents (Elt F)),
    StableHlo.nullary main_while0b_c_29 (constantI S_ 32 0#32),
    StableHlo.unary main_while0b_c_29 main_while0b_v89 (broadcastInDim S576 ![] bcast_S_S576 : (⟨S_, .i32⟩ : BufTy).Contents (Elt F) → (⟨S576, .i32⟩ : BufTy).Contents (Elt F)),
    StableHlo.binary main_while0b_v87 main_while0b_v89 main_while0b_v90 (cmpi .slt : (⟨S576, .i32⟩ : BufTy).Contents (Elt F) → (⟨S576, .i32⟩ : BufTy).Contents (Elt F) → (⟨S576, .i1⟩ : BufTy).Contents (Elt F)),
    StableHlo.nullary main_while0b_c_30 (constantI S_ 32 5#32),
    StableHlo.unary main_while0b_c_30 main_while0b_v91 (broadcastInDim S576 ![] bcast_S_S576 : (⟨S_, .i32⟩ : BufTy).Contents (Elt F) → (⟨S576, .i32⟩ : BufTy).Contents (Elt F)),
    StableHlo.binary main_while0b_v87 main_while0b_v91 main_while0b_v92 (addi : (⟨S576, .i32⟩ : BufTy).Contents (Elt F) → (⟨S576, .i32⟩ : BufTy).Contents (Elt F) → (⟨S576, .i32⟩ : BufTy).Contents (Elt F)),
    StableHlo.ternary main_while0b_v90 main_while0b_v92 main_while0b_v87 main_while0b_v93 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v93 main_while0b_v94 (broadcastInDim S576x1 ![0] bcast_S576_S576x1_0 : (⟨S576, .i32⟩ : BufTy).Contents (Elt F) → (⟨S576x1, .i32⟩ : BufTy).Contents (Elt F)),
    StableHlo.ternary main_while0b_v88 main_while0b_v94 main_v28_1 main_while0b_v95 ((fun x i u => Host.scatterAdd scatter_S5x768_S576x1_S576x768_1_0_0_1 x i u) : (⟨S5x768, .f32⟩ : BufTy).Contents (Elt F) → (⟨S576x1, .i32⟩ : BufTy).Contents (Elt F) → (⟨S576x768, .f32⟩ : BufTy).Contents (Elt F) → (⟨S5x768, .f32⟩ : BufTy).Contents (Elt F)),
    StableHlo.nullary main_while0b_cst_31 (constant S_ .f32 0x00000000#32),
    StableHlo.unary main_while0b_cst_31 main_while0b_v96 (broadcastInDim S5 ![] bcast_S_S5 : (⟨S_, .f32⟩ : BufTy).Contents (Elt F) → (⟨S5, .f32⟩ : BufTy).Contents (Elt F)),
    StableHlo.nullary main_while0b_c_32 (constantI S_ 32 0#32),
    StableHlo.unary main_while0b_c_32 main_while0b_v97 (broadcastInDim S576 ![] bcast_S_S576 : (⟨S_, .i32⟩ : BufTy).Contents (Elt F) → (⟨S576, .i32⟩ : BufTy).Contents (Elt F)),
    StableHlo.binary main_while0b_v87 main_while0b_v97 main_while0b_v98 (cmpi .slt : (⟨S576, .i32⟩ : BufTy).Contents (Elt F) → (⟨S576, .i32⟩ : BufTy).Contents (Elt F) → (⟨S576, .i1⟩ : BufTy).Contents (Elt F)),
    StableHlo.nullary main_while0b_c_33 (constantI S_ 32 5#32),
    StableHlo.unary main_while0b_c_33 main_while0b_v99 (broadcastInDim S576 ![] bcast_S_S576 : (⟨S_, .i32⟩ : BufTy).Contents (Elt F) → (⟨S576, .i32⟩ : BufTy).Contents (Elt F)),
    StableHlo.binary main_while0b_v87 main_while0b_v99 main_while0b_v100 (addi : (⟨S576, .i32⟩ : BufTy).Contents (Elt F) → (⟨S576, .i32⟩ : BufTy).Contents (Elt F) → (⟨S576, .i32⟩ : BufTy).Contents (Elt F)),
    StableHlo.ternary main_while0b_v98 main_while0b_v100 main_while0b_v87 main_while0b_v101 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v101 main_while0b_v102 (broadcastInDim S576x1 ![0] bcast_S576_S576x1_0 : (⟨S576, .i32⟩ : BufTy).Contents (Elt F) → (⟨S576x1, .i32⟩ : BufTy).Contents (Elt F)),
    StableHlo.nullary main_while0b_cst_34 (constant S_ .f32 0x3F800000#32),
    StableHlo.unary main_while0b_cst_34 main_while0b_v103 (broadcastInDim S576 ![] bcast_S_S576 : (⟨S_, .f32⟩ : BufTy).Contents (Elt F) → (⟨S576, .f32⟩ : BufTy).Contents (Elt F)),
    StableHlo.ternary main_while0b_v96 main_while0b_v102 main_while0b_v103 main_while0b_v104 ((fun x i u => Host.scatterAdd scatter_S5_S576x1_S576_n_0_0_1 x i u) : (⟨S5, .f32⟩ : BufTy).Contents (Elt F) → (⟨S576x1, .i32⟩ : BufTy).Contents (Elt F) → (⟨S576, .f32⟩ : BufTy).Contents (Elt F) → (⟨S5, .f32⟩ : BufTy).Contents (Elt F)),
    StableHlo.unary main_while0b_v104 main_while0b_v105 (broadcastInDim S5x1 ![0] bcast_S5_S5x1_0 : (⟨S5, .f32⟩ : BufTy).Contents (Elt F) → (⟨S5x1, .f32⟩ : BufTy).Contents (Elt F)),
    StableHlo.nullary main_while0b_cst_35 (constant S_ .f32 0x3F800000#32) ]
theorem while0Ops0_6_sub : (while0Ops0_6 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.unary_bufs_sub .., StableHlo.nullary_bufs_sub ..⟩
abbrev while0Ops0_7 : List (HloOp τ sig (Elt F)) :=
  [ StableHlo.TRef.unary (.of main_while0b_cst_35 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S5x1, .f32⟩) (broadcastInDim S5x1 ![] bcast_S_S5x1),
    StableHlo.TRef.binary (.of main_while0b_call3_v1 : StableHlo.TRef sig ⟨S5x1, .f32⟩) (.of main_while0b_v105 : StableHlo.TRef sig ⟨S5x1, .f32⟩) (.of main_while0b_v106 : StableHlo.TRef sig ⟨S5x1, .f32⟩) maximumf ]
theorem while0Ops0_7_sub : (while0Ops0_7 : List (HloOp τ sig (Elt F))).Forall fun op => op.bufs ⊆ StableHlo.tcRefs τ sig :=
  ⟨StableHlo.unary_bufs_sub .., StableHlo.unary_bufs_sub .., StableHlo.binary_bufs_sub ..⟩
abbrev while0Ops0_8 : List (HloOp τ sig (Elt F)) :=
  [ StableHlo.unary main_while0b_v106 main_while0b_v107 (broadcastInDim S5x768 ![0, 1] bcast_S5x1_S5x768_0_1 : (⟨S5x1, .f32⟩ : BufTy).Contents (Elt F) → (⟨S5x768, .f32⟩ : BufTy).Contents (Elt F)),
    StableHlo.binary main_while0b_v95 main_while0b_v107 main_while0b_v108 (Host.divf : (⟨S5x768, .f32⟩ : BufTy).Contents (Elt F) → (⟨S5x768, .f32⟩ : BufTy).Contents (Elt F) → (⟨S5x768, .f32⟩ : BufTy).Contents (Elt F)),
    StableHlo.binary main_v28_2 main_v28_2 main_while0b_v109 (mulf : (⟨S576x768, .f32⟩ : BufTy).Contents (Elt F) → (⟨S576x768, .f32⟩ : BufTy).Contents (Elt F) → (⟨S576x768, .f32⟩ : BufTy).Contents (Elt F)),
    StableHlo.nullary main_while0b_cst_36 (constant S_ .f32 0x00000000#32),
    StableHlo.binary main_while0b_v109 main_while0b_cst_36 main_while0b_v110 ((fun x v => Host.reduceAdd x v reducesTo_S576x768_S576_d1 h_S_) : (⟨S576x768, .f32⟩ : BufTy).Contents (Elt F) → (⟨S_, .f32⟩ : BufTy).Contents (Elt F) → (⟨S576, .f32⟩ : BufTy).Contents (Elt F)),
    StableHlo.unary main_while0b_v110 main_while0b_v111 (broadcastInDim S576x1 ![0] bcast_S576_S576x1_0 : (⟨S576, .f32⟩ : BufTy).Contents (Elt F) → (⟨S576x1, .f32⟩ : BufTy).Contents (Elt F)),
    StableHlo.unary main_v28_7 main_while0b_v112 ((transpose S768x5 [1, 0] · transposes_S5x768_S768x5_1_0) : (⟨S5x768, .f32⟩ : BufTy).Contents (Elt F) → (⟨S768x5, .f32⟩ : BufTy).Contents (Elt F)),
    StableHlo.binary main_v28_2 main_while0b_v112 main_while0b_v113 ((fun l r => Host.dotGeneral dot_S576x768_S768x5_S576x5_1_0_0_1_n_n none l r) : (⟨S576x768, .f32⟩ : BufTy).Contents (Elt F) → (⟨S768x5, .f32⟩ : BufTy).Contents (Elt F) → (⟨S576x5, .f32⟩ : BufTy).Contents (Elt F)),
    StableHlo.nullary main_while0b_cst_37 (constant S_ .f32 0x40000000#32),
    StableHlo.unary main_while0b_cst_37 main_while0b_v114 (broadcastInDim S576x5 ![] bcast_S_S576x5 : (⟨S_, .f32⟩ : BufTy).Contents (Elt F) → (⟨S576x5, .f32⟩ : BufTy).Contents (Elt F)),
    StableHlo.binary main_while0b_v114 main_while0b_v113 main_while0b_v115 (mulf : (⟨S576x5, .f32⟩ : BufTy).Contents (Elt F) → (⟨S576x5, .f32⟩ : BufTy).Contents (Elt F) → (⟨S576x5, .f32⟩ : BufTy).Contents (Elt F)),
    StableHlo.unary main_while0b_v111 main_while0b_v116 (broadcastInDim S576x5 ![0, 1] bcast_S576x1_S576x5_0_1 : (⟨S576x1, .f32⟩ : BufTy).Contents (Elt F) → (⟨S576x5, .f32⟩ : BufTy).Contents (Elt F)),
    StableHlo.binary main_while0b_v116 main_while0b_v115 main_while0b_v117 (subf : (⟨S576x5, .f32⟩ : BufTy).Contents (Elt F) → (⟨S576x5, .f32⟩ : BufTy).Contents (Elt F) → (⟨S576x5, .f32⟩ : BufTy).Contents (Elt F)),
    StableHlo.binary main_v28_7 main_v28_7 main_while0b_v118 (mulf : (⟨S5x768, .f32⟩ : BufTy).Contents (Elt F) → (⟨S5x768, .f32⟩ : BufTy).Contents (Elt F) → (⟨S5x768, .f32⟩ : BufTy).Contents (Elt F)),
    StableHlo.nullary main_while0b_cst_38 (constant S_ .f32 0x00000000#32),
    StableHlo.binary main_while0b_v118 main_while0b_cst_38 main_while0b_v119 ((fun x v => Host.reduceAdd x v reducesTo_S5x768_S5_d1 h_S_) : (⟨S5x768, .f32⟩ : BufTy).Contents (Elt F) → (⟨S_, .f32⟩ : BufTy).Contents (Elt F) → (⟨S5, .f32⟩ : BufTy).Contents (Elt F)),
    StableHlo.unary main_while0b_v119 main_while0b_v120 (broadcastInDim S1x5 ![1] bcast_S5_S1x5_1 : (⟨S5, .f32⟩ : BufTy).Contents (Elt F) → (⟨S1x5, .f32⟩ : BufTy).Contents (Elt F)),
    StableHlo.unary main_while0b_v120 main_while0b_v121 (broadcastInDim S576x5 ![0, 1] bcast_S1x5_S576x5_0_1 : (⟨S1x5, .f32⟩ : BufTy).Contents (Elt F) → (⟨S576x5, .f32⟩ : BufTy).Contents (Elt F)),
    StableHlo.binary main_while0b_v117 main_while0b_v121 main_while0b_v122 (addf : (⟨S576x5, .f32⟩ : BufTy).Contents (Elt F) → (⟨S576x5, .f32⟩ : BufTy).Contents (Elt F) → (⟨S576x5, .f32⟩ : BufTy).Contents (Elt F)) ]
theorem while0Ops0_8_sub : (while0Ops0_8 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
abbrev while0Ops0_9 : List (HloOp τ sig (Elt F)) :=
  [ StableHlo.TRef.nullary (.of main_while0b_call4_v0 : StableHlo.TRef sig ⟨S576x5, .i32⟩) (iotaInDim S576x5 32 1),
    StableHlo.TRef.nullary (.of main_while0b_call4_cst : StableHlo.TRef sig ⟨S_, .f32⟩) (constant S_ .f32 0x7F800000#32),
    StableHlo.TRef.nullary (.of main_while0b_call4_c : StableHlo.TRef sig ⟨S_, .i32⟩) (constantI S_ 32 0#32),
    StableHlo.TRef.quaternary (.of main_while0b_v122 : StableHlo.TRef sig ⟨S576x5, .f32⟩) (.of main_while0b_call4_v0 : StableHlo.TRef sig ⟨S576x5, .i32⟩) (.of main_while0b_call4_cst : StableHlo.TRef sig ⟨S_, .f32⟩) (.of main_while0b_call4_c : StableHlo.TRef sig ⟨S_, .i32⟩) (.of main_while0b_call4_v1_0 : StableHlo.TRef sig ⟨S576, .f32⟩) (fun x y u v j => (Host.argReduce reducer_argmin_f32_i32 x y u v reducesTo_S576x5_S576_d1 h_S_ j).1),
    StableHlo.TRef.quaternary (.of main_while0b_v122 : StableHlo.TRef sig ⟨S576x5, .f32⟩) (.of main_while0b_call4_v0 : StableHlo.TRef sig ⟨S576x5, .i32⟩) (.of main_while0b_call4_cst : StableHlo.TRef sig ⟨S_, .f32⟩) (.of main_while0b_call4_c : StableHlo.TRef sig ⟨S_, .i32⟩) (.of main_while0b_v123 : StableHlo.TRef sig ⟨S576, .i32⟩) (fun x y u v j => (Host.argReduce reducer_argmin_f32_i32 x y u v reducesTo_S576x5_S576_d1 h_S_ j).2) ]
theorem while0Ops0_9_sub : (while0Ops0_9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev while0Ops0_10 : List (HloOp τ sig (Elt F)) :=
  [ StableHlo.nullary main_while0b_cst_39 (constant S_ .f32 0x00000000#32),
    StableHlo.unary main_while0b_cst_39 main_while0b_v124 (broadcastInDim S5x768 ![] bcast_S_S5x768 : (⟨S_, .f32⟩ : BufTy).Contents (Elt F) → (⟨S5x768, .f32⟩ : BufTy).Contents (Elt F)),
    StableHlo.nullary main_while0b_c_40 (constantI S_ 32 0#32),
    StableHlo.unary main_while0b_c_40 main_while0b_v125 (broadcastInDim S576 ![] bcast_S_S576 : (⟨S_, .i32⟩ : BufTy).Contents (Elt F) → (⟨S576, .i32⟩ : BufTy).Contents (Elt F)),
    StableHlo.binary main_while0b_v123 main_while0b_v125 main_while0b_v126 (cmpi .slt : (⟨S576, .i32⟩ : BufTy).Contents (Elt F) → (⟨S576, .i32⟩ : BufTy).Contents (Elt F) → (⟨S576, .i1⟩ : BufTy).Contents (Elt F)),
    StableHlo.nullary main_while0b_c_41 (constantI S_ 32 5#32),
    StableHlo.unary main_while0b_c_41 main_while0b_v127 (broadcastInDim S576 ![] bcast_S_S576 : (⟨S_, .i32⟩ : BufTy).Contents (Elt F) → (⟨S576, .i32⟩ : BufTy).Contents (Elt F)),
    StableHlo.binary main_while0b_v123 main_while0b_v127 main_while0b_v128 (addi : (⟨S576, .i32⟩ : BufTy).Contents (Elt F) → (⟨S576, .i32⟩ : BufTy).Contents (Elt F) → (⟨S576, .i32⟩ : BufTy).Contents (Elt F)),
    StableHlo.ternary main_while0b_v126 main_while0b_v128 main_while0b_v123 main_while0b_v129 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v129 main_while0b_v130 (broadcastInDim S576x1 ![0] bcast_S576_S576x1_0 : (⟨S576, .i32⟩ : BufTy).Contents (Elt F) → (⟨S576x1, .i32⟩ : BufTy).Contents (Elt F)),
    StableHlo.ternary main_while0b_v124 main_while0b_v130 main_v28_2 main_while0b_v131 ((fun x i u => Host.scatterAdd scatter_S5x768_S576x1_S576x768_1_0_0_1 x i u) : (⟨S5x768, .f32⟩ : BufTy).Contents (Elt F) → (⟨S576x1, .i32⟩ : BufTy).Contents (Elt F) → (⟨S576x768, .f32⟩ : BufTy).Contents (Elt F) → (⟨S5x768, .f32⟩ : BufTy).Contents (Elt F)),
    StableHlo.nullary main_while0b_cst_42 (constant S_ .f32 0x00000000#32),
    StableHlo.unary main_while0b_cst_42 main_while0b_v132 (broadcastInDim S5 ![] bcast_S_S5 : (⟨S_, .f32⟩ : BufTy).Contents (Elt F) → (⟨S5, .f32⟩ : BufTy).Contents (Elt F)),
    StableHlo.nullary main_while0b_c_43 (constantI S_ 32 0#32),
    StableHlo.unary main_while0b_c_43 main_while0b_v133 (broadcastInDim S576 ![] bcast_S_S576 : (⟨S_, .i32⟩ : BufTy).Contents (Elt F) → (⟨S576, .i32⟩ : BufTy).Contents (Elt F)),
    StableHlo.binary main_while0b_v123 main_while0b_v133 main_while0b_v134 (cmpi .slt : (⟨S576, .i32⟩ : BufTy).Contents (Elt F) → (⟨S576, .i32⟩ : BufTy).Contents (Elt F) → (⟨S576, .i1⟩ : BufTy).Contents (Elt F)),
    StableHlo.nullary main_while0b_c_44 (constantI S_ 32 5#32),
    StableHlo.unary main_while0b_c_44 main_while0b_v135 (broadcastInDim S576 ![] bcast_S_S576 : (⟨S_, .i32⟩ : BufTy).Contents (Elt F) → (⟨S576, .i32⟩ : BufTy).Contents (Elt F)),
    StableHlo.binary main_while0b_v123 main_while0b_v135 main_while0b_v136 (addi : (⟨S576, .i32⟩ : BufTy).Contents (Elt F) → (⟨S576, .i32⟩ : BufTy).Contents (Elt F) → (⟨S576, .i32⟩ : BufTy).Contents (Elt F)),
    StableHlo.ternary main_while0b_v134 main_while0b_v136 main_while0b_v123 main_while0b_v137 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v137 main_while0b_v138 (broadcastInDim S576x1 ![0] bcast_S576_S576x1_0 : (⟨S576, .i32⟩ : BufTy).Contents (Elt F) → (⟨S576x1, .i32⟩ : BufTy).Contents (Elt F)),
    StableHlo.nullary main_while0b_cst_45 (constant S_ .f32 0x3F800000#32),
    StableHlo.unary main_while0b_cst_45 main_while0b_v139 (broadcastInDim S576 ![] bcast_S_S576 : (⟨S_, .f32⟩ : BufTy).Contents (Elt F) → (⟨S576, .f32⟩ : BufTy).Contents (Elt F)),
    StableHlo.ternary main_while0b_v132 main_while0b_v138 main_while0b_v139 main_while0b_v140 ((fun x i u => Host.scatterAdd scatter_S5_S576x1_S576_n_0_0_1 x i u) : (⟨S5, .f32⟩ : BufTy).Contents (Elt F) → (⟨S576x1, .i32⟩ : BufTy).Contents (Elt F) → (⟨S576, .f32⟩ : BufTy).Contents (Elt F) → (⟨S5, .f32⟩ : BufTy).Contents (Elt F)),
    StableHlo.unary main_while0b_v140 main_while0b_v141 (broadcastInDim S5x1 ![0] bcast_S5_S5x1_0 : (⟨S5, .f32⟩ : BufTy).Contents (Elt F) → (⟨S5x1, .f32⟩ : BufTy).Contents (Elt F)),
    StableHlo.nullary main_while0b_cst_46 (constant S_ .f32 0x3F800000#32) ]
theorem while0Ops0_10_sub : (while0Ops0_10 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.unary_bufs_sub .., StableHlo.nullary_bufs_sub ..⟩
abbrev while0Ops0_11 : List (HloOp τ sig (Elt F)) :=
  [ StableHlo.TRef.unary (.of main_while0b_cst_46 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S5x1, .f32⟩) (broadcastInDim S5x1 ![] bcast_S_S5x1),
    StableHlo.TRef.binary (.of main_while0b_call5_v1 : StableHlo.TRef sig ⟨S5x1, .f32⟩) (.of main_while0b_v141 : StableHlo.TRef sig ⟨S5x1, .f32⟩) (.of main_while0b_v142 : StableHlo.TRef sig ⟨S5x1, .f32⟩) maximumf ]
theorem while0Ops0_11_sub : (while0Ops0_11 : List (HloOp τ sig (Elt F))).Forall fun op => op.bufs ⊆ StableHlo.tcRefs τ sig :=
  ⟨StableHlo.unary_bufs_sub .., StableHlo.unary_bufs_sub .., StableHlo.binary_bufs_sub ..⟩
abbrev while0Ops0_12 : List (HloOp τ sig (Elt F)) :=
  [ StableHlo.unary main_while0b_v142 main_while0b_v143 (broadcastInDim S5x768 ![0, 1] bcast_S5x1_S5x768_0_1 : (⟨S5x1, .f32⟩ : BufTy).Contents (Elt F) → (⟨S5x768, .f32⟩ : BufTy).Contents (Elt F)),
    StableHlo.binary main_while0b_v131 main_while0b_v143 main_while0b_v144 (Host.divf : (⟨S5x768, .f32⟩ : BufTy).Contents (Elt F) → (⟨S5x768, .f32⟩ : BufTy).Contents (Elt F) → (⟨S5x768, .f32⟩ : BufTy).Contents (Elt F)),
    StableHlo.nullary main_while0b_c_47 (constantI S_ 32 1#32),
    StableHlo.binary main_v28_3 main_while0b_c_47 main_while0b_v145 (addi : (⟨S_, .i32⟩ : BufTy).Contents (Elt F) → (⟨S_, .i32⟩ : BufTy).Contents (Elt F) → (⟨S_, .i32⟩ : BufTy).Contents (Elt F)),
    StableHlo.unary main_while0b_v145 main_v28_3 id,
    StableHlo.unary main_while0b_v36 main_v28_4 id,
    StableHlo.unary main_while0b_v72 main_v28_5 id,
    StableHlo.unary main_while0b_v108 main_v28_6 id,
    StableHlo.unary main_while0b_v144 main_v28_7 id ]
theorem while0Ops0_12_sub : (while0Ops0_12 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.ReferenceIdeal.Fold

end
-- ==== Proof.RefLoop.lean ====
/- The reference program's run as a fold: ten trips of the loop body between the two stretches. What each
   stretch writes, the trip counter's value before every test, the test, and the run itself (`run_fold`). -/
module

public import proofs.«01_k».proof.Proof.RefOps

@[expose] public section

set_option maxRecDepth 1392

noncomputable section

namespace Cert.ReferenceIdeal.Trip

open Cert.ReferenceIdeal Cert.ReferenceIdeal.Gen Cert.ReferenceIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem hostOps0_fresh : (hostOps0 : List (HloOp τ sig (Elt F))).Forall fun op => op.fresh = ∅ :=
  StableHlo.forall_fresh_of_map rfl
abbrev hostOps0_W : List (Ref sig .tc) := [main_v0, main_v1, main_v2, main_v3, main_v4, main_v5, main_cst, main_v6, main_cst_0, main_v7, main_v8, main_cst_1, main_v9, main_cst_2, main_v10, main_v11, main_cst_3, main_v12, main_cst_4, main_v13, main_v14, main_v15, main_v16, main_v17, main_v18, main_v19, main_v20, main_v21, main_v22, main_v23, main_v24, main_v25, main_v26, main_v27, main_c, main_c_5, main_v28_0, main_v28_1, main_v28_2, main_v28_3, main_v28_4, main_v28_5, main_v28_6, main_v28_7]
theorem hostOps0_writes : (hostOps0 : List (HloOp τ sig (Elt F))).Forall fun op => op.writes ⊆ (hostOps0_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_c_13, main_while0b_v36, main_while0b_v37, main_while0b_cst_14, main_while0b_v38, main_while0b_v39, main_while0b_v40, main_while0b_v41, main_while0b_cst_15, main_while0b_v42, main_while0b_v43, main_while0b_v44, main_while0b_v45, main_while0b_v46, main_while0b_cst_16, main_while0b_v47, main_while0b_v48, main_while0b_v49, main_while0b_v50]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_call0_v0, main_while0b_call0_cst, main_while0b_call0_c, main_while0b_call0_v1_0, main_while0b_v51]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_cst_17, main_while0b_v52, main_while0b_c_18, main_while0b_v53, main_while0b_v54, main_while0b_c_19, main_while0b_v55, main_while0b_v56, main_while0b_v57, main_while0b_v58, main_while0b_v59, main_while0b_cst_20, main_while0b_v60, main_while0b_c_21, main_while0b_v61, main_while0b_v62, main_while0b_c_22, main_while0b_v63, main_while0b_v64, main_while0b_v65, main_while0b_v66, main_while0b_cst_23, main_while0b_v67, main_while0b_v68, main_while0b_v69, main_while0b_cst_24]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_call1_v0, main_while0b_call1_v1, main_while0b_v70]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_4_fresh : (while0Ops0_4 : List (HloOp τ sig (Elt F))).Forall fun op => op.fresh = ∅ :=
  StableHlo.forall_fresh_of_map rfl
abbrev while0Ops0_4_W : List (Ref sig .tc) := [main_while0b_v71, main_while0b_v72, main_while0b_v73, main_while0b_cst_25, main_while0b_v74, main_while0b_v75, main_while0b_v76, main_while0b_v77, main_while0b_cst_26, main_while0b_v78, main_while0b_v79, main_while0b_v80, main_while0b_v81, main_while0b_v82, main_while0b_cst_27, main_while0b_v83, main_while0b_v84, main_while0b_v85, main_while0b_v86]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_5_fresh : (while0Ops0_5 : List (HloOp τ sig (Elt F))).Forall fun op => op.fresh = ∅ :=
  StableHlo.forall_fresh_of_map rfl
abbrev while0Ops0_5_W : List (Ref sig .tc) := [main_while0b_call2_v0, main_while0b_call2_cst, main_while0b_call2_c, main_while0b_call2_v1_0, main_while0b_v87]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem while0Ops0_6_fresh : (while0Ops0_6 : List (HloOp τ sig (Elt F))).Forall fun op => op.fresh = ∅ :=
  StableHlo.forall_fresh_of_map rfl
abbrev while0Ops0_6_W : List (Ref sig .tc) := [main_while0b_cst_28, main_while0b_v88, main_while0b_c_29, main_while0b_v89, main_while0b_v90, main_while0b_c_30, main_while0b_v91, main_while0b_v92, main_while0b_v93, main_while0b_v94, main_while0b_v95, main_while0b_cst_31, main_while0b_v96, main_while0b_c_32, main_while0b_v97, main_while0b_v98, main_while0b_c_33, main_while0b_v99, main_while0b_v100, main_while0b_v101, main_while0b_v102, main_while0b_cst_34, main_while0b_v103, main_while0b_v104, main_while0b_v105, main_while0b_cst_35]
theorem while0Ops0_6_writes : (while0Ops0_6 : List (HloOp τ sig (Elt F))).Forall fun op => op.writes ⊆ (while0Ops0_6_W.map (Proc.devRef (τ := τ) .tc)).toFinset :=
  StableHlo.forall_writes_sub_of_map rfl
theorem while0Ops0_7_fresh : (while0Ops0_7 : List (HloOp τ sig (Elt F))).Forall fun op => op.fresh = ∅ :=
  StableHlo.forall_fresh_of_map rfl
abbrev while0Ops0_7_W : List (Ref sig .tc) := [main_while0b_call3_v0, main_while0b_call3_v1, main_while0b_v106]
theorem while0Ops0_7_writes : (while0Ops0_7 : List (HloOp τ sig (Elt F))).Forall fun op => op.writes ⊆ (while0Ops0_7_W.map (Proc.devRef (τ := τ) .tc)).toFinset :=
  StableHlo.forall_writes_sub_of_map rfl
theorem while0Ops0_8_fresh : (while0Ops0_8 : List (HloOp τ sig (Elt F))).Forall fun op => op.fresh = ∅ :=
  StableHlo.forall_fresh_of_map rfl
abbrev while0Ops0_8_W : List (Ref sig .tc) := [main_while0b_v107, main_while0b_v108, main_while0b_v109, main_while0b_cst_36, main_while0b_v110, main_while0b_v111, main_while0b_v112, main_while0b_v113, main_while0b_cst_37, main_while0b_v114, main_while0b_v115, main_while0b_v116, main_while0b_v117, main_while0b_v118, main_while0b_cst_38, main_while0b_v119, main_while0b_v120, main_while0b_v121, main_while0b_v122]
theorem while0Ops0_8_writes : (while0Ops0_8 : List (HloOp τ sig (Elt F))).Forall fun op => op.writes ⊆ (while0Ops0_8_W.map (Proc.devRef (τ := τ) .tc)).toFinset :=
  StableHlo.forall_writes_sub_of_map rfl
theorem while0Ops0_9_fresh : (while0Ops0_9 : List (HloOp τ sig (Elt F))).Forall fun op => op.fresh = ∅ :=
  StableHlo.forall_fresh_of_map rfl
abbrev while0Ops0_9_W : List (Ref sig .tc) := [main_while0b_call4_v0, main_while0b_call4_cst, main_while0b_call4_c, main_while0b_call4_v1_0, main_while0b_v123]
theorem while0Ops0_9_writes : (while0Ops0_9 : List (HloOp τ sig (Elt F))).Forall fun op => op.writes ⊆ (while0Ops0_9_W.map (Proc.devRef (τ := τ) .tc)).toFinset :=
  StableHlo.forall_writes_sub_of_map rfl
theorem while0Ops0_10_fresh : (while0Ops0_10 : List (HloOp τ sig (Elt F))).Forall fun op => op.fresh = ∅ :=
  StableHlo.forall_fresh_of_map rfl
abbrev while0Ops0_10_W : List (Ref sig .tc) := [main_while0b_cst_39, main_while0b_v124, main_while0b_c_40, main_while0b_v125, main_while0b_v126, main_while0b_c_41, main_while0b_v127, main_while0b_v128, main_while0b_v129, main_while0b_v130, main_while0b_v131, main_while0b_cst_42, main_while0b_v132, main_while0b_c_43, main_while0b_v133, main_while0b_v134, main_while0b_c_44, main_while0b_v135, main_while0b_v136, main_while0b_v137, main_while0b_v138, main_while0b_cst_45, main_while0b_v139, main_while0b_v140, main_while0b_v141, main_while0b_cst_46]
theorem while0Ops0_10_writes : (while0Ops0_10 : List (HloOp τ sig (Elt F))).Forall fun op => op.writes ⊆ (while0Ops0_10_W.map (Proc.devRef (τ := τ) .tc)).toFinset :=
  StableHlo.forall_writes_sub_of_map rfl
theorem while0Ops0_11_fresh : (while0Ops0_11 : List (HloOp τ sig (Elt F))).Forall fun op => op.fresh = ∅ :=
  StableHlo.forall_fresh_of_map rfl
abbrev while0Ops0_11_W : List (Ref sig .tc) := [main_while0b_call5_v0, main_while0b_call5_v1, main_while0b_v142]
theorem while0Ops0_11_writes : (while0Ops0_11 : List (HloOp τ sig (Elt F))).Forall fun op => op.writes ⊆ (while0Ops0_11_W.map (Proc.devRef (τ := τ) .tc)).toFinset :=
  StableHlo.forall_writes_sub_of_map rfl
theorem while0Ops0_12_fresh : (while0Ops0_12 : List (HloOp τ sig (Elt F))).Forall fun op => op.fresh = ∅ :=
  StableHlo.forall_fresh_of_map rfl
abbrev while0Ops0_12_W : List (Ref sig .tc) := [main_while0b_v143, main_while0b_v144, main_while0b_c_47, main_while0b_v145, main_v28_3, main_v28_4, main_v28_5, main_v28_6, main_v28_7]
theorem while0Ops0_12_writes : (while0Ops0_12 : List (HloOp τ sig (Elt F))).Forall fun op => op.writes ⊆ (while0Ops0_12_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
abbrev hostOps0_1_W : List (Ref sig .tc) := [main_v29, main_v30, main_v31, main_v32, main_v33, main_v34, main_v35]
theorem hostOps0_1_writes : (hostOps0_1 : List (HloOp τ sig (Elt F))).Forall fun op => op.writes ⊆ (hostOps0_1_W.map (Proc.devRef (τ := τ) .tc)).toFinset :=
  StableHlo.forall_writes_sub_of_map rfl

abbrev condOps : List (HloOp τ sig (Elt F)) :=
  [ StableHlo.nullary main_while0c_c_13 (constantI S_ 32 10#32),
    StableHlo.binary main_v28_3 main_while0c_c_13 main_while0c_v36 (cmpi .slt) ]

abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.cons while0Ops0_12_sub (hf := List.forall_iff_forall_mem.mp while0Ops0_12_fresh) (.nil)))))))))))))
theorem hpost : Plain (postI (F := F)) := .cons hostOps0_1_sub (hf := List.forall_iff_forall_mem.mp hostOps0_1_fresh) (.nil)

abbrev condOps_W : List (Ref sig .tc) := [main_while0c_c_13, main_while0c_v36]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

abbrev atK (k : ℕ) (c : Dev nD) : Valuation τ sig (Elt F) := atTrip condOps bodyI (entryContents preI m) k c

theorem ctr_cond (V : Valuation τ sig (Elt F)) : after condOps V (Proc.devRef .tc main_v28_3) = V (Proc.devRef .tc main_v28_3) :=
  after_of_writes_sub condOps V condOps_writes (by decide +kernel)
theorem ctr_while0Ops0 (V : Valuation τ sig (Elt F)) : after while0Ops0 V (Proc.devRef .tc main_v28_3) = V (Proc.devRef .tc main_v28_3) :=
  after_of_writes_sub while0Ops0 V while0Ops0_writes (by decide +kernel)
theorem ctr_while0Ops0_1 (V : Valuation τ sig (Elt F)) : after while0Ops0_1 V (Proc.devRef .tc main_v28_3) = V (Proc.devRef .tc main_v28_3) :=
  after_of_writes_sub while0Ops0_1 V while0Ops0_1_writes (by decide +kernel)
theorem ctr_while0Ops0_2 (V : Valuation τ sig (Elt F)) : after while0Ops0_2 V (Proc.devRef .tc main_v28_3) = V (Proc.devRef .tc main_v28_3) :=
  after_of_writes_sub while0Ops0_2 V while0Ops0_2_writes (by decide +kernel)
theorem ctr_while0Ops0_3 (V : Valuation τ sig (Elt F)) : after while0Ops0_3 V (Proc.devRef .tc main_v28_3) = V (Proc.devRef .tc main_v28_3) :=
  after_of_writes_sub while0Ops0_3 V while0Ops0_3_writes (by decide +kernel)
theorem ctr_while0Ops0_4 (V : Valuation τ sig (Elt F)) : after while0Ops0_4 V (Proc.devRef .tc main_v28_3) = V (Proc.devRef .tc main_v28_3) :=
  after_of_writes_sub while0Ops0_4 V while0Ops0_4_writes (by decide +kernel)
theorem ctr_while0Ops0_5 (V : Valuation τ sig (Elt F)) : after while0Ops0_5 V (Proc.devRef .tc main_v28_3) = V (Proc.devRef .tc main_v28_3) :=
  after_of_writes_sub while0Ops0_5 V while0Ops0_5_writes (by decide +kernel)
theorem ctr_while0Ops0_6 (V : Valuation τ sig (Elt F)) : after while0Ops0_6 V (Proc.devRef .tc main_v28_3) = V (Proc.devRef .tc main_v28_3) :=
  after_of_writes_sub while0Ops0_6 V while0Ops0_6_writes (by decide +kernel)
theorem ctr_while0Ops0_7 (V : Valuation τ sig (Elt F)) : after while0Ops0_7 V (Proc.devRef .tc main_v28_3) = V (Proc.devRef .tc main_v28_3) :=
  after_of_writes_sub while0Ops0_7 V while0Ops0_7_writes (by decide +kernel)
theorem ctr_while0Ops0_8 (V : Valuation τ sig (Elt F)) : after while0Ops0_8 V (Proc.devRef .tc main_v28_3) = V (Proc.devRef .tc main_v28_3) :=
  after_of_writes_sub while0Ops0_8 V while0Ops0_8_writes (by decide +kernel)
theorem ctr_while0Ops0_9 (V : Valuation τ sig (Elt F)) : after while0Ops0_9 V (Proc.devRef .tc main_v28_3) = V (Proc.devRef .tc main_v28_3) :=
  after_of_writes_sub while0Ops0_9 V while0Ops0_9_writes (by decide +kernel)
theorem ctr_while0Ops0_10 (V : Valuation τ sig (Elt F)) : after while0Ops0_10 V (Proc.devRef .tc main_v28_3) = V (Proc.devRef .tc main_v28_3) :=
  after_of_writes_sub while0Ops0_10 V while0Ops0_10_writes (by decide +kernel)
theorem ctr_while0Ops0_11 (V : Valuation τ sig (Elt F)) : after while0Ops0_11 V (Proc.devRef .tc main_v28_3) = V (Proc.devRef .tc main_v28_3) :=
  after_of_writes_sub while0Ops0_11 V while0Ops0_11_writes (by decide +kernel)

abbrev trip_w0 : List (HloOp τ sig (Elt F)) :=
  [ StableHlo.nullary main_while0b_c_13 (constantI S_ 32 1#32),
    StableHlo.binary main_v28_4 main_while0b_c_13 main_while0b_v36 (addi : (⟨S_, .i32⟩ : BufTy).Contents (Elt F) → (⟨S_, .i32⟩ : BufTy).Contents (Elt F) → (⟨S_, .i32⟩ : BufTy).Contents (Elt F)),
    StableHlo.binary main_v28_0 main_v28_0 main_while0b_v37 (mulf : (⟨S576x768, .f32⟩ : BufTy).Contents (Elt F) → (⟨S576x768, .f32⟩ : BufTy).Contents (Elt F) → (⟨S576x768, .f32⟩ : BufTy).Contents (Elt F)),
    StableHlo.nullary main_while0b_cst_14 (constant S_ .f32 0x00000000#32),
    StableHlo.binary main_while0b_v37 main_while0b_cst_14 main_while0b_v38 ((fun x v => Host.reduceAdd x v reducesTo_S576x768_S576_d1 h_S_) : (⟨S576x768, .f32⟩ : BufTy).Contents (Elt F) → (⟨S_, .f32⟩ : BufTy).Contents (Elt F) → (⟨S576, .f32⟩ : BufTy).Contents (Elt F)),
    StableHlo.unary main_while0b_v38 main_while0b_v39 (broadcastInDim S576x1 ![0] bcast_S576_S576x1_0 : (⟨S576, .f32⟩ : BufTy).Contents (Elt F) → (⟨S576x1, .f32⟩ : BufTy).Contents (Elt F)),
    StableHlo.unary main_v28_5 main_while0b_v40 ((transpose S768x5 [1, 0] · transposes_S5x768_S768x5_1_0) : (⟨S5x768, .f32⟩ : BufTy).Contents (Elt F) → (⟨S768x5, .f32⟩ : BufTy).Contents (Elt F)),
    StableHlo.binary main_v28_0 main_while0b_v40 main_while0b_v41 ((fun l r => Host.dotGeneral dot_S576x768_S768x5_S576x5_1_0_0_1_n_n none l r) : (⟨S576x768, .f32⟩ : BufTy).Contents (Elt F) → (⟨S768x5, .f32⟩ : BufTy).Contents (Elt F) → (⟨S576x5, .f32⟩ : BufTy).Contents (Elt F)),
    StableHlo.nullary main_while0b_cst_15 (constant S_ .f32 0x40000000#32),
    StableHlo.unary main_while0b_cst_15 main_while0b_v42 (broadcastInDim S576x5 ![] bcast_S_S576x5 : (⟨S_, .f32⟩ : BufTy).Contents (Elt F) → (⟨S576x5, .f32⟩ : BufTy).Contents (Elt F)),
    StableHlo.binary main_while0b_v42 main_while0b_v41 main_while0b_v43 (mulf : (⟨S576x5, .f32⟩ : BufTy).Contents (Elt F) → (⟨S576x5, .f32⟩ : BufTy).Contents (Elt F) → (⟨S576x5, .f32⟩ : BufTy).Contents (Elt F)),
    StableHlo.unary main_while0b_v39 main_while0b_v44 (broadcastInDim S576x5 ![0, 1] bcast_S576x1_S576x5_0_1 : (⟨S576x1, .f32⟩ : BufTy).Contents (Elt F) → (⟨S576x5, .f32⟩ : BufTy).Contents (Elt F)),
    StableHlo.binary main_while0b_v44 main_while0b_v43 main_while0b_v45 (subf : (⟨S576x5, .f32⟩ : BufTy).Contents (Elt F) → (⟨S576x5, .f32⟩ : BufTy).Contents (Elt F) → (⟨S576x5, .f32⟩ : BufTy).Contents (Elt F)),
    StableHlo.binary main_v28_5 main_v28_5 main_while0b_v46 (mulf : (⟨S5x768, .f32⟩ : BufTy).Contents (Elt F) → (⟨S5x768, .f32⟩ : BufTy).Contents (Elt F) → (⟨S5x768, .f32⟩ : BufTy).Contents (Elt F)),
    StableHlo.nullary main_while0b_cst_16 (constant S_ .f32 0x00000000#32),
    StableHlo.binary main_while0b_v46 main_while0b_cst_16 main_while0b_v47 ((fun x v => Host.reduceAdd x v reducesTo_S5x768_S5_d1 h_S_) : (⟨S5x768, .f32⟩ : BufTy).Contents (Elt F) → (⟨S_, .f32⟩ : BufTy).Contents (Elt F) → (⟨S5, .f32⟩ : BufTy).Contents (Elt F)),
    StableHlo.unary main_while0b_v47 main_while0b_v48 (broadcastInDim S1x5 ![1] bcast_S5_S1x5_1 : (⟨S5, .f32⟩ : BufTy).Contents (Elt F) → (⟨S1x5, .f32⟩ : BufTy).Contents (Elt F)),
    StableHlo.unary main_while0b_v48 main_while0b_v49 (broadcastInDim S576x5 ![0, 1] bcast_S1x5_S576x5_0_1 : (⟨S1x5, .f32⟩ : BufTy).Contents (Elt F) → (⟨S576x5, .f32⟩ : BufTy).Contents (Elt F)),
    StableHlo.binary main_while0b_v45 main_while0b_v49 main_while0b_v50 (addf : (⟨S576x5, .f32⟩ : BufTy).Contents (Elt F) → (⟨S576x5, .f32⟩ : BufTy).Contents (Elt F) → (⟨S576x5, .f32⟩ : BufTy).Contents (Elt F)) ]

abbrev trip_w1 : List (HloOp τ sig (Elt F)) :=
  [ StableHlo.TRef.nullary (.of main_while0b_call0_v0 : StableHlo.TRef sig ⟨S576x5, .i32⟩) (iotaInDim S576x5 32 1),
    StableHlo.TRef.nullary (.of main_while0b_call0_cst : StableHlo.TRef sig ⟨S_, .f32⟩) (constant S_ .f32 0x7F800000#32),
    StableHlo.TRef.nullary (.of main_while0b_call0_c : StableHlo.TRef sig ⟨S_, .i32⟩) (constantI S_ 32 0#32),
    StableHlo.TRef.quaternary (.of main_while0b_v50 : StableHlo.TRef sig ⟨S576x5, .f32⟩) (.of main_while0b_call0_v0 : StableHlo.TRef sig ⟨S576x5, .i32⟩) (.of main_while0b_call0_cst : StableHlo.TRef sig ⟨S_, .f32⟩) (.of main_while0b_call0_c : StableHlo.TRef sig ⟨S_, .i32⟩) (.of main_while0b_call0_v1_0 : StableHlo.TRef sig ⟨S576, .f32⟩) (fun x y u v j => (Host.argReduce reducer_argmin_f32_i32 x y u v reducesTo_S576x5_S576_d1 h_S_ j).1),
    StableHlo.TRef.quaternary (.of main_while0b_v50 : StableHlo.TRef sig ⟨S576x5, .f32⟩) (.of main_while0b_call0_v0 : StableHlo.TRef sig ⟨S576x5, .i32⟩) (.of main_while0b_call0_cst : StableHlo.TRef sig ⟨S_, .f32⟩) (.of main_while0b_call0_c : StableHlo.TRef sig ⟨S_, .i32⟩) (.of main_while0b_v51 : StableHlo.TRef sig ⟨S576, .i32⟩) (fun x y u v j => (Host.argReduce reducer_argmin_f32_i32 x y u v reducesTo_S576x5_S576_d1 h_S_ j).2) ]

abbrev trip_w2 : List (HloOp τ sig (Elt F)) :=
  [ StableHlo.nullary main_while0b_cst_17 (constant S_ .f32 0x00000000#32),
    StableHlo.unary main_while0b_cst_17 main_while0b_v52 (broadcastInDim S5x768 ![] bcast_S_S5x768 : (⟨S_, .f32⟩ : BufTy).Contents (Elt F) → (⟨S5x768, .f32⟩ : BufTy).Contents (Elt F)),
    StableHlo.nullary main_while0b_c_18 (constantI S_ 32 0#32),
    StableHlo.unary main_while0b_c_18 main_while0b_v53 (broadcastInDim S576 ![] bcast_S_S576 : (⟨S_, .i32⟩ : BufTy).Contents (Elt F) → (⟨S576, .i32⟩ : BufTy).Contents (Elt F)),
    StableHlo.binary main_while0b_v51 main_while0b_v53 main_while0b_v54 (cmpi .slt : (⟨S576, .i32⟩ : BufTy).Contents (Elt F) → (⟨S576, .i32⟩ : BufTy).Contents (Elt F) → (⟨S576, .i1⟩ : BufTy).Contents (Elt F)),
    StableHlo.nullary main_while0b_c_19 (constantI S_ 32 5#32),
    StableHlo.unary main_while0b_c_19 main_while0b_v55 (broadcastInDim S576 ![] bcast_S_S576 : (⟨S_, .i32⟩ : BufTy).Contents (Elt F) → (⟨S576, .i32⟩ : BufTy).Contents (Elt F)),
    StableHlo.binary main_while0b_v51 main_while0b_v55 main_while0b_v56 (addi : (⟨S576, .i32⟩ : BufTy).Contents (Elt F) → (⟨S576, .i32⟩ : BufTy).Contents (Elt F) → (⟨S576, .i32⟩ : BufTy).Contents (Elt F)),
    StableHlo.ternary main_while0b_v54 main_while0b_v56 main_while0b_v51 main_while0b_v57 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v57 main_while0b_v58 (broadcastInDim S576x1 ![0] bcast_S576_S576x1_0 : (⟨S576, .i32⟩ : BufTy).Contents (Elt F) → (⟨S576x1, .i32⟩ : BufTy).Contents (Elt F)),
    StableHlo.ternary main_while0b_v52 main_while0b_v58 main_v28_0 main_while0b_v59 ((fun x i u => Host.scatterAdd scatter_S5x768_S576x1_S576x768_1_0_0_1 x i u) : (⟨S5x768, .f32⟩ : BufTy).Contents (Elt F) → (⟨S576x1, .i32⟩ : BufTy).Contents (Elt F) → (⟨S576x768, .f32⟩ : BufTy).Contents (Elt F) → (⟨S5x768, .f32⟩ : BufTy).Contents (Elt F)),
    StableHlo.nullary main_while0b_cst_20 (constant S_ .f32 0x00000000#32),
    StableHlo.unary main_while0b_cst_20 main_while0b_v60 (broadcastInDim S5 ![] bcast_S_S5 : (⟨S_, .f32⟩ : BufTy).Contents (Elt F) → (⟨S5, .f32⟩ : BufTy).Contents (Elt F)),
    StableHlo.nullary main_while0b_c_21 (constantI S_ 32 0#32),
    StableHlo.unary main_while0b_c_21 main_while0b_v61 (broadcastInDim S576 ![] bcast_S_S576 : (⟨S_, .i32⟩ : BufTy).Contents (Elt F) → (⟨S576, .i32⟩ : BufTy).Contents (Elt F)),
    StableHlo.binary main_while0b_v51 main_while0b_v61 main_while0b_v62 (cmpi .slt : (⟨S576, .i32⟩ : BufTy).Contents (Elt F) → (⟨S576, .i32⟩ : BufTy).Contents (Elt F) → (⟨S576, .i1⟩ : BufTy).Contents (Elt F)),
    StableHlo.nullary main_while0b_c_22 (constantI S_ 32 5#32),
    StableHlo.unary main_while0b_c_22 main_while0b_v63 (broadcastInDim S576 ![] bcast_S_S576 : (⟨S_, .i32⟩ : BufTy).Contents (Elt F) → (⟨S576, .i32⟩ : BufTy).Contents (Elt F)),
    StableHlo.binary main_while0b_v51 main_while0b_v63 main_while0b_v64 (addi : (⟨S576, .i32⟩ : BufTy).Contents (Elt F) → (⟨S576, .i32⟩ : BufTy).Contents (Elt F) → (⟨S576, .i32⟩ : BufTy).Contents (Elt F)),
    StableHlo.ternary main_while0b_v62 main_while0b_v64 main_while0b_v51 main_while0b_v65 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v65 main_while0b_v66 (broadcastInDim S576x1 ![0] bcast_S576_S576x1_0 : (⟨S576, .i32⟩ : BufTy).Contents (Elt F) → (⟨S576x1, .i32⟩ : BufTy).Contents (Elt F)),
    StableHlo.nullary main_while0b_cst_23 (constant S_ .f32 0x3F800000#32),
    StableHlo.unary main_while0b_cst_23 main_while0b_v67 (broadcastInDim S576 ![] bcast_S_S576 : (⟨S_, .f32⟩ : BufTy).Contents (Elt F) → (⟨S576, .f32⟩ : BufTy).Contents (Elt F)),
    StableHlo.ternary main_while0b_v60 main_while0b_v66 main_while0b_v67 main_while0b_v68 ((fun x i u => Host.scatterAdd scatter_S5_S576x1_S576_n_0_0_1 x i u) : (⟨S5, .f32⟩ : BufTy).Contents (Elt F) → (⟨S576x1, .i32⟩ : BufTy).Contents (Elt F) → (⟨S576, .f32⟩ : BufTy).Contents (Elt F) → (⟨S5, .f32⟩ : BufTy).Contents (Elt F)) ]

abbrev trip_w3 : List (HloOp τ sig (Elt F)) :=
  [ StableHlo.unary main_while0b_v68 main_while0b_v69 (broadcastInDim S5x1 ![0] bcast_S5_S5x1_0 : (⟨S5, .f32⟩ : BufTy).Contents (Elt F) → (⟨S5x1, .f32⟩ : BufTy).Contents (Elt F)),
    StableHlo.nullary main_while0b_cst_24 (constant S_ .f32 0x3F800000#32) ]

abbrev trip_w4 : List (HloOp τ sig (Elt F)) :=
  [ StableHlo.TRef.unary (.of main_while0b_cst_24 : StableHlo.TRef sig ⟨S_, .f32⟩) (.of main_while0b_call1_v0 : StableHlo.TRef sig ⟨S_, .f32⟩) id,
    StableHlo.TRef.unary (.of main_while0b_call1_v0 : StableHlo.TRef sig ⟨S_, .f32⟩) (.of main_while0b_call1_v1 : StableHlo.TRef sig ⟨S5x1, .f32⟩) (broadcastInDim S5x1 ![] bcast_S_S5x1),
    StableHlo.TRef.binary (.of main_while0b_call1_v1 : StableHlo.TRef sig ⟨S5x1, .f32⟩) (.of main_while0b_v69 : StableHlo.TRef sig ⟨S5x1, .f32⟩) (.of main_while0b_v70 : StableHlo.TRef sig ⟨S5x1, .f32⟩) maximumf ]

abbrev trip_w5 : List (HloOp τ sig (Elt F)) :=
  [ StableHlo.unary main_while0b_v70 main_while0b_v71 (broadcastInDim S5x768 ![0, 1] bcast_S5x1_S5x768_0_1 : (⟨S5x1, .f32⟩ : BufTy).Contents (Elt F) → (⟨S5x768, .f32⟩ : BufTy).Contents (Elt F)),
    StableHlo.binary main_while0b_v59 main_while0b_v71 main_while0b_v72 (Host.divf : (⟨S5x768, .f32⟩ : BufTy).Contents (Elt F) → (⟨S5x768, .f32⟩ : BufTy).Contents (Elt F) → (⟨S5x768, .f32⟩ : BufTy).Contents (Elt F)),
    StableHlo.binary main_v28_1 main_v28_1 main_while0b_v73 (mulf : (⟨S576x768, .f32⟩ : BufTy).Contents (Elt F) → (⟨S576x768, .f32⟩ : BufTy).Contents (Elt F) → (⟨S576x768, .f32⟩ : BufTy).Contents (Elt F)),
    StableHlo.nullary main_while0b_cst_25 (constant S_ .f32 0x00000000#32),
    StableHlo.binary main_while0b_v73 main_while0b_cst_25 main_while0b_v74 ((fun x v => Host.reduceAdd x v reducesTo_S576x768_S576_d1 h_S_) : (⟨S576x768, .f32⟩ : BufTy).Contents (Elt F) → (⟨S_, .f32⟩ : BufTy).Contents (Elt F) → (⟨S576, .f32⟩ : BufTy).Contents (Elt F)),
    StableHlo.unary main_while0b_v74 main_while0b_v75 (broadcastInDim S576x1 ![0] bcast_S576_S576x1_0 : (⟨S576, .f32⟩ : BufTy).Contents (Elt F) → (⟨S576x1, .f32⟩ : BufTy).Contents (Elt F)),
    StableHlo.unary main_v28_6 main_while0b_v76 ((transpose S768x5 [1, 0] · transposes_S5x768_S768x5_1_0) : (⟨S5x768, .f32⟩ : BufTy).Contents (Elt F) → (⟨S768x5, .f32⟩ : BufTy).Contents (Elt F)),
    StableHlo.binary main_v28_1 main_while0b_v76 main_while0b_v77 ((fun l r => Host.dotGeneral dot_S576x768_S768x5_S576x5_1_0_0_1_n_n none l r) : (⟨S576x768, .f32⟩ : BufTy).Contents (Elt F) → (⟨S768x5, .f32⟩ : BufTy).Contents (Elt F) → (⟨S576x5, .f32⟩ : BufTy).Contents (Elt F)),
    StableHlo.nullary main_while0b_cst_26 (constant S_ .f32 0x40000000#32),
    StableHlo.unary main_while0b_cst_26 main_while0b_v78 (broadcastInDim S576x5 ![] bcast_S_S576x5 : (⟨S_, .f32⟩ : BufTy).Contents (Elt F) → (⟨S576x5, .f32⟩ : BufTy).Contents (Elt F)),
    StableHlo.binary main_while0b_v78 main_while0b_v77 main_while0b_v79 (mulf : (⟨S576x5, .f32⟩ : BufTy).Contents (Elt F) → (⟨S576x5, .f32⟩ : BufTy).Contents (Elt F) → (⟨S576x5, .f32⟩ : BufTy).Contents (Elt F)),
    StableHlo.unary main_while0b_v75 main_while0b_v80 (broadcastInDim S576x5 ![0, 1] bcast_S576x1_S576x5_0_1 : (⟨S576x1, .f32⟩ : BufTy).Contents (Elt F) → (⟨S576x5, .f32⟩ : BufTy).Contents (Elt F)),
    StableHlo.binary main_while0b_v80 main_while0b_v79 main_while0b_v81 (subf : (⟨S576x5, .f32⟩ : BufTy).Contents (Elt F) → (⟨S576x5, .f32⟩ : BufTy).Contents (Elt F) → (⟨S576x5, .f32⟩ : BufTy).Contents (Elt F)),
    StableHlo.binary main_v28_6 main_v28_6 main_while0b_v82 (mulf : (⟨S5x768, .f32⟩ : BufTy).Contents (Elt F) → (⟨S5x768, .f32⟩ : BufTy).Contents (Elt F) → (⟨S5x768, .f32⟩ : BufTy).Contents (Elt F)),
    StableHlo.nullary main_while0b_cst_27 (constant S_ .f32 0x00000000#32),
    StableHlo.binary main_while0b_v82 main_while0b_cst_27 main_while0b_v83 ((fun x v => Host.reduceAdd x v reducesTo_S5x768_S5_d1 h_S_) : (⟨S5x768, .f32⟩ : BufTy).Contents (Elt F) → (⟨S_, .f32⟩ : BufTy).Contents (Elt F) → (⟨S5, .f32⟩ : BufTy).Contents (Elt F)),
    StableHlo.unary main_while0b_v83 main_while0b_v84 (broadcastInDim S1x5 ![1] bcast_S5_S1x5_1 : (⟨S5, .f32⟩ : BufTy).Contents (Elt F) → (⟨S1x5, .f32⟩ : BufTy).Contents (Elt F)),
    StableHlo.unary main_while0b_v84 main_while0b_v85 (broadcastInDim S576x5 ![0, 1] bcast_S1x5_S576x5_0_1 : (⟨S1x5, .f32⟩ : BufTy).Contents (Elt F) → (⟨S576x5, .f32⟩ : BufTy).Contents (Elt F)),
    StableHlo.binary main_while0b_v81 main_while0b_v85 main_while0b_v86 (addf : (⟨S576x5, .f32⟩ : BufTy).Contents (Elt F) → (⟨S576x5, .f32⟩ : BufTy).Contents (Elt F) → (⟨S576x5, .f32⟩ : BufTy).Contents (Elt F)) ]

abbrev trip_w6 : List (HloOp τ sig (Elt F)) :=
  [ StableHlo.TRef.nullary (.of main_while0b_call2_v0 : StableHlo.TRef sig ⟨S576x5, .i32⟩) (iotaInDim S576x5 32 1),
    StableHlo.TRef.nullary (.of main_while0b_call2_cst : StableHlo.TRef sig ⟨S_, .f32⟩) (constant S_ .f32 0x7F800000#32),
    StableHlo.TRef.nullary (.of main_while0b_call2_c : StableHlo.TRef sig ⟨S_, .i32⟩) (constantI S_ 32 0#32),
    StableHlo.TRef.quaternary (.of main_while0b_v86 : StableHlo.TRef sig ⟨S576x5, .f32⟩) (.of main_while0b_call2_v0 : StableHlo.TRef sig ⟨S576x5, .i32⟩) (.of main_while0b_call2_cst : StableHlo.TRef sig ⟨S_, .f32⟩) (.of main_while0b_call2_c : StableHlo.TRef sig ⟨S_, .i32⟩) (.of main_while0b_call2_v1_0 : StableHlo.TRef sig ⟨S576, .f32⟩) (fun x y u v j => (Host.argReduce reducer_argmin_f32_i32 x y u v reducesTo_S576x5_S576_d1 h_S_ j).1),
    StableHlo.TRef.quaternary (.of main_while0b_v86 : StableHlo.TRef sig ⟨S576x5, .f32⟩) (.of main_while0b_call2_v0 : StableHlo.TRef sig ⟨S576x5, .i32⟩) (.of main_while0b_call2_cst : StableHlo.TRef sig ⟨S_, .f32⟩) (.of main_while0b_call2_c : StableHlo.TRef sig ⟨S_, .i32⟩) (.of main_while0b_v87 : StableHlo.TRef sig ⟨S576, .i32⟩) (fun x y u v j => (Host.argReduce reducer_argmin_f32_i32 x y u v reducesTo_S576x5_S576_d1 h_S_ j).2) ]

abbrev trip_w7 : List (HloOp τ sig (Elt F)) :=
  [ StableHlo.nullary main_while0b_cst_28 (constant S_ .f32 0x00000000#32),
    StableHlo.unary main_while0b_cst_28 main_while0b_v88 (broadcastInDim S5x768 ![] bcast_S_S5x768 : (⟨S_, .f32⟩ : BufTy).Contents (Elt F) → (⟨S5x768, .f32⟩ : BufTy).Contents (Elt F)),
    StableHlo.nullary main_while0b_c_29 (constantI S_ 32 0#32),
    StableHlo.unary main_while0b_c_29 main_while0b_v89 (broadcastInDim S576 ![] bcast_S_S576 : (⟨S_, .i32⟩ : BufTy).Contents (Elt F) → (⟨S576, .i32⟩ : BufTy).Contents (Elt F)),
    StableHlo.binary main_while0b_v87 main_while0b_v89 main_while0b_v90 (cmpi .slt : (⟨S576, .i32⟩ : BufTy).Contents (Elt F) → (⟨S576, .i32⟩ : BufTy).Contents (Elt F) → (⟨S576, .i1⟩ : BufTy).Contents (Elt F)),
    StableHlo.nullary main_while0b_c_30 (constantI S_ 32 5#32),
    StableHlo.unary main_while0b_c_30 main_while0b_v91 (broadcastInDim S576 ![] bcast_S_S576 : (⟨S_, .i32⟩ : BufTy).Contents (Elt F) → (⟨S576, .i32⟩ : BufTy).Contents (Elt F)),
    StableHlo.binary main_while0b_v87 main_while0b_v91 main_while0b_v92 (addi : (⟨S576, .i32⟩ : BufTy).Contents (Elt F) → (⟨S576, .i32⟩ : BufTy).Contents (Elt F) → (⟨S576, .i32⟩ : BufTy).Contents (Elt F)),
    StableHlo.ternary main_while0b_v90 main_while0b_v92 main_while0b_v87 main_while0b_v93 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v93 main_while0b_v94 (broadcastInDim S576x1 ![0] bcast_S576_S576x1_0 : (⟨S576, .i32⟩ : BufTy).Contents (Elt F) → (⟨S576x1, .i32⟩ : BufTy).Contents (Elt F)),
    StableHlo.ternary main_while0b_v88 main_while0b_v94 main_v28_1 main_while0b_v95 ((fun x i u => Host.scatterAdd scatter_S5x768_S576x1_S576x768_1_0_0_1 x i u) : (⟨S5x768, .f32⟩ : BufTy).Contents (Elt F) → (⟨S576x1, .i32⟩ : BufTy).Contents (Elt F) → (⟨S576x768, .f32⟩ : BufTy).Contents (Elt F) → (⟨S5x768, .f32⟩ : BufTy).Contents (Elt F)),
    StableHlo.nullary main_while0b_cst_31 (constant S_ .f32 0x00000000#32),
    StableHlo.unary main_while0b_cst_31 main_while0b_v96 (broadcastInDim S5 ![] bcast_S_S5 : (⟨S_, .f32⟩ : BufTy).Contents (Elt F) → (⟨S5, .f32⟩ : BufTy).Contents (Elt F)),
    StableHlo.nullary main_while0b_c_32 (constantI S_ 32 0#32),
    StableHlo.unary main_while0b_c_32 main_while0b_v97 (broadcastInDim S576 ![] bcast_S_S576 : (⟨S_, .i32⟩ : BufTy).Contents (Elt F) → (⟨S576, .i32⟩ : BufTy).Contents (Elt F)),
    StableHlo.binary main_while0b_v87 main_while0b_v97 main_while0b_v98 (cmpi .slt : (⟨S576, .i32⟩ : BufTy).Contents (Elt F) → (⟨S576, .i32⟩ : BufTy).Contents (Elt F) → (⟨S576, .i1⟩ : BufTy).Contents (Elt F)),
    StableHlo.nullary main_while0b_c_33 (constantI S_ 32 5#32),
    StableHlo.unary main_while0b_c_33 main_while0b_v99 (broadcastInDim S576 ![] bcast_S_S576 : (⟨S_, .i32⟩ : BufTy).Contents (Elt F) → (⟨S576, .i32⟩ : BufTy).Contents (Elt F)),
    StableHlo.binary main_while0b_v87 main_while0b_v99 main_while0b_v100 (addi : (⟨S576, .i32⟩ : BufTy).Contents (Elt F) → (⟨S576, .i32⟩ : BufTy).Contents (Elt F) → (⟨S576, .i32⟩ : BufTy).Contents (Elt F)),
    StableHlo.ternary main_while0b_v98 main_while0b_v100 main_while0b_v87 main_while0b_v101 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v101 main_while0b_v102 (broadcastInDim S576x1 ![0] bcast_S576_S576x1_0 : (⟨S576, .i32⟩ : BufTy).Contents (Elt F) → (⟨S576x1, .i32⟩ : BufTy).Contents (Elt F)),
    StableHlo.nullary main_while0b_cst_34 (constant S_ .f32 0x3F800000#32),
    StableHlo.unary main_while0b_cst_34 main_while0b_v103 (broadcastInDim S576 ![] bcast_S_S576 : (⟨S_, .f32⟩ : BufTy).Contents (Elt F) → (⟨S576, .f32⟩ : BufTy).Contents (Elt F)),
    StableHlo.ternary main_while0b_v96 main_while0b_v102 main_while0b_v103 main_while0b_v104 ((fun x i u => Host.scatterAdd scatter_S5_S576x1_S576_n_0_0_1 x i u) : (⟨S5, .f32⟩ : BufTy).Contents (Elt F) → (⟨S576x1, .i32⟩ : BufTy).Contents (Elt F) → (⟨S576, .f32⟩ : BufTy).Contents (Elt F) → (⟨S5, .f32⟩ : BufTy).Contents (Elt F)) ]

abbrev trip_w8 : List (HloOp τ sig (Elt F)) :=
  [ StableHlo.unary main_while0b_v104 main_while0b_v105 (broadcastInDim S5x1 ![0] bcast_S5_S5x1_0 : (⟨S5, .f32⟩ : BufTy).Contents (Elt F) → (⟨S5x1, .f32⟩ : BufTy).Contents (Elt F)),
    StableHlo.nullary main_while0b_cst_35 (constant S_ .f32 0x3F800000#32) ]

abbrev trip_w9 : List (HloOp τ sig (Elt F)) :=
  [ StableHlo.TRef.unary (.of main_while0b_cst_35 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S5x1, .f32⟩) (broadcastInDim S5x1 ![] bcast_S_S5x1),
    StableHlo.TRef.binary (.of main_while0b_call3_v1 : StableHlo.TRef sig ⟨S5x1, .f32⟩) (.of main_while0b_v105 : StableHlo.TRef sig ⟨S5x1, .f32⟩) (.of main_while0b_v106 : StableHlo.TRef sig ⟨S5x1, .f32⟩) maximumf ]

abbrev trip_w10 : List (HloOp τ sig (Elt F)) :=
  [ StableHlo.unary main_while0b_v106 main_while0b_v107 (broadcastInDim S5x768 ![0, 1] bcast_S5x1_S5x768_0_1 : (⟨S5x1, .f32⟩ : BufTy).Contents (Elt F) → (⟨S5x768, .f32⟩ : BufTy).Contents (Elt F)),
    StableHlo.binary main_while0b_v95 main_while0b_v107 main_while0b_v108 (Host.divf : (⟨S5x768, .f32⟩ : BufTy).Contents (Elt F) → (⟨S5x768, .f32⟩ : BufTy).Contents (Elt F) → (⟨S5x768, .f32⟩ : BufTy).Contents (Elt F)),
    StableHlo.binary main_v28_2 main_v28_2 main_while0b_v109 (mulf : (⟨S576x768, .f32⟩ : BufTy).Contents (Elt F) → (⟨S576x768, .f32⟩ : BufTy).Contents (Elt F) → (⟨S576x768, .f32⟩ : BufTy).Contents (Elt F)),
    StableHlo.nullary main_while0b_cst_36 (constant S_ .f32 0x00000000#32),
    StableHlo.binary main_while0b_v109 main_while0b_cst_36 main_while0b_v110 ((fun x v => Host.reduceAdd x v reducesTo_S576x768_S576_d1 h_S_) : (⟨S576x768, .f32⟩ : BufTy).Contents (Elt F) → (⟨S_, .f32⟩ : BufTy).Contents (Elt F) → (⟨S576, .f32⟩ : BufTy).Contents (Elt F)),
    StableHlo.unary main_while0b_v110 main_while0b_v111 (broadcastInDim S576x1 ![0] bcast_S576_S576x1_0 : (⟨S576, .f32⟩ : BufTy).Contents (Elt F) → (⟨S576x1, .f32⟩ : BufTy).Contents (Elt F)),
    StableHlo.unary main_v28_7 main_while0b_v112 ((transpose S768x5 [1, 0] · transposes_S5x768_S768x5_1_0) : (⟨S5x768, .f32⟩ : BufTy).Contents (Elt F) → (⟨S768x5, .f32⟩ : BufTy).Contents (Elt F)),
    StableHlo.binary main_v28_2 main_while0b_v112 main_while0b_v113 ((fun l r => Host.dotGeneral dot_S576x768_S768x5_S576x5_1_0_0_1_n_n none l r) : (⟨S576x768, .f32⟩ : BufTy).Contents (Elt F) → (⟨S768x5, .f32⟩ : BufTy).Contents (Elt F) → (⟨S576x5, .f32⟩ : BufTy).Contents (Elt F)),
    StableHlo.nullary main_while0b_cst_37 (constant S_ .f32 0x40000000#32),
    StableHlo.unary main_while0b_cst_37 main_while0b_v114 (broadcastInDim S576x5 ![] bcast_S_S576x5 : (⟨S_, .f32⟩ : BufTy).Contents (Elt F) → (⟨S576x5, .f32⟩ : BufTy).Contents (Elt F)),
    StableHlo.binary main_while0b_v114 main_while0b_v113 main_while0b_v115 (mulf : (⟨S576x5, .f32⟩ : BufTy).Contents (Elt F) → (⟨S576x5, .f32⟩ : BufTy).Contents (Elt F) → (⟨S576x5, .f32⟩ : BufTy).Contents (Elt F)),
    StableHlo.unary main_while0b_v111 main_while0b_v116 (broadcastInDim S576x5 ![0, 1] bcast_S576x1_S576x5_0_1 : (⟨S576x1, .f32⟩ : BufTy).Contents (Elt F) → (⟨S576x5, .f32⟩ : BufTy).Contents (Elt F)),
    StableHlo.binary main_while0b_v116 main_while0b_v115 main_while0b_v117 (subf : (⟨S576x5, .f32⟩ : BufTy).Contents (Elt F) → (⟨S576x5, .f32⟩ : BufTy).Contents (Elt F) → (⟨S576x5, .f32⟩ : BufTy).Contents (Elt F)),
    StableHlo.binary main_v28_7 main_v28_7 main_while0b_v118 (mulf : (⟨S5x768, .f32⟩ : BufTy).Contents (Elt F) → (⟨S5x768, .f32⟩ : BufTy).Contents (Elt F) → (⟨S5x768, .f32⟩ : BufTy).Contents (Elt F)),
    StableHlo.nullary main_while0b_cst_38 (constant S_ .f32 0x00000000#32),
    StableHlo.binary main_while0b_v118 main_while0b_cst_38 main_while0b_v119 ((fun x v => Host.reduceAdd x v reducesTo_S5x768_S5_d1 h_S_) : (⟨S5x768, .f32⟩ : BufTy).Contents (Elt F) → (⟨S_, .f32⟩ : BufTy).Contents (Elt F) → (⟨S5, .f32⟩ : BufTy).Contents (Elt F)),
    StableHlo.unary main_while0b_v119 main_while0b_v120 (broadcastInDim S1x5 ![1] bcast_S5_S1x5_1 : (⟨S5, .f32⟩ : BufTy).Contents (Elt F) → (⟨S1x5, .f32⟩ : BufTy).Contents (Elt F)),
    StableHlo.unary main_while0b_v120 main_while0b_v121 (broadcastInDim S576x5 ![0, 1] bcast_S1x5_S576x5_0_1 : (⟨S1x5, .f32⟩ : BufTy).Contents (Elt F) → (⟨S576x5, .f32⟩ : BufTy).Contents (Elt F)),
    StableHlo.binary main_while0b_v117 main_while0b_v121 main_while0b_v122 (addf : (⟨S576x5, .f32⟩ : BufTy).Contents (Elt F) → (⟨S576x5, .f32⟩ : BufTy).Contents (Elt F) → (⟨S576x5, .f32⟩ : BufTy).Contents (Elt F)) ]

abbrev trip_w11 : List (HloOp τ sig (Elt F)) :=
  [ StableHlo.TRef.nullary (.of main_while0b_call4_v0 : StableHlo.TRef sig ⟨S576x5, .i32⟩) (iotaInDim S576x5 32 1),
    StableHlo.TRef.nullary (.of main_while0b_call4_cst : StableHlo.TRef sig ⟨S_, .f32⟩) (constant S_ .f32 0x7F800000#32),
    StableHlo.TRef.nullary (.of main_while0b_call4_c : StableHlo.TRef sig ⟨S_, .i32⟩) (constantI S_ 32 0#32),
    StableHlo.TRef.quaternary (.of main_while0b_v122 : StableHlo.TRef sig ⟨S576x5, .f32⟩) (.of main_while0b_call4_v0 : StableHlo.TRef sig ⟨S576x5, .i32⟩) (.of main_while0b_call4_cst : StableHlo.TRef sig ⟨S_, .f32⟩) (.of main_while0b_call4_c : StableHlo.TRef sig ⟨S_, .i32⟩) (.of main_while0b_call4_v1_0 : StableHlo.TRef sig ⟨S576, .f32⟩) (fun x y u v j => (Host.argReduce reducer_argmin_f32_i32 x y u v reducesTo_S576x5_S576_d1 h_S_ j).1),
    StableHlo.TRef.quaternary (.of main_while0b_v122 : StableHlo.TRef sig ⟨S576x5, .f32⟩) (.of main_while0b_call4_v0 : StableHlo.TRef sig ⟨S576x5, .i32⟩) (.of main_while0b_call4_cst : StableHlo.TRef sig ⟨S_, .f32⟩) (.of main_while0b_call4_c : StableHlo.TRef sig ⟨S_, .i32⟩) (.of main_while0b_v123 : StableHlo.TRef sig ⟨S576, .i32⟩) (fun x y u v j => (Host.argReduce reducer_argmin_f32_i32 x y u v reducesTo_S576x5_S576_d1 h_S_ j).2) ]

abbrev trip_w12 : List (HloOp τ sig (Elt F)) :=
  [ StableHlo.nullary main_while0b_cst_39 (constant S_ .f32 0x00000000#32),
    StableHlo.unary main_while0b_cst_39 main_while0b_v124 (broadcastInDim S5x768 ![] bcast_S_S5x768 : (⟨S_, .f32⟩ : BufTy).Contents (Elt F) → (⟨S5x768, .f32⟩ : BufTy).Contents (Elt F)),
    StableHlo.nullary main_while0b_c_40 (constantI S_ 32 0#32),
    StableHlo.unary main_while0b_c_40 main_while0b_v125 (broadcastInDim S576 ![] bcast_S_S576 : (⟨S_, .i32⟩ : BufTy).Contents (Elt F) → (⟨S576, .i32⟩ : BufTy).Contents (Elt F)),
    StableHlo.binary main_while0b_v123 main_while0b_v125 main_while0b_v126 (cmpi .slt : (⟨S576, .i32⟩ : BufTy).Contents (Elt F) → (⟨S576, .i32⟩ : BufTy).Contents (Elt F) → (⟨S576, .i1⟩ : BufTy).Contents (Elt F)),
    StableHlo.nullary main_while0b_c_41 (constantI S_ 32 5#32),
    StableHlo.unary main_while0b_c_41 main_while0b_v127 (broadcastInDim S576 ![] bcast_S_S576 : (⟨S_, .i32⟩ : BufTy).Contents (Elt F) → (⟨S576, .i32⟩ : BufTy).Contents (Elt F)),
    StableHlo.binary main_while0b_v123 main_while0b_v127 main_while0b_v128 (addi : (⟨S576, .i32⟩ : BufTy).Contents (Elt F) → (⟨S576, .i32⟩ : BufTy).Contents (Elt F) → (⟨S576, .i32⟩ : BufTy).Contents (Elt F)),
    StableHlo.ternary main_while0b_v126 main_while0b_v128 main_while0b_v123 main_while0b_v129 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v129 main_while0b_v130 (broadcastInDim S576x1 ![0] bcast_S576_S576x1_0 : (⟨S576, .i32⟩ : BufTy).Contents (Elt F) → (⟨S576x1, .i32⟩ : BufTy).Contents (Elt F)),
    StableHlo.ternary main_while0b_v124 main_while0b_v130 main_v28_2 main_while0b_v131 ((fun x i u => Host.scatterAdd scatter_S5x768_S576x1_S576x768_1_0_0_1 x i u) : (⟨S5x768, .f32⟩ : BufTy).Contents (Elt F) → (⟨S576x1, .i32⟩ : BufTy).Contents (Elt F) → (⟨S576x768, .f32⟩ : BufTy).Contents (Elt F) → (⟨S5x768, .f32⟩ : BufTy).Contents (Elt F)),
    StableHlo.nullary main_while0b_cst_42 (constant S_ .f32 0x00000000#32),
    StableHlo.unary main_while0b_cst_42 main_while0b_v132 (broadcastInDim S5 ![] bcast_S_S5 : (⟨S_, .f32⟩ : BufTy).Contents (Elt F) → (⟨S5, .f32⟩ : BufTy).Contents (Elt F)),
    StableHlo.nullary main_while0b_c_43 (constantI S_ 32 0#32),
    StableHlo.unary main_while0b_c_43 main_while0b_v133 (broadcastInDim S576 ![] bcast_S_S576 : (⟨S_, .i32⟩ : BufTy).Contents (Elt F) → (⟨S576, .i32⟩ : BufTy).Contents (Elt F)),
    StableHlo.binary main_while0b_v123 main_while0b_v133 main_while0b_v134 (cmpi .slt : (⟨S576, .i32⟩ : BufTy).Contents (Elt F) → (⟨S576, .i32⟩ : BufTy).Contents (Elt F) → (⟨S576, .i1⟩ : BufTy).Contents (Elt F)),
    StableHlo.nullary main_while0b_c_44 (constantI S_ 32 5#32),
    StableHlo.unary main_while0b_c_44 main_while0b_v135 (broadcastInDim S576 ![] bcast_S_S576 : (⟨S_, .i32⟩ : BufTy).Contents (Elt F) → (⟨S576, .i32⟩ : BufTy).Contents (Elt F)),
    StableHlo.binary main_while0b_v123 main_while0b_v135 main_while0b_v136 (addi : (⟨S576, .i32⟩ : BufTy).Contents (Elt F) → (⟨S576, .i32⟩ : BufTy).Contents (Elt F) → (⟨S576, .i32⟩ : BufTy).Contents (Elt F)),
    StableHlo.ternary main_while0b_v134 main_while0b_v136 main_while0b_v123 main_while0b_v137 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_while0b_v137 main_while0b_v138 (broadcastInDim S576x1 ![0] bcast_S576_S576x1_0 : (⟨S576, .i32⟩ : BufTy).Contents (Elt F) → (⟨S576x1, .i32⟩ : BufTy).Contents (Elt F)),
    StableHlo.nullary main_while0b_cst_45 (constant S_ .f32 0x3F800000#32),
    StableHlo.unary main_while0b_cst_45 main_while0b_v139 (broadcastInDim S576 ![] bcast_S_S576 : (⟨S_, .f32⟩ : BufTy).Contents (Elt F) → (⟨S576, .f32⟩ : BufTy).Contents (Elt F)),
    StableHlo.ternary main_while0b_v132 main_while0b_v138 main_while0b_v139 main_while0b_v140 ((fun x i u => Host.scatterAdd scatter_S5_S576x1_S576_n_0_0_1 x i u) : (⟨S5, .f32⟩ : BufTy).Contents (Elt F) → (⟨S576x1, .i32⟩ : BufTy).Contents (Elt F) → (⟨S576, .f32⟩ : BufTy).Contents (Elt F) → (⟨S5, .f32⟩ : BufTy).Contents (Elt F)) ]

abbrev trip_w13 : List (HloOp τ sig (Elt F)) :=
  [ StableHlo.unary main_while0b_v140 main_while0b_v141 (broadcastInDim S5x1 ![0] bcast_S5_S5x1_0 : (⟨S5, .f32⟩ : BufTy).Contents (Elt F) → (⟨S5x1, .f32⟩ : BufTy).Contents (Elt F)),
    StableHlo.nullary main_while0b_cst_46 (constant S_ .f32 0x3F800000#32) ]

abbrev trip_w14 : List (HloOp τ sig (Elt F)) :=
  [ StableHlo.TRef.unary (.of main_while0b_cst_46 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S5x1, .f32⟩) (broadcastInDim S5x1 ![] bcast_S_S5x1),
    StableHlo.TRef.binary (.of main_while0b_call5_v1 : StableHlo.TRef sig ⟨S5x1, .f32⟩) (.of main_while0b_v141 : StableHlo.TRef sig ⟨S5x1, .f32⟩) (.of main_while0b_v142 : StableHlo.TRef sig ⟨S5x1, .f32⟩) maximumf ]

abbrev trip_w15 : List (HloOp τ sig (Elt F)) :=
  [ StableHlo.unary main_while0b_v142 main_while0b_v143 (broadcastInDim S5x768 ![0, 1] bcast_S5x1_S5x768_0_1 : (⟨S5x1, .f32⟩ : BufTy).Contents (Elt F) → (⟨S5x768, .f32⟩ : BufTy).Contents (Elt F)),
    StableHlo.binary main_while0b_v131 main_while0b_v143 main_while0b_v144 (Host.divf : (⟨S5x768, .f32⟩ : BufTy).Contents (Elt F) → (⟨S5x768, .f32⟩ : BufTy).Contents (Elt F) → (⟨S5x768, .f32⟩ : BufTy).Contents (Elt F)) ]

abbrev while0Ops0_12_step : List (HloOp τ sig (Elt F)) :=
  [ StableHlo.nullary main_while0b_c_47 (constantI S_ 32 1#32),
    StableHlo.binary main_v28_3 main_while0b_c_47 main_while0b_v145 (addi : (⟨S_, .i32⟩ : BufTy).Contents (Elt F) → (⟨S_, .i32⟩ : BufTy).Contents (Elt F) → (⟨S_, .i32⟩ : BufTy).Contents (Elt F)),
    StableHlo.unary main_while0b_v145 main_v28_3 id,
    StableHlo.unary main_while0b_v36 main_v28_4 id,
    StableHlo.unary main_while0b_v72 main_v28_5 id,
    StableHlo.unary main_while0b_v108 main_v28_6 id,
    StableHlo.unary main_while0b_v144 main_v28_7 id ]

set_option maxRecDepth 5000 in
theorem while0Ops0_cut : (while0Ops0 : List (HloOp τ sig (Elt F))) = trip_w0 := rfl
set_option maxRecDepth 5000 in
theorem while0Ops0_1_cut : (while0Ops0_1 : List (HloOp τ sig (Elt F))) = trip_w1 := rfl
set_option maxRecDepth 5000 in
theorem while0Ops0_2_cut : (while0Ops0_2 : List (HloOp τ sig (Elt F))) = trip_w2 ++ (trip_w3) := rfl
set_option maxRecDepth 5000 in
theorem while0Ops0_3_cut : (while0Ops0_3 : List (HloOp τ sig (Elt F))) = trip_w4 := rfl
set_option maxRecDepth 5000 in
theorem while0Ops0_4_cut : (while0Ops0_4 : List (HloOp τ sig (Elt F))) = trip_w5 := rfl
set_option maxRecDepth 5000 in
theorem while0Ops0_5_cut : (while0Ops0_5 : List (HloOp τ sig (Elt F))) = trip_w6 := rfl
set_option maxRecDepth 5000 in
theorem while0Ops0_6_cut : (while0Ops0_6 : List (HloOp τ sig (Elt F))) = trip_w7 ++ (trip_w8) := rfl
set_option maxRecDepth 5000 in
theorem while0Ops0_7_cut : (while0Ops0_7 : List (HloOp τ sig (Elt F))) = trip_w9 := rfl
set_option maxRecDepth 5000 in
theorem while0Ops0_8_cut : (while0Ops0_8 : List (HloOp τ sig (Elt F))) = trip_w10 := rfl
set_option maxRecDepth 5000 in
theorem while0Ops0_9_cut : (while0Ops0_9 : List (HloOp τ sig (Elt F))) = trip_w11 := rfl
set_option maxRecDepth 5000 in
theorem while0Ops0_10_cut : (while0Ops0_10 : List (HloOp τ sig (Elt F))) = trip_w12 ++ (trip_w13) := rfl
set_option maxRecDepth 5000 in
theorem while0Ops0_11_cut : (while0Ops0_11 : List (HloOp τ sig (Elt F))) = trip_w14 := rfl
set_option maxRecDepth 5000 in
theorem while0Ops0_12_cut : (while0Ops0_12 : List (HloOp τ sig (Elt F))) = trip_w15 ++ (while0Ops0_12_step) := rfl

abbrev trip_w0_W : List (Ref sig .tc) := [main_while0b_c_13, main_while0b_v36, main_while0b_v37, main_while0b_cst_14, main_while0b_v38, main_while0b_v39, main_while0b_v40, main_while0b_v41, main_while0b_cst_15, main_while0b_v42, main_while0b_v43, main_while0b_v44, main_while0b_v45, main_while0b_v46, main_while0b_cst_16, main_while0b_v47, main_while0b_v48, main_while0b_v49, main_while0b_v50]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w1_W : List (Ref sig .tc) := [main_while0b_call0_v0, main_while0b_call0_cst, main_while0b_call0_c, main_while0b_call0_v1_0, main_while0b_v51]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w2_W : List (Ref sig .tc) := [main_while0b_cst_17, main_while0b_v52, main_while0b_c_18, main_while0b_v53, main_while0b_v54, main_while0b_c_19, main_while0b_v55, main_while0b_v56, main_while0b_v57, main_while0b_v58, main_while0b_v59, main_while0b_cst_20, main_while0b_v60, main_while0b_c_21, main_while0b_v61, main_while0b_v62, main_while0b_c_22, main_while0b_v63, main_while0b_v64, main_while0b_v65, main_while0b_v66, main_while0b_cst_23, main_while0b_v67, main_while0b_v68]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w3_W : List (Ref sig .tc) := [main_while0b_v69, main_while0b_cst_24]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w4_W : List (Ref sig .tc) := [main_while0b_call1_v0, main_while0b_call1_v1, main_while0b_v70]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w5_W : List (Ref sig .tc) := [main_while0b_v71, main_while0b_v72, main_while0b_v73, main_while0b_cst_25, main_while0b_v74, main_while0b_v75, main_while0b_v76, main_while0b_v77, main_while0b_cst_26, main_while0b_v78, main_while0b_v79, main_while0b_v80, main_while0b_v81, main_while0b_v82, main_while0b_cst_27, main_while0b_v83, main_while0b_v84, main_while0b_v85, main_while0b_v86]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w6_W : List (Ref sig .tc) := [main_while0b_call2_v0, main_while0b_call2_cst, main_while0b_call2_c, main_while0b_call2_v1_0, main_while0b_v87]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w7_W : List (Ref sig .tc) := [main_while0b_cst_28, main_while0b_v88, main_while0b_c_29, main_while0b_v89, main_while0b_v90, main_while0b_c_30, main_while0b_v91, main_while0b_v92, main_while0b_v93, main_while0b_v94, main_while0b_v95, main_while0b_cst_31, main_while0b_v96, main_while0b_c_32, main_while0b_v97, main_while0b_v98, main_while0b_c_33, main_while0b_v99, main_while0b_v100, main_while0b_v101, main_while0b_v102, main_while0b_cst_34, main_while0b_v103, main_while0b_v104]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w8_W : List (Ref sig .tc) := [main_while0b_v105, main_while0b_cst_35]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w9_W : List (Ref sig .tc) := [main_while0b_call3_v0, main_while0b_call3_v1, main_while0b_v106]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w10_W : List (Ref sig .tc) := [main_while0b_v107, main_while0b_v108, main_while0b_v109, main_while0b_cst_36, main_while0b_v110, main_while0b_v111, main_while0b_v112, main_while0b_v113, main_while0b_cst_37, main_while0b_v114, main_while0b_v115, main_while0b_v116, main_while0b_v117, main_while0b_v118, main_while0b_cst_38, main_while0b_v119, main_while0b_v120, main_while0b_v121, main_while0b_v122]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w11_W : List (Ref sig .tc) := [main_while0b_call4_v0, main_while0b_call4_cst, main_while0b_call4_c, main_while0b_call4_v1_0, main_while0b_v123]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w12_W : List (Ref sig .tc) := [main_while0b_cst_39, main_while0b_v124, main_while0b_c_40, main_while0b_v125, main_while0b_v126, main_while0b_c_41, main_while0b_v127, main_while0b_v128, main_while0b_v129, main_while0b_v130, main_while0b_v131, main_while0b_cst_42, main_while0b_v132, main_while0b_c_43, main_while0b_v133, main_while0b_v134, main_while0b_c_44, main_while0b_v135, main_while0b_v136, main_while0b_v137, main_while0b_v138, main_while0b_cst_45, main_while0b_v139, main_while0b_v140]
set_option maxRecDepth 8192 in
theorem trip_w12_writes : (trip_w12 : List (HloOp τ sig (Elt F))).Forall fun op => op.writes ⊆ (trip_w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w13_W : List (Ref sig .tc) := [main_while0b_v141, main_while0b_cst_46]
set_option maxRecDepth 8192 in
theorem trip_w13_writes : (trip_w13 : List (HloOp τ sig (Elt F))).Forall fun op => op.writes ⊆ (trip_w13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w14_W : List (Ref sig .tc) := [main_while0b_call5_v0, main_while0b_call5_v1, main_while0b_v142]
set_option maxRecDepth 8192 in
theorem trip_w14_writes : (trip_w14 : List (HloOp τ sig (Elt F))).Forall fun op => op.writes ⊆ (trip_w14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
abbrev trip_w15_W : List (Ref sig .tc) := [main_while0b_v143, main_while0b_v144]
set_option maxRecDepth 8192 in
theorem trip_w15_writes : (trip_w15 : List (HloOp τ sig (Elt F))).Forall fun op => op.writes ⊆ (trip_w15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w15 (V : Valuation τ sig (Elt F)) : after trip_w15 V (Proc.devRef .tc main_v28_3) = V (Proc.devRef .tc main_v28_3) :=
  after_of_writes_sub trip_w15 V trip_w15_writes (by decide +kernel)

set_option maxRecDepth 100000 in
theorem ctr_while0Ops0_12_step (Y : Valuation τ sig (Elt F)) :
    after while0Ops0_12_step Y (Proc.devRef .tc main_v28_3) = addi (Y (Proc.devRef .tc main_v28_3)) (constantI S_ 32 1#32) := by
  after_results
  rfl

set_option maxRecDepth 100000 in
theorem ctr_step (X : Valuation τ sig (Elt F)) :
    after while0Ops0_12 X (Proc.devRef .tc main_v28_3) = addi (X (Proc.devRef .tc main_v28_3)) (constantI S_ 32 1#32) := by
  simp only [while0Ops0_12_cut, after_append]
  rw [ctr_while0Ops0_12_step, ctr_trip_w15]

theorem ctr_entry (c : Dev nD) : entryContents preI m c (Proc.devRef .tc main_v28_3) = fun _ => (0#32 : BitVec 32) := by
  simp only [entryContents, afterL_cons, afterL_nil]
  after_reads_simp
  rfl

theorem atK_ctr (c : Dev nD) : ∀ k, atK m k c (Proc.devRef .tc main_v28_3) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_11, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

set_option backward.isDefEq.respectTransparency.types false in
theorem cond_spec : CondSpec (pcfgs (F := F)) defs₀ loops (main_while0_cond (F := F)) condOps bodyI (entryContents preI m) 10 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v28_3 HostLoop.idx0)
        (HloOp.result _ (atK m k c) main_while0c_c_13 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  rw [after_cons, after_cons, after_nil]; iexact Hh

set_option maxRecDepth 100000 in
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 10 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 10 m ρ (cond_spec m)

end Cert.ReferenceIdeal.Trip

end
-- ==== Proof.RefTrip.lean ====
/- One trip of the reference's loop as a function of the carried buffers (`STEP`): the three centre arrays step
   by one assignment-and-mean update, the three data arrays stay; before the k-th test the carried buffers are
   `STEP` iterated k times on the contents at the loop's entry (`atK_agree`). -/
module

public import proofs.«01_k».proof.Proof.RefLoop

@[expose] public section

set_option maxRecDepth 1392

noncomputable section

namespace Cert.ReferenceIdeal.Trip

open Cert.ReferenceIdeal Cert.ReferenceIdeal.Gen Cert.ReferenceIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

set_option maxRecDepth 8192 in
def res_main_while0b_v50 (V0 : Valuation τ sig (Elt F)) : (Proc.devRef .tc main_while0b_v50 : DevRef τ sig).ty.Contents (Elt F) :=
  addf (subf (broadcastInDim S576x5 ![0, 1] bcast_S576x1_S576x5_0_1 (broadcastInDim S576x1 ![0] bcast_S576_S576x1_0 (Host.reduceAdd (mulf (V0 (Proc.devRef .tc main_v28_0)) (V0 (Proc.devRef .tc main_v28_0))) (constant S_ .f32 0x00000000#32) reducesTo_S576x768_S576_d1 h_S_))) (mulf (broadcastInDim S576x5 ![] bcast_S_S576x5 (constant S_ .f32 0x40000000#32)) (Host.dotGeneral dot_S576x768_S768x5_S576x5_1_0_0_1_n_n none (V0 (Proc.devRef .tc main_v28_0)) (transpose S768x5 [1, 0] (V0 (Proc.devRef .tc main_v28_5)) transposes_S5x768_S768x5_1_0)))) (broadcastInDim S576x5 ![0, 1] bcast_S1x5_S576x5_0_1 (broadcastInDim S1x5 ![1] bcast_S5_S1x5_1 (Host.reduceAdd (mulf (V0 (Proc.devRef .tc main_v28_5)) (V0 (Proc.devRef .tc main_v28_5))) (constant S_ .f32 0x00000000#32) reducesTo_S5x768_S5_d1 h_S_)))

set_option maxRecDepth 8192 in
def res_main_while0b_call0_v0 (V0 : Valuation τ sig (Elt F)) : (Proc.devRef .tc main_while0b_call0_v0 : DevRef τ sig).ty.Contents (Elt F) :=
  iotaInDim S576x5 32 1

set_option maxRecDepth 8192 in
def res_main_while0b_call0_cst (V0 : Valuation τ sig (Elt F)) : (Proc.devRef .tc main_while0b_call0_cst : DevRef τ sig).ty.Contents (Elt F) :=
  constant S_ .f32 0x7F800000#32

set_option maxRecDepth 8192 in
def res_main_while0b_call0_c (V0 : Valuation τ sig (Elt F)) : (Proc.devRef .tc main_while0b_call0_c : DevRef τ sig).ty.Contents (Elt F) :=
  constantI S_ 32 0#32

set_option maxRecDepth 8192 in
def res_main_while0b_v51 (V0 : Valuation τ sig (Elt F)) : (Proc.devRef .tc main_while0b_v51 : DevRef τ sig).ty.Contents (Elt F) :=
  (fun j => (Host.argReduce reducer_argmin_f32_i32 (res_main_while0b_v50 V0) (res_main_while0b_call0_v0 V0) (res_main_while0b_call0_cst V0) (res_main_while0b_call0_c V0) reducesTo_S576x5_S576_d1 h_S_ j).2)

set_option maxRecDepth 8192 in
def res_main_while0b_v86 (V0 : Valuation τ sig (Elt F)) : (Proc.devRef .tc main_while0b_v86 : DevRef τ sig).ty.Contents (Elt F) :=
  addf (subf (broadcastInDim S576x5 ![0, 1] bcast_S576x1_S576x5_0_1 (broadcastInDim S576x1 ![0] bcast_S576_S576x1_0 (Host.reduceAdd (mulf (V0 (Proc.devRef .tc main_v28_1)) (V0 (Proc.devRef .tc main_v28_1))) (constant S_ .f32 0x00000000#32) reducesTo_S576x768_S576_d1 h_S_))) (mulf (broadcastInDim S576x5 ![] bcast_S_S576x5 (constant S_ .f32 0x40000000#32)) (Host.dotGeneral dot_S576x768_S768x5_S576x5_1_0_0_1_n_n none (V0 (Proc.devRef .tc main_v28_1)) (transpose S768x5 [1, 0] (V0 (Proc.devRef .tc main_v28_6)) transposes_S5x768_S768x5_1_0)))) (broadcastInDim S576x5 ![0, 1] bcast_S1x5_S576x5_0_1 (broadcastInDim S1x5 ![1] bcast_S5_S1x5_1 (Host.reduceAdd (mulf (V0 (Proc.devRef .tc main_v28_6)) (V0 (Proc.devRef .tc main_v28_6))) (constant S_ .f32 0x00000000#32) reducesTo_S5x768_S5_d1 h_S_)))

set_option maxRecDepth 8192 in
def res_main_while0b_call2_v0 (V0 : Valuation τ sig (Elt F)) : (Proc.devRef .tc main_while0b_call2_v0 : DevRef τ sig).ty.Contents (Elt F) :=
  iotaInDim S576x5 32 1

set_option maxRecDepth 8192 in
def res_main_while0b_call2_cst (V0 : Valuation τ sig (Elt F)) : (Proc.devRef .tc main_while0b_call2_cst : DevRef τ sig).ty.Contents (Elt F) :=
  constant S_ .f32 0x7F800000#32

set_option maxRecDepth 8192 in
def res_main_while0b_call2_c (V0 : Valuation τ sig (Elt F)) : (Proc.devRef .tc main_while0b_call2_c : DevRef τ sig).ty.Contents (Elt F) :=
  constantI S_ 32 0#32

set_option maxRecDepth 8192 in
def res_main_while0b_v87 (V0 : Valuation τ sig (Elt F)) : (Proc.devRef .tc main_while0b_v87 : DevRef τ sig).ty.Contents (Elt F) :=
  (fun j => (Host.argReduce reducer_argmin_f32_i32 (res_main_while0b_v86 V0) (res_main_while0b_call2_v0 V0) (res_main_while0b_call2_cst V0) (res_main_while0b_call2_c V0) reducesTo_S576x5_S576_d1 h_S_ j).2)

set_option maxRecDepth 8192 in
def res_main_while0b_v122 (V0 : Valuation τ sig (Elt F)) : (Proc.devRef .tc main_while0b_v122 : DevRef τ sig).ty.Contents (Elt F) :=
  addf (subf (broadcastInDim S576x5 ![0, 1] bcast_S576x1_S576x5_0_1 (broadcastInDim S576x1 ![0] bcast_S576_S576x1_0 (Host.reduceAdd (mulf (V0 (Proc.devRef .tc main_v28_2)) (V0 (Proc.devRef .tc main_v28_2))) (constant S_ .f32 0x00000000#32) reducesTo_S576x768_S576_d1 h_S_))) (mulf (broadcastInDim S576x5 ![] bcast_S_S576x5 (constant S_ .f32 0x40000000#32)) (Host.dotGeneral dot_S576x768_S768x5_S576x5_1_0_0_1_n_n none (V0 (Proc.devRef .tc main_v28_2)) (transpose S768x5 [1, 0] (V0 (Proc.devRef .tc main_v28_7)) transposes_S5x768_S768x5_1_0)))) (broadcastInDim S576x5 ![0, 1] bcast_S1x5_S576x5_0_1 (broadcastInDim S1x5 ![1] bcast_S5_S1x5_1 (Host.reduceAdd (mulf (V0 (Proc.devRef .tc main_v28_7)) (V0 (Proc.devRef .tc main_v28_7))) (constant S_ .f32 0x00000000#32) reducesTo_S5x768_S5_d1 h_S_)))

set_option maxRecDepth 8192 in
def res_main_while0b_call4_v0 (V0 : Valuation τ sig (Elt F)) : (Proc.devRef .tc main_while0b_call4_v0 : DevRef τ sig).ty.Contents (Elt F) :=
  iotaInDim S576x5 32 1

set_option maxRecDepth 8192 in
def res_main_while0b_call4_cst (V0 : Valuation τ sig (Elt F)) : (Proc.devRef .tc main_while0b_call4_cst : DevRef τ sig).ty.Contents (Elt F) :=
  constant S_ .f32 0x7F800000#32

set_option maxRecDepth 8192 in
def res_main_while0b_call4_c (V0 : Valuation τ sig (Elt F)) : (Proc.devRef .tc main_while0b_call4_c : DevRef τ sig).ty.Contents (Elt F) :=
  constantI S_ 32 0#32

set_option maxRecDepth 8192 in
def res_main_while0b_v123 (V0 : Valuation τ sig (Elt F)) : (Proc.devRef .tc main_while0b_v123 : DevRef τ sig).ty.Contents (Elt F) :=
  (fun j => (Host.argReduce reducer_argmin_f32_i32 (res_main_while0b_v122 V0) (res_main_while0b_call4_v0 V0) (res_main_while0b_call4_cst V0) (res_main_while0b_call4_c V0) reducesTo_S576x5_S576_d1 h_S_ j).2)

def val0 (V0 : Valuation τ sig (Elt F)) : Valuation τ sig (Elt F) := V0
theorem val0_main_v28_4 (V0 : Valuation τ sig (Elt F)) : val0 V0 (no_index (Proc.devRef .tc main_v28_4)) = V0 (Proc.devRef .tc main_v28_4) := rfl
theorem val0_main_v28_0 (V0 : Valuation τ sig (Elt F)) : val0 V0 (no_index (Proc.devRef .tc main_v28_0)) = V0 (Proc.devRef .tc main_v28_0) := rfl
theorem val0_main_v28_5 (V0 : Valuation τ sig (Elt F)) : val0 V0 (no_index (Proc.devRef .tc main_v28_5)) = V0 (Proc.devRef .tc main_v28_5) := rfl
theorem val0_main_v28_1 (V0 : Valuation τ sig (Elt F)) : val0 V0 (no_index (Proc.devRef .tc main_v28_1)) = V0 (Proc.devRef .tc main_v28_1) := rfl
theorem val0_main_v28_6 (V0 : Valuation τ sig (Elt F)) : val0 V0 (no_index (Proc.devRef .tc main_v28_6)) = V0 (Proc.devRef .tc main_v28_6) := rfl
theorem val0_main_v28_2 (V0 : Valuation τ sig (Elt F)) : val0 V0 (no_index (Proc.devRef .tc main_v28_2)) = V0 (Proc.devRef .tc main_v28_2) := rfl
theorem val0_main_v28_7 (V0 : Valuation τ sig (Elt F)) : val0 V0 (no_index (Proc.devRef .tc main_v28_7)) = V0 (Proc.devRef .tc main_v28_7) := rfl
theorem val0_main_v28_3 (V0 : Valuation τ sig (Elt F)) : val0 V0 (no_index (Proc.devRef .tc main_v28_3)) = V0 (Proc.devRef .tc main_v28_3) := rfl

def val1 (V0 : Valuation τ sig (Elt F)) : Valuation τ sig (Elt F) := after trip_w0 (val0 V0)
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v28_4 (V0 : Valuation τ sig (Elt F)) : val1 V0 (no_index (Proc.devRef .tc main_v28_4)) = V0 (Proc.devRef .tc main_v28_4) :=
  (val1_keep V0 main_v28_4 (by decide)).trans (val0_main_v28_4 V0)
theorem val1_main_v28_0 (V0 : Valuation τ sig (Elt F)) : val1 V0 (no_index (Proc.devRef .tc main_v28_0)) = V0 (Proc.devRef .tc main_v28_0) :=
  (val1_keep V0 main_v28_0 (by decide)).trans (val0_main_v28_0 V0)
theorem val1_main_v28_5 (V0 : Valuation τ sig (Elt F)) : val1 V0 (no_index (Proc.devRef .tc main_v28_5)) = V0 (Proc.devRef .tc main_v28_5) :=
  (val1_keep V0 main_v28_5 (by decide)).trans (val0_main_v28_5 V0)
theorem val1_main_v28_1 (V0 : Valuation τ sig (Elt F)) : val1 V0 (no_index (Proc.devRef .tc main_v28_1)) = V0 (Proc.devRef .tc main_v28_1) :=
  (val1_keep V0 main_v28_1 (by decide)).trans (val0_main_v28_1 V0)
theorem val1_main_v28_6 (V0 : Valuation τ sig (Elt F)) : val1 V0 (no_index (Proc.devRef .tc main_v28_6)) = V0 (Proc.devRef .tc main_v28_6) :=
  (val1_keep V0 main_v28_6 (by decide)).trans (val0_main_v28_6 V0)
theorem val1_main_v28_2 (V0 : Valuation τ sig (Elt F)) : val1 V0 (no_index (Proc.devRef .tc main_v28_2)) = V0 (Proc.devRef .tc main_v28_2) :=
  (val1_keep V0 main_v28_2 (by decide)).trans (val0_main_v28_2 V0)
theorem val1_main_v28_7 (V0 : Valuation τ sig (Elt F)) : val1 V0 (no_index (Proc.devRef .tc main_v28_7)) = V0 (Proc.devRef .tc main_v28_7) :=
  (val1_keep V0 main_v28_7 (by decide)).trans (val0_main_v28_7 V0)
theorem val1_main_v28_3 (V0 : Valuation τ sig (Elt F)) : val1 V0 (no_index (Proc.devRef .tc main_v28_3)) = V0 (Proc.devRef .tc main_v28_3) :=
  (val1_keep V0 main_v28_3 (by decide)).trans (val0_main_v28_3 V0)
set_option maxRecDepth 8192 in
set_option maxHeartbeats 1900000 in
theorem val1_main_while0b_v36 (V0 : Valuation τ sig (Elt F)) : val1 V0 (no_index (Proc.devRef .tc main_while0b_v36)) = addi (V0 (Proc.devRef .tc main_v28_4)) (constantI S_ 32 1#32) := by
  unfold val1
  simp only [trip_w0]
  after_results_entrywise [val0_main_v28_4, cast_eq]
set_option maxRecDepth 8192 in
set_option maxHeartbeats 1900000 in
theorem val1_main_while0b_v50 (V0 : Valuation τ sig (Elt F)) : val1 V0 (no_index (Proc.devRef .tc main_while0b_v50)) = res_main_while0b_v50 V0 := by
  unfold val1
  simp only [trip_w0]
  after_results_entrywise [val0_main_v28_5, val0_main_v28_0, res_main_while0b_v50, cast_eq]

def val2 (V0 : Valuation τ sig (Elt F)) : Valuation τ sig (Elt F) := after trip_w1 (val1 V0)
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v28_4 (V0 : Valuation τ sig (Elt F)) : val2 V0 (no_index (Proc.devRef .tc main_v28_4)) = V0 (Proc.devRef .tc main_v28_4) :=
  (val2_keep V0 main_v28_4 (by decide)).trans (val1_main_v28_4 V0)
theorem val2_main_v28_0 (V0 : Valuation τ sig (Elt F)) : val2 V0 (no_index (Proc.devRef .tc main_v28_0)) = V0 (Proc.devRef .tc main_v28_0) :=
  (val2_keep V0 main_v28_0 (by decide)).trans (val1_main_v28_0 V0)
theorem val2_main_v28_5 (V0 : Valuation τ sig (Elt F)) : val2 V0 (no_index (Proc.devRef .tc main_v28_5)) = V0 (Proc.devRef .tc main_v28_5) :=
  (val2_keep V0 main_v28_5 (by decide)).trans (val1_main_v28_5 V0)
theorem val2_main_v28_1 (V0 : Valuation τ sig (Elt F)) : val2 V0 (no_index (Proc.devRef .tc main_v28_1)) = V0 (Proc.devRef .tc main_v28_1) :=
  (val2_keep V0 main_v28_1 (by decide)).trans (val1_main_v28_1 V0)
theorem val2_main_v28_6 (V0 : Valuation τ sig (Elt F)) : val2 V0 (no_index (Proc.devRef .tc main_v28_6)) = V0 (Proc.devRef .tc main_v28_6) :=
  (val2_keep V0 main_v28_6 (by decide)).trans (val1_main_v28_6 V0)
theorem val2_main_v28_2 (V0 : Valuation τ sig (Elt F)) : val2 V0 (no_index (Proc.devRef .tc main_v28_2)) = V0 (Proc.devRef .tc main_v28_2) :=
  (val2_keep V0 main_v28_2 (by decide)).trans (val1_main_v28_2 V0)
theorem val2_main_v28_7 (V0 : Valuation τ sig (Elt F)) : val2 V0 (no_index (Proc.devRef .tc main_v28_7)) = V0 (Proc.devRef .tc main_v28_7) :=
  (val2_keep V0 main_v28_7 (by decide)).trans (val1_main_v28_7 V0)
theorem val2_main_v28_3 (V0 : Valuation τ sig (Elt F)) : val2 V0 (no_index (Proc.devRef .tc main_v28_3)) = V0 (Proc.devRef .tc main_v28_3) :=
  (val2_keep V0 main_v28_3 (by decide)).trans (val1_main_v28_3 V0)
theorem val2_main_while0b_v36 (V0 : Valuation τ sig (Elt F)) : val2 V0 (no_index (Proc.devRef .tc main_while0b_v36)) = addi (V0 (Proc.devRef .tc main_v28_4)) (constantI S_ 32 1#32) :=
  (val2_keep V0 main_while0b_v36 (by decide)).trans (val1_main_while0b_v36 V0)
set_option maxRecDepth 8192 in
theorem val2_main_while0b_v51 (V0 : Valuation τ sig (Elt F)) : val2 V0 (no_index (Proc.devRef .tc main_while0b_v51)) = res_main_while0b_v51 V0 := by
  unfold val2
  simp only [trip_w1]
  after_results_entrywise [val1_main_while0b_v50, res_main_while0b_call0_v0, res_main_while0b_call0_cst, res_main_while0b_call0_c, res_main_while0b_v51, cast_eq]

def val3 (V0 : Valuation τ sig (Elt F)) : Valuation τ sig (Elt F) := after trip_w2 (val2 V0)
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v28_4 (V0 : Valuation τ sig (Elt F)) : val3 V0 (no_index (Proc.devRef .tc main_v28_4)) = V0 (Proc.devRef .tc main_v28_4) :=
  (val3_keep V0 main_v28_4 (by decide)).trans (val2_main_v28_4 V0)
theorem val3_main_v28_0 (V0 : Valuation τ sig (Elt F)) : val3 V0 (no_index (Proc.devRef .tc main_v28_0)) = V0 (Proc.devRef .tc main_v28_0) :=
  (val3_keep V0 main_v28_0 (by decide)).trans (val2_main_v28_0 V0)
theorem val3_main_v28_5 (V0 : Valuation τ sig (Elt F)) : val3 V0 (no_index (Proc.devRef .tc main_v28_5)) = V0 (Proc.devRef .tc main_v28_5) :=
  (val3_keep V0 main_v28_5 (by decide)).trans (val2_main_v28_5 V0)
theorem val3_main_v28_1 (V0 : Valuation τ sig (Elt F)) : val3 V0 (no_index (Proc.devRef .tc main_v28_1)) = V0 (Proc.devRef .tc main_v28_1) :=
  (val3_keep V0 main_v28_1 (by decide)).trans (val2_main_v28_1 V0)
theorem val3_main_v28_6 (V0 : Valuation τ sig (Elt F)) : val3 V0 (no_index (Proc.devRef .tc main_v28_6)) = V0 (Proc.devRef .tc main_v28_6) :=
  (val3_keep V0 main_v28_6 (by decide)).trans (val2_main_v28_6 V0)
theorem val3_main_v28_2 (V0 : Valuation τ sig (Elt F)) : val3 V0 (no_index (Proc.devRef .tc main_v28_2)) = V0 (Proc.devRef .tc main_v28_2) :=
  (val3_keep V0 main_v28_2 (by decide)).trans (val2_main_v28_2 V0)
theorem val3_main_v28_7 (V0 : Valuation τ sig (Elt F)) : val3 V0 (no_index (Proc.devRef .tc main_v28_7)) = V0 (Proc.devRef .tc main_v28_7) :=
  (val3_keep V0 main_v28_7 (by decide)).trans (val2_main_v28_7 V0)
theorem val3_main_v28_3 (V0 : Valuation τ sig (Elt F)) : val3 V0 (no_index (Proc.devRef .tc main_v28_3)) = V0 (Proc.devRef .tc main_v28_3) :=
  (val3_keep V0 main_v28_3 (by decide)).trans (val2_main_v28_3 V0)
theorem val3_main_while0b_v36 (V0 : Valuation τ sig (Elt F)) : val3 V0 (no_index (Proc.devRef .tc main_while0b_v36)) = addi (V0 (Proc.devRef .tc main_v28_4)) (constantI S_ 32 1#32) :=
  (val3_keep V0 main_while0b_v36 (by decide)).trans (val2_main_while0b_v36 V0)
set_option maxRecDepth 8192 in
set_option maxHeartbeats 2000000 in
theorem val3_main_while0b_v59 (V0 : Valuation τ sig (Elt F)) : val3 V0 (no_index (Proc.devRef .tc main_while0b_v59)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0)) := by
  unfold val3
  simp only [trip_w2]
  after_results_entrywise [val2_main_v28_0, val2_main_while0b_v51, cast_eq]
set_option maxRecDepth 8192 in
set_option maxHeartbeats 2000000 in
theorem val3_main_while0b_v68 (V0 : Valuation τ sig (Elt F)) : val3 V0 (no_index (Proc.devRef .tc main_while0b_v68)) = Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)) := by
  unfold val3
  simp only [trip_w2]
  after_results_entrywise [val2_main_while0b_v51, cast_eq]

def val4 (V0 : Valuation τ sig (Elt F)) : Valuation τ sig (Elt F) := after trip_w3 (val3 V0)
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v28_4 (V0 : Valuation τ sig (Elt F)) : val4 V0 (no_index (Proc.devRef .tc main_v28_4)) = V0 (Proc.devRef .tc main_v28_4) :=
  (val4_keep V0 main_v28_4 (by decide)).trans (val3_main_v28_4 V0)
theorem val4_main_v28_0 (V0 : Valuation τ sig (Elt F)) : val4 V0 (no_index (Proc.devRef .tc main_v28_0)) = V0 (Proc.devRef .tc main_v28_0) :=
  (val4_keep V0 main_v28_0 (by decide)).trans (val3_main_v28_0 V0)
theorem val4_main_v28_5 (V0 : Valuation τ sig (Elt F)) : val4 V0 (no_index (Proc.devRef .tc main_v28_5)) = V0 (Proc.devRef .tc main_v28_5) :=
  (val4_keep V0 main_v28_5 (by decide)).trans (val3_main_v28_5 V0)
theorem val4_main_v28_1 (V0 : Valuation τ sig (Elt F)) : val4 V0 (no_index (Proc.devRef .tc main_v28_1)) = V0 (Proc.devRef .tc main_v28_1) :=
  (val4_keep V0 main_v28_1 (by decide)).trans (val3_main_v28_1 V0)
theorem val4_main_v28_6 (V0 : Valuation τ sig (Elt F)) : val4 V0 (no_index (Proc.devRef .tc main_v28_6)) = V0 (Proc.devRef .tc main_v28_6) :=
  (val4_keep V0 main_v28_6 (by decide)).trans (val3_main_v28_6 V0)
theorem val4_main_v28_2 (V0 : Valuation τ sig (Elt F)) : val4 V0 (no_index (Proc.devRef .tc main_v28_2)) = V0 (Proc.devRef .tc main_v28_2) :=
  (val4_keep V0 main_v28_2 (by decide)).trans (val3_main_v28_2 V0)
theorem val4_main_v28_7 (V0 : Valuation τ sig (Elt F)) : val4 V0 (no_index (Proc.devRef .tc main_v28_7)) = V0 (Proc.devRef .tc main_v28_7) :=
  (val4_keep V0 main_v28_7 (by decide)).trans (val3_main_v28_7 V0)
theorem val4_main_v28_3 (V0 : Valuation τ sig (Elt F)) : val4 V0 (no_index (Proc.devRef .tc main_v28_3)) = V0 (Proc.devRef .tc main_v28_3) :=
  (val4_keep V0 main_v28_3 (by decide)).trans (val3_main_v28_3 V0)
theorem val4_main_while0b_v36 (V0 : Valuation τ sig (Elt F)) : val4 V0 (no_index (Proc.devRef .tc main_while0b_v36)) = addi (V0 (Proc.devRef .tc main_v28_4)) (constantI S_ 32 1#32) :=
  (val4_keep V0 main_while0b_v36 (by decide)).trans (val3_main_while0b_v36 V0)
theorem val4_main_while0b_v59 (V0 : Valuation τ sig (Elt F)) : val4 V0 (no_index (Proc.devRef .tc main_while0b_v59)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0)) :=
  (val4_keep V0 main_while0b_v59 (by decide)).trans (val3_main_while0b_v59 V0)
set_option maxRecDepth 8192 in
theorem val4_main_while0b_v69 (V0 : Valuation τ sig (Elt F)) : val4 V0 (no_index (Proc.devRef .tc main_while0b_v69)) = broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32))) := by
  unfold val4
  simp only [trip_w3]
  after_results_entrywise [val3_main_while0b_v68, cast_eq]
set_option maxRecDepth 8192 in
theorem val4_main_while0b_cst_24 (V0 : Valuation τ sig (Elt F)) : val4 V0 (no_index (Proc.devRef .tc main_while0b_cst_24)) = constant S_ .f32 0x3F800000#32 := by
  unfold val4
  simp only [trip_w3]
  after_results_entrywise [cast_eq]

def val5 (V0 : Valuation τ sig (Elt F)) : Valuation τ sig (Elt F) := after trip_w4 (val4 V0)
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v28_4 (V0 : Valuation τ sig (Elt F)) : val5 V0 (no_index (Proc.devRef .tc main_v28_4)) = V0 (Proc.devRef .tc main_v28_4) :=
  (val5_keep V0 main_v28_4 (by decide)).trans (val4_main_v28_4 V0)
theorem val5_main_v28_0 (V0 : Valuation τ sig (Elt F)) : val5 V0 (no_index (Proc.devRef .tc main_v28_0)) = V0 (Proc.devRef .tc main_v28_0) :=
  (val5_keep V0 main_v28_0 (by decide)).trans (val4_main_v28_0 V0)
theorem val5_main_v28_5 (V0 : Valuation τ sig (Elt F)) : val5 V0 (no_index (Proc.devRef .tc main_v28_5)) = V0 (Proc.devRef .tc main_v28_5) :=
  (val5_keep V0 main_v28_5 (by decide)).trans (val4_main_v28_5 V0)
theorem val5_main_v28_1 (V0 : Valuation τ sig (Elt F)) : val5 V0 (no_index (Proc.devRef .tc main_v28_1)) = V0 (Proc.devRef .tc main_v28_1) :=
  (val5_keep V0 main_v28_1 (by decide)).trans (val4_main_v28_1 V0)
theorem val5_main_v28_6 (V0 : Valuation τ sig (Elt F)) : val5 V0 (no_index (Proc.devRef .tc main_v28_6)) = V0 (Proc.devRef .tc main_v28_6) :=
  (val5_keep V0 main_v28_6 (by decide)).trans (val4_main_v28_6 V0)
theorem val5_main_v28_2 (V0 : Valuation τ sig (Elt F)) : val5 V0 (no_index (Proc.devRef .tc main_v28_2)) = V0 (Proc.devRef .tc main_v28_2) :=
  (val5_keep V0 main_v28_2 (by decide)).trans (val4_main_v28_2 V0)
theorem val5_main_v28_7 (V0 : Valuation τ sig (Elt F)) : val5 V0 (no_index (Proc.devRef .tc main_v28_7)) = V0 (Proc.devRef .tc main_v28_7) :=
  (val5_keep V0 main_v28_7 (by decide)).trans (val4_main_v28_7 V0)
theorem val5_main_v28_3 (V0 : Valuation τ sig (Elt F)) : val5 V0 (no_index (Proc.devRef .tc main_v28_3)) = V0 (Proc.devRef .tc main_v28_3) :=
  (val5_keep V0 main_v28_3 (by decide)).trans (val4_main_v28_3 V0)
theorem val5_main_while0b_v36 (V0 : Valuation τ sig (Elt F)) : val5 V0 (no_index (Proc.devRef .tc main_while0b_v36)) = addi (V0 (Proc.devRef .tc main_v28_4)) (constantI S_ 32 1#32) :=
  (val5_keep V0 main_while0b_v36 (by decide)).trans (val4_main_while0b_v36 V0)
theorem val5_main_while0b_v59 (V0 : Valuation τ sig (Elt F)) : val5 V0 (no_index (Proc.devRef .tc main_while0b_v59)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0)) :=
  (val5_keep V0 main_while0b_v59 (by decide)).trans (val4_main_while0b_v59 V0)
set_option maxRecDepth 8192 in
theorem val5_main_while0b_v70 (V0 : Valuation τ sig (Elt F)) : val5 V0 (no_index (Proc.devRef .tc main_while0b_v70)) = maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))) := by
  unfold val5
  simp only [trip_w4]
  after_results_entrywise [val4_main_while0b_v69, val4_main_while0b_cst_24, cast_eq]

def val6 (V0 : Valuation τ sig (Elt F)) : Valuation τ sig (Elt F) := after trip_w5 (val5 V0)
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v28_4 (V0 : Valuation τ sig (Elt F)) : val6 V0 (no_index (Proc.devRef .tc main_v28_4)) = V0 (Proc.devRef .tc main_v28_4) :=
  (val6_keep V0 main_v28_4 (by decide)).trans (val5_main_v28_4 V0)
theorem val6_main_v28_0 (V0 : Valuation τ sig (Elt F)) : val6 V0 (no_index (Proc.devRef .tc main_v28_0)) = V0 (Proc.devRef .tc main_v28_0) :=
  (val6_keep V0 main_v28_0 (by decide)).trans (val5_main_v28_0 V0)
theorem val6_main_v28_5 (V0 : Valuation τ sig (Elt F)) : val6 V0 (no_index (Proc.devRef .tc main_v28_5)) = V0 (Proc.devRef .tc main_v28_5) :=
  (val6_keep V0 main_v28_5 (by decide)).trans (val5_main_v28_5 V0)
theorem val6_main_v28_1 (V0 : Valuation τ sig (Elt F)) : val6 V0 (no_index (Proc.devRef .tc main_v28_1)) = V0 (Proc.devRef .tc main_v28_1) :=
  (val6_keep V0 main_v28_1 (by decide)).trans (val5_main_v28_1 V0)
theorem val6_main_v28_6 (V0 : Valuation τ sig (Elt F)) : val6 V0 (no_index (Proc.devRef .tc main_v28_6)) = V0 (Proc.devRef .tc main_v28_6) :=
  (val6_keep V0 main_v28_6 (by decide)).trans (val5_main_v28_6 V0)
theorem val6_main_v28_2 (V0 : Valuation τ sig (Elt F)) : val6 V0 (no_index (Proc.devRef .tc main_v28_2)) = V0 (Proc.devRef .tc main_v28_2) :=
  (val6_keep V0 main_v28_2 (by decide)).trans (val5_main_v28_2 V0)
theorem val6_main_v28_7 (V0 : Valuation τ sig (Elt F)) : val6 V0 (no_index (Proc.devRef .tc main_v28_7)) = V0 (Proc.devRef .tc main_v28_7) :=
  (val6_keep V0 main_v28_7 (by decide)).trans (val5_main_v28_7 V0)
theorem val6_main_v28_3 (V0 : Valuation τ sig (Elt F)) : val6 V0 (no_index (Proc.devRef .tc main_v28_3)) = V0 (Proc.devRef .tc main_v28_3) :=
  (val6_keep V0 main_v28_3 (by decide)).trans (val5_main_v28_3 V0)
theorem val6_main_while0b_v36 (V0 : Valuation τ sig (Elt F)) : val6 V0 (no_index (Proc.devRef .tc main_while0b_v36)) = addi (V0 (Proc.devRef .tc main_v28_4)) (constantI S_ 32 1#32) :=
  (val6_keep V0 main_while0b_v36 (by decide)).trans (val5_main_while0b_v36 V0)
set_option maxRecDepth 8192 in
set_option maxHeartbeats 1900000 in
theorem val6_main_while0b_v72 (V0 : Valuation τ sig (Elt F)) : val6 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) := by
  unfold val6
  simp only [trip_w5]
  after_results_entrywise [val5_main_while0b_v70, val5_main_while0b_v59, cast_eq]
set_option maxRecDepth 8192 in
set_option maxHeartbeats 1900000 in
theorem val6_main_while0b_v86 (V0 : Valuation τ sig (Elt F)) : val6 V0 (no_index (Proc.devRef .tc main_while0b_v86)) = res_main_while0b_v86 V0 := by
  unfold val6
  simp only [trip_w5]
  after_results_entrywise [val5_main_v28_6, val5_main_v28_1, res_main_while0b_v86, cast_eq]

def val7 (V0 : Valuation τ sig (Elt F)) : Valuation τ sig (Elt F) := after trip_w6 (val6 V0)
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v28_4 (V0 : Valuation τ sig (Elt F)) : val7 V0 (no_index (Proc.devRef .tc main_v28_4)) = V0 (Proc.devRef .tc main_v28_4) :=
  (val7_keep V0 main_v28_4 (by decide)).trans (val6_main_v28_4 V0)
theorem val7_main_v28_0 (V0 : Valuation τ sig (Elt F)) : val7 V0 (no_index (Proc.devRef .tc main_v28_0)) = V0 (Proc.devRef .tc main_v28_0) :=
  (val7_keep V0 main_v28_0 (by decide)).trans (val6_main_v28_0 V0)
theorem val7_main_v28_5 (V0 : Valuation τ sig (Elt F)) : val7 V0 (no_index (Proc.devRef .tc main_v28_5)) = V0 (Proc.devRef .tc main_v28_5) :=
  (val7_keep V0 main_v28_5 (by decide)).trans (val6_main_v28_5 V0)
theorem val7_main_v28_1 (V0 : Valuation τ sig (Elt F)) : val7 V0 (no_index (Proc.devRef .tc main_v28_1)) = V0 (Proc.devRef .tc main_v28_1) :=
  (val7_keep V0 main_v28_1 (by decide)).trans (val6_main_v28_1 V0)
theorem val7_main_v28_6 (V0 : Valuation τ sig (Elt F)) : val7 V0 (no_index (Proc.devRef .tc main_v28_6)) = V0 (Proc.devRef .tc main_v28_6) :=
  (val7_keep V0 main_v28_6 (by decide)).trans (val6_main_v28_6 V0)
theorem val7_main_v28_2 (V0 : Valuation τ sig (Elt F)) : val7 V0 (no_index (Proc.devRef .tc main_v28_2)) = V0 (Proc.devRef .tc main_v28_2) :=
  (val7_keep V0 main_v28_2 (by decide)).trans (val6_main_v28_2 V0)
theorem val7_main_v28_7 (V0 : Valuation τ sig (Elt F)) : val7 V0 (no_index (Proc.devRef .tc main_v28_7)) = V0 (Proc.devRef .tc main_v28_7) :=
  (val7_keep V0 main_v28_7 (by decide)).trans (val6_main_v28_7 V0)
theorem val7_main_v28_3 (V0 : Valuation τ sig (Elt F)) : val7 V0 (no_index (Proc.devRef .tc main_v28_3)) = V0 (Proc.devRef .tc main_v28_3) :=
  (val7_keep V0 main_v28_3 (by decide)).trans (val6_main_v28_3 V0)
theorem val7_main_while0b_v36 (V0 : Valuation τ sig (Elt F)) : val7 V0 (no_index (Proc.devRef .tc main_while0b_v36)) = addi (V0 (Proc.devRef .tc main_v28_4)) (constantI S_ 32 1#32) :=
  (val7_keep V0 main_while0b_v36 (by decide)).trans (val6_main_while0b_v36 V0)
theorem val7_main_while0b_v72 (V0 : Valuation τ sig (Elt F)) : val7 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val7_keep V0 main_while0b_v72 (by decide)).trans (val6_main_while0b_v72 V0)
set_option maxRecDepth 8192 in
theorem val7_main_while0b_v87 (V0 : Valuation τ sig (Elt F)) : val7 V0 (no_index (Proc.devRef .tc main_while0b_v87)) = res_main_while0b_v87 V0 := by
  unfold val7
  simp only [trip_w6]
  after_results_entrywise [val6_main_while0b_v86, res_main_while0b_call2_v0, res_main_while0b_call2_cst, res_main_while0b_call2_c, res_main_while0b_v87, cast_eq]

def val8 (V0 : Valuation τ sig (Elt F)) : Valuation τ sig (Elt F) := after trip_w7 (val7 V0)
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v28_4 (V0 : Valuation τ sig (Elt F)) : val8 V0 (no_index (Proc.devRef .tc main_v28_4)) = V0 (Proc.devRef .tc main_v28_4) :=
  (val8_keep V0 main_v28_4 (by decide)).trans (val7_main_v28_4 V0)
theorem val8_main_v28_0 (V0 : Valuation τ sig (Elt F)) : val8 V0 (no_index (Proc.devRef .tc main_v28_0)) = V0 (Proc.devRef .tc main_v28_0) :=
  (val8_keep V0 main_v28_0 (by decide)).trans (val7_main_v28_0 V0)
theorem val8_main_v28_5 (V0 : Valuation τ sig (Elt F)) : val8 V0 (no_index (Proc.devRef .tc main_v28_5)) = V0 (Proc.devRef .tc main_v28_5) :=
  (val8_keep V0 main_v28_5 (by decide)).trans (val7_main_v28_5 V0)
theorem val8_main_v28_1 (V0 : Valuation τ sig (Elt F)) : val8 V0 (no_index (Proc.devRef .tc main_v28_1)) = V0 (Proc.devRef .tc main_v28_1) :=
  (val8_keep V0 main_v28_1 (by decide)).trans (val7_main_v28_1 V0)
theorem val8_main_v28_6 (V0 : Valuation τ sig (Elt F)) : val8 V0 (no_index (Proc.devRef .tc main_v28_6)) = V0 (Proc.devRef .tc main_v28_6) :=
  (val8_keep V0 main_v28_6 (by decide)).trans (val7_main_v28_6 V0)
theorem val8_main_v28_2 (V0 : Valuation τ sig (Elt F)) : val8 V0 (no_index (Proc.devRef .tc main_v28_2)) = V0 (Proc.devRef .tc main_v28_2) :=
  (val8_keep V0 main_v28_2 (by decide)).trans (val7_main_v28_2 V0)
theorem val8_main_v28_7 (V0 : Valuation τ sig (Elt F)) : val8 V0 (no_index (Proc.devRef .tc main_v28_7)) = V0 (Proc.devRef .tc main_v28_7) :=
  (val8_keep V0 main_v28_7 (by decide)).trans (val7_main_v28_7 V0)
theorem val8_main_v28_3 (V0 : Valuation τ sig (Elt F)) : val8 V0 (no_index (Proc.devRef .tc main_v28_3)) = V0 (Proc.devRef .tc main_v28_3) :=
  (val8_keep V0 main_v28_3 (by decide)).trans (val7_main_v28_3 V0)
theorem val8_main_while0b_v36 (V0 : Valuation τ sig (Elt F)) : val8 V0 (no_index (Proc.devRef .tc main_while0b_v36)) = addi (V0 (Proc.devRef .tc main_v28_4)) (constantI S_ 32 1#32) :=
  (val8_keep V0 main_while0b_v36 (by decide)).trans (val7_main_while0b_v36 V0)
theorem val8_main_while0b_v72 (V0 : Valuation τ sig (Elt F)) : val8 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val8_keep V0 main_while0b_v72 (by decide)).trans (val7_main_while0b_v72 V0)
set_option maxRecDepth 8192 in
set_option maxHeartbeats 2000000 in
theorem val8_main_while0b_v95 (V0 : Valuation τ sig (Elt F)) : val8 V0 (no_index (Proc.devRef .tc main_while0b_v95)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1)) := by
  unfold val8
  simp only [trip_w7]
  after_results_entrywise [val7_main_v28_1, val7_main_while0b_v87, cast_eq]
set_option maxRecDepth 8192 in
set_option maxHeartbeats 2000000 in
theorem val8_main_while0b_v104 (V0 : Valuation τ sig (Elt F)) : val8 V0 (no_index (Proc.devRef .tc main_while0b_v104)) = Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)) := by
  unfold val8
  simp only [trip_w7]
  after_results_entrywise [val7_main_while0b_v87, cast_eq]

def val9 (V0 : Valuation τ sig (Elt F)) : Valuation τ sig (Elt F) := after trip_w8 (val8 V0)
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v28_4 (V0 : Valuation τ sig (Elt F)) : val9 V0 (no_index (Proc.devRef .tc main_v28_4)) = V0 (Proc.devRef .tc main_v28_4) :=
  (val9_keep V0 main_v28_4 (by decide)).trans (val8_main_v28_4 V0)
theorem val9_main_v28_0 (V0 : Valuation τ sig (Elt F)) : val9 V0 (no_index (Proc.devRef .tc main_v28_0)) = V0 (Proc.devRef .tc main_v28_0) :=
  (val9_keep V0 main_v28_0 (by decide)).trans (val8_main_v28_0 V0)
theorem val9_main_v28_5 (V0 : Valuation τ sig (Elt F)) : val9 V0 (no_index (Proc.devRef .tc main_v28_5)) = V0 (Proc.devRef .tc main_v28_5) :=
  (val9_keep V0 main_v28_5 (by decide)).trans (val8_main_v28_5 V0)
theorem val9_main_v28_1 (V0 : Valuation τ sig (Elt F)) : val9 V0 (no_index (Proc.devRef .tc main_v28_1)) = V0 (Proc.devRef .tc main_v28_1) :=
  (val9_keep V0 main_v28_1 (by decide)).trans (val8_main_v28_1 V0)
theorem val9_main_v28_6 (V0 : Valuation τ sig (Elt F)) : val9 V0 (no_index (Proc.devRef .tc main_v28_6)) = V0 (Proc.devRef .tc main_v28_6) :=
  (val9_keep V0 main_v28_6 (by decide)).trans (val8_main_v28_6 V0)
theorem val9_main_v28_2 (V0 : Valuation τ sig (Elt F)) : val9 V0 (no_index (Proc.devRef .tc main_v28_2)) = V0 (Proc.devRef .tc main_v28_2) :=
  (val9_keep V0 main_v28_2 (by decide)).trans (val8_main_v28_2 V0)
theorem val9_main_v28_7 (V0 : Valuation τ sig (Elt F)) : val9 V0 (no_index (Proc.devRef .tc main_v28_7)) = V0 (Proc.devRef .tc main_v28_7) :=
  (val9_keep V0 main_v28_7 (by decide)).trans (val8_main_v28_7 V0)
theorem val9_main_v28_3 (V0 : Valuation τ sig (Elt F)) : val9 V0 (no_index (Proc.devRef .tc main_v28_3)) = V0 (Proc.devRef .tc main_v28_3) :=
  (val9_keep V0 main_v28_3 (by decide)).trans (val8_main_v28_3 V0)
theorem val9_main_while0b_v36 (V0 : Valuation τ sig (Elt F)) : val9 V0 (no_index (Proc.devRef .tc main_while0b_v36)) = addi (V0 (Proc.devRef .tc main_v28_4)) (constantI S_ 32 1#32) :=
  (val9_keep V0 main_while0b_v36 (by decide)).trans (val8_main_while0b_v36 V0)
theorem val9_main_while0b_v72 (V0 : Valuation τ sig (Elt F)) : val9 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val9_keep V0 main_while0b_v72 (by decide)).trans (val8_main_while0b_v72 V0)
theorem val9_main_while0b_v95 (V0 : Valuation τ sig (Elt F)) : val9 V0 (no_index (Proc.devRef .tc main_while0b_v95)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1)) :=
  (val9_keep V0 main_while0b_v95 (by decide)).trans (val8_main_while0b_v95 V0)
set_option maxRecDepth 8192 in
theorem val9_main_while0b_v105 (V0 : Valuation τ sig (Elt F)) : val9 V0 (no_index (Proc.devRef .tc main_while0b_v105)) = broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32))) := by
  unfold val9
  simp only [trip_w8]
  after_results_entrywise [val8_main_while0b_v104, cast_eq]
set_option maxRecDepth 8192 in
theorem val9_main_while0b_cst_35 (V0 : Valuation τ sig (Elt F)) : val9 V0 (no_index (Proc.devRef .tc main_while0b_cst_35)) = constant S_ .f32 0x3F800000#32 := by
  unfold val9
  simp only [trip_w8]
  after_results_entrywise [cast_eq]

def val10 (V0 : Valuation τ sig (Elt F)) : Valuation τ sig (Elt F) := after trip_w9 (val9 V0)
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v28_4 (V0 : Valuation τ sig (Elt F)) : val10 V0 (no_index (Proc.devRef .tc main_v28_4)) = V0 (Proc.devRef .tc main_v28_4) :=
  (val10_keep V0 main_v28_4 (by decide)).trans (val9_main_v28_4 V0)
theorem val10_main_v28_0 (V0 : Valuation τ sig (Elt F)) : val10 V0 (no_index (Proc.devRef .tc main_v28_0)) = V0 (Proc.devRef .tc main_v28_0) :=
  (val10_keep V0 main_v28_0 (by decide)).trans (val9_main_v28_0 V0)
theorem val10_main_v28_5 (V0 : Valuation τ sig (Elt F)) : val10 V0 (no_index (Proc.devRef .tc main_v28_5)) = V0 (Proc.devRef .tc main_v28_5) :=
  (val10_keep V0 main_v28_5 (by decide)).trans (val9_main_v28_5 V0)
theorem val10_main_v28_1 (V0 : Valuation τ sig (Elt F)) : val10 V0 (no_index (Proc.devRef .tc main_v28_1)) = V0 (Proc.devRef .tc main_v28_1) :=
  (val10_keep V0 main_v28_1 (by decide)).trans (val9_main_v28_1 V0)
theorem val10_main_v28_6 (V0 : Valuation τ sig (Elt F)) : val10 V0 (no_index (Proc.devRef .tc main_v28_6)) = V0 (Proc.devRef .tc main_v28_6) :=
  (val10_keep V0 main_v28_6 (by decide)).trans (val9_main_v28_6 V0)
theorem val10_main_v28_2 (V0 : Valuation τ sig (Elt F)) : val10 V0 (no_index (Proc.devRef .tc main_v28_2)) = V0 (Proc.devRef .tc main_v28_2) :=
  (val10_keep V0 main_v28_2 (by decide)).trans (val9_main_v28_2 V0)
theorem val10_main_v28_7 (V0 : Valuation τ sig (Elt F)) : val10 V0 (no_index (Proc.devRef .tc main_v28_7)) = V0 (Proc.devRef .tc main_v28_7) :=
  (val10_keep V0 main_v28_7 (by decide)).trans (val9_main_v28_7 V0)
theorem val10_main_v28_3 (V0 : Valuation τ sig (Elt F)) : val10 V0 (no_index (Proc.devRef .tc main_v28_3)) = V0 (Proc.devRef .tc main_v28_3) :=
  (val10_keep V0 main_v28_3 (by decide)).trans (val9_main_v28_3 V0)
theorem val10_main_while0b_v36 (V0 : Valuation τ sig (Elt F)) : val10 V0 (no_index (Proc.devRef .tc main_while0b_v36)) = addi (V0 (Proc.devRef .tc main_v28_4)) (constantI S_ 32 1#32) :=
  (val10_keep V0 main_while0b_v36 (by decide)).trans (val9_main_while0b_v36 V0)
theorem val10_main_while0b_v72 (V0 : Valuation τ sig (Elt F)) : val10 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val10_keep V0 main_while0b_v72 (by decide)).trans (val9_main_while0b_v72 V0)
theorem val10_main_while0b_v95 (V0 : Valuation τ sig (Elt F)) : val10 V0 (no_index (Proc.devRef .tc main_while0b_v95)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1)) :=
  (val10_keep V0 main_while0b_v95 (by decide)).trans (val9_main_while0b_v95 V0)
set_option maxRecDepth 8192 in
theorem val10_main_while0b_v106 (V0 : Valuation τ sig (Elt F)) : val10 V0 (no_index (Proc.devRef .tc main_while0b_v106)) = maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))) := by
  unfold val10
  simp only [trip_w9]
  after_results_entrywise [val9_main_while0b_v105, val9_main_while0b_cst_35, cast_eq]

def val11 (V0 : Valuation τ sig (Elt F)) : Valuation τ sig (Elt F) := after trip_w10 (val10 V0)
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v28_4 (V0 : Valuation τ sig (Elt F)) : val11 V0 (no_index (Proc.devRef .tc main_v28_4)) = V0 (Proc.devRef .tc main_v28_4) :=
  (val11_keep V0 main_v28_4 (by decide)).trans (val10_main_v28_4 V0)
theorem val11_main_v28_0 (V0 : Valuation τ sig (Elt F)) : val11 V0 (no_index (Proc.devRef .tc main_v28_0)) = V0 (Proc.devRef .tc main_v28_0) :=
  (val11_keep V0 main_v28_0 (by decide)).trans (val10_main_v28_0 V0)
theorem val11_main_v28_5 (V0 : Valuation τ sig (Elt F)) : val11 V0 (no_index (Proc.devRef .tc main_v28_5)) = V0 (Proc.devRef .tc main_v28_5) :=
  (val11_keep V0 main_v28_5 (by decide)).trans (val10_main_v28_5 V0)
theorem val11_main_v28_1 (V0 : Valuation τ sig (Elt F)) : val11 V0 (no_index (Proc.devRef .tc main_v28_1)) = V0 (Proc.devRef .tc main_v28_1) :=
  (val11_keep V0 main_v28_1 (by decide)).trans (val10_main_v28_1 V0)
theorem val11_main_v28_6 (V0 : Valuation τ sig (Elt F)) : val11 V0 (no_index (Proc.devRef .tc main_v28_6)) = V0 (Proc.devRef .tc main_v28_6) :=
  (val11_keep V0 main_v28_6 (by decide)).trans (val10_main_v28_6 V0)
theorem val11_main_v28_2 (V0 : Valuation τ sig (Elt F)) : val11 V0 (no_index (Proc.devRef .tc main_v28_2)) = V0 (Proc.devRef .tc main_v28_2) :=
  (val11_keep V0 main_v28_2 (by decide)).trans (val10_main_v28_2 V0)
theorem val11_main_v28_7 (V0 : Valuation τ sig (Elt F)) : val11 V0 (no_index (Proc.devRef .tc main_v28_7)) = V0 (Proc.devRef .tc main_v28_7) :=
  (val11_keep V0 main_v28_7 (by decide)).trans (val10_main_v28_7 V0)
theorem val11_main_v28_3 (V0 : Valuation τ sig (Elt F)) : val11 V0 (no_index (Proc.devRef .tc main_v28_3)) = V0 (Proc.devRef .tc main_v28_3) :=
  (val11_keep V0 main_v28_3 (by decide)).trans (val10_main_v28_3 V0)
theorem val11_main_while0b_v36 (V0 : Valuation τ sig (Elt F)) : val11 V0 (no_index (Proc.devRef .tc main_while0b_v36)) = addi (V0 (Proc.devRef .tc main_v28_4)) (constantI S_ 32 1#32) :=
  (val11_keep V0 main_while0b_v36 (by decide)).trans (val10_main_while0b_v36 V0)
theorem val11_main_while0b_v72 (V0 : Valuation τ sig (Elt F)) : val11 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val11_keep V0 main_while0b_v72 (by decide)).trans (val10_main_while0b_v72 V0)
set_option maxRecDepth 8192 in
set_option maxHeartbeats 1900000 in
theorem val11_main_while0b_v108 (V0 : Valuation τ sig (Elt F)) : val11 V0 (no_index (Proc.devRef .tc main_while0b_v108)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))))) := by
  unfold val11
  simp only [trip_w10]
  after_results_entrywise [val10_main_while0b_v106, val10_main_while0b_v95, cast_eq]
set_option maxRecDepth 8192 in
set_option maxHeartbeats 1900000 in
theorem val11_main_while0b_v122 (V0 : Valuation τ sig (Elt F)) : val11 V0 (no_index (Proc.devRef .tc main_while0b_v122)) = res_main_while0b_v122 V0 := by
  unfold val11
  simp only [trip_w10]
  after_results_entrywise [val10_main_v28_7, val10_main_v28_2, res_main_while0b_v122, cast_eq]

def val12 (V0 : Valuation τ sig (Elt F)) : Valuation τ sig (Elt F) := after trip_w11 (val11 V0)
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v28_4 (V0 : Valuation τ sig (Elt F)) : val12 V0 (no_index (Proc.devRef .tc main_v28_4)) = V0 (Proc.devRef .tc main_v28_4) :=
  (val12_keep V0 main_v28_4 (by decide)).trans (val11_main_v28_4 V0)
theorem val12_main_v28_0 (V0 : Valuation τ sig (Elt F)) : val12 V0 (no_index (Proc.devRef .tc main_v28_0)) = V0 (Proc.devRef .tc main_v28_0) :=
  (val12_keep V0 main_v28_0 (by decide)).trans (val11_main_v28_0 V0)
theorem val12_main_v28_5 (V0 : Valuation τ sig (Elt F)) : val12 V0 (no_index (Proc.devRef .tc main_v28_5)) = V0 (Proc.devRef .tc main_v28_5) :=
  (val12_keep V0 main_v28_5 (by decide)).trans (val11_main_v28_5 V0)
theorem val12_main_v28_1 (V0 : Valuation τ sig (Elt F)) : val12 V0 (no_index (Proc.devRef .tc main_v28_1)) = V0 (Proc.devRef .tc main_v28_1) :=
  (val12_keep V0 main_v28_1 (by decide)).trans (val11_main_v28_1 V0)
theorem val12_main_v28_6 (V0 : Valuation τ sig (Elt F)) : val12 V0 (no_index (Proc.devRef .tc main_v28_6)) = V0 (Proc.devRef .tc main_v28_6) :=
  (val12_keep V0 main_v28_6 (by decide)).trans (val11_main_v28_6 V0)
theorem val12_main_v28_2 (V0 : Valuation τ sig (Elt F)) : val12 V0 (no_index (Proc.devRef .tc main_v28_2)) = V0 (Proc.devRef .tc main_v28_2) :=
  (val12_keep V0 main_v28_2 (by decide)).trans (val11_main_v28_2 V0)
theorem val12_main_v28_7 (V0 : Valuation τ sig (Elt F)) : val12 V0 (no_index (Proc.devRef .tc main_v28_7)) = V0 (Proc.devRef .tc main_v28_7) :=
  (val12_keep V0 main_v28_7 (by decide)).trans (val11_main_v28_7 V0)
theorem val12_main_v28_3 (V0 : Valuation τ sig (Elt F)) : val12 V0 (no_index (Proc.devRef .tc main_v28_3)) = V0 (Proc.devRef .tc main_v28_3) :=
  (val12_keep V0 main_v28_3 (by decide)).trans (val11_main_v28_3 V0)
theorem val12_main_while0b_v36 (V0 : Valuation τ sig (Elt F)) : val12 V0 (no_index (Proc.devRef .tc main_while0b_v36)) = addi (V0 (Proc.devRef .tc main_v28_4)) (constantI S_ 32 1#32) :=
  (val12_keep V0 main_while0b_v36 (by decide)).trans (val11_main_while0b_v36 V0)
theorem val12_main_while0b_v72 (V0 : Valuation τ sig (Elt F)) : val12 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val12_keep V0 main_while0b_v72 (by decide)).trans (val11_main_while0b_v72 V0)
theorem val12_main_while0b_v108 (V0 : Valuation τ sig (Elt F)) : val12 V0 (no_index (Proc.devRef .tc main_while0b_v108)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))))) :=
  (val12_keep V0 main_while0b_v108 (by decide)).trans (val11_main_while0b_v108 V0)
set_option maxRecDepth 8192 in
theorem val12_main_while0b_v123 (V0 : Valuation τ sig (Elt F)) : val12 V0 (no_index (Proc.devRef .tc main_while0b_v123)) = res_main_while0b_v123 V0 := by
  unfold val12
  simp only [trip_w11]
  after_results_entrywise [val11_main_while0b_v122, res_main_while0b_call4_v0, res_main_while0b_call4_cst, res_main_while0b_call4_c, res_main_while0b_v123, cast_eq]

def val13 (V0 : Valuation τ sig (Elt F)) : Valuation τ sig (Elt F) := after trip_w12 (val12 V0)
theorem val13_keep (V0 : Valuation τ sig (Elt F)) (r : Ref sig .tc) (h : r ∉ trip_w12_W) :
    val13 V0 (Proc.devRef .tc r) = val12 V0 (Proc.devRef .tc r) :=
  after_of_writes_sub trip_w12 _ trip_w12_writes h
theorem val13_main_v28_4 (V0 : Valuation τ sig (Elt F)) : val13 V0 (no_index (Proc.devRef .tc main_v28_4)) = V0 (Proc.devRef .tc main_v28_4) :=
  (val13_keep V0 main_v28_4 (by decide)).trans (val12_main_v28_4 V0)
theorem val13_main_v28_0 (V0 : Valuation τ sig (Elt F)) : val13 V0 (no_index (Proc.devRef .tc main_v28_0)) = V0 (Proc.devRef .tc main_v28_0) :=
  (val13_keep V0 main_v28_0 (by decide)).trans (val12_main_v28_0 V0)
theorem val13_main_v28_5 (V0 : Valuation τ sig (Elt F)) : val13 V0 (no_index (Proc.devRef .tc main_v28_5)) = V0 (Proc.devRef .tc main_v28_5) :=
  (val13_keep V0 main_v28_5 (by decide)).trans (val12_main_v28_5 V0)
theorem val13_main_v28_1 (V0 : Valuation τ sig (Elt F)) : val13 V0 (no_index (Proc.devRef .tc main_v28_1)) = V0 (Proc.devRef .tc main_v28_1) :=
  (val13_keep V0 main_v28_1 (by decide)).trans (val12_main_v28_1 V0)
theorem val13_main_v28_6 (V0 : Valuation τ sig (Elt F)) : val13 V0 (no_index (Proc.devRef .tc main_v28_6)) = V0 (Proc.devRef .tc main_v28_6) :=
  (val13_keep V0 main_v28_6 (by decide)).trans (val12_main_v28_6 V0)
theorem val13_main_v28_2 (V0 : Valuation τ sig (Elt F)) : val13 V0 (no_index (Proc.devRef .tc main_v28_2)) = V0 (Proc.devRef .tc main_v28_2) :=
  (val13_keep V0 main_v28_2 (by decide)).trans (val12_main_v28_2 V0)
theorem val13_main_v28_7 (V0 : Valuation τ sig (Elt F)) : val13 V0 (no_index (Proc.devRef .tc main_v28_7)) = V0 (Proc.devRef .tc main_v28_7) :=
  (val13_keep V0 main_v28_7 (by decide)).trans (val12_main_v28_7 V0)
theorem val13_main_v28_3 (V0 : Valuation τ sig (Elt F)) : val13 V0 (no_index (Proc.devRef .tc main_v28_3)) = V0 (Proc.devRef .tc main_v28_3) :=
  (val13_keep V0 main_v28_3 (by decide)).trans (val12_main_v28_3 V0)
theorem val13_main_while0b_v36 (V0 : Valuation τ sig (Elt F)) : val13 V0 (no_index (Proc.devRef .tc main_while0b_v36)) = addi (V0 (Proc.devRef .tc main_v28_4)) (constantI S_ 32 1#32) :=
  (val13_keep V0 main_while0b_v36 (by decide)).trans (val12_main_while0b_v36 V0)
theorem val13_main_while0b_v72 (V0 : Valuation τ sig (Elt F)) : val13 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val13_keep V0 main_while0b_v72 (by decide)).trans (val12_main_while0b_v72 V0)
theorem val13_main_while0b_v108 (V0 : Valuation τ sig (Elt F)) : val13 V0 (no_index (Proc.devRef .tc main_while0b_v108)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))))) :=
  (val13_keep V0 main_while0b_v108 (by decide)).trans (val12_main_while0b_v108 V0)
set_option maxRecDepth 8192 in
set_option maxHeartbeats 2000000 in
theorem val13_main_while0b_v131 (V0 : Valuation τ sig (Elt F)) : val13 V0 (no_index (Proc.devRef .tc main_while0b_v131)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (V0 (Proc.devRef .tc main_v28_2)) := by
  unfold val13
  simp only [trip_w12]
  after_results_entrywise [val12_main_v28_2, val12_main_while0b_v123, cast_eq]
set_option maxRecDepth 8192 in
set_option maxHeartbeats 2000000 in
theorem val13_main_while0b_v140 (V0 : Valuation τ sig (Elt F)) : val13 V0 (no_index (Proc.devRef .tc main_while0b_v140)) = Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (broadcastInDim S576 ![] bcast_S_S576 (constant S_ .f32 0x3F800000#32)) := by
  unfold val13
  simp only [trip_w12]
  after_results_entrywise [val12_main_while0b_v123, cast_eq]

def val14 (V0 : Valuation τ sig (Elt F)) : Valuation τ sig (Elt F) := after trip_w13 (val13 V0)
theorem val14_keep (V0 : Valuation τ sig (Elt F)) (r : Ref sig .tc) (h : r ∉ trip_w13_W) :
    val14 V0 (Proc.devRef .tc r) = val13 V0 (Proc.devRef .tc r) :=
  after_of_writes_sub trip_w13 _ trip_w13_writes h
theorem val14_main_v28_4 (V0 : Valuation τ sig (Elt F)) : val14 V0 (no_index (Proc.devRef .tc main_v28_4)) = V0 (Proc.devRef .tc main_v28_4) :=
  (val14_keep V0 main_v28_4 (by decide)).trans (val13_main_v28_4 V0)
theorem val14_main_v28_0 (V0 : Valuation τ sig (Elt F)) : val14 V0 (no_index (Proc.devRef .tc main_v28_0)) = V0 (Proc.devRef .tc main_v28_0) :=
  (val14_keep V0 main_v28_0 (by decide)).trans (val13_main_v28_0 V0)
theorem val14_main_v28_5 (V0 : Valuation τ sig (Elt F)) : val14 V0 (no_index (Proc.devRef .tc main_v28_5)) = V0 (Proc.devRef .tc main_v28_5) :=
  (val14_keep V0 main_v28_5 (by decide)).trans (val13_main_v28_5 V0)
theorem val14_main_v28_1 (V0 : Valuation τ sig (Elt F)) : val14 V0 (no_index (Proc.devRef .tc main_v28_1)) = V0 (Proc.devRef .tc main_v28_1) :=
  (val14_keep V0 main_v28_1 (by decide)).trans (val13_main_v28_1 V0)
theorem val14_main_v28_6 (V0 : Valuation τ sig (Elt F)) : val14 V0 (no_index (Proc.devRef .tc main_v28_6)) = V0 (Proc.devRef .tc main_v28_6) :=
  (val14_keep V0 main_v28_6 (by decide)).trans (val13_main_v28_6 V0)
theorem val14_main_v28_2 (V0 : Valuation τ sig (Elt F)) : val14 V0 (no_index (Proc.devRef .tc main_v28_2)) = V0 (Proc.devRef .tc main_v28_2) :=
  (val14_keep V0 main_v28_2 (by decide)).trans (val13_main_v28_2 V0)
theorem val14_main_v28_7 (V0 : Valuation τ sig (Elt F)) : val14 V0 (no_index (Proc.devRef .tc main_v28_7)) = V0 (Proc.devRef .tc main_v28_7) :=
  (val14_keep V0 main_v28_7 (by decide)).trans (val13_main_v28_7 V0)
theorem val14_main_v28_3 (V0 : Valuation τ sig (Elt F)) : val14 V0 (no_index (Proc.devRef .tc main_v28_3)) = V0 (Proc.devRef .tc main_v28_3) :=
  (val14_keep V0 main_v28_3 (by decide)).trans (val13_main_v28_3 V0)
theorem val14_main_while0b_v36 (V0 : Valuation τ sig (Elt F)) : val14 V0 (no_index (Proc.devRef .tc main_while0b_v36)) = addi (V0 (Proc.devRef .tc main_v28_4)) (constantI S_ 32 1#32) :=
  (val14_keep V0 main_while0b_v36 (by decide)).trans (val13_main_while0b_v36 V0)
theorem val14_main_while0b_v72 (V0 : Valuation τ sig (Elt F)) : val14 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val14_keep V0 main_while0b_v72 (by decide)).trans (val13_main_while0b_v72 V0)
theorem val14_main_while0b_v108 (V0 : Valuation τ sig (Elt F)) : val14 V0 (no_index (Proc.devRef .tc main_while0b_v108)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))))) :=
  (val14_keep V0 main_while0b_v108 (by decide)).trans (val13_main_while0b_v108 V0)
theorem val14_main_while0b_v131 (V0 : Valuation τ sig (Elt F)) : val14 V0 (no_index (Proc.devRef .tc main_while0b_v131)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (V0 (Proc.devRef .tc main_v28_2)) :=
  (val14_keep V0 main_while0b_v131 (by decide)).trans (val13_main_while0b_v131 V0)
set_option maxRecDepth 8192 in
theorem val14_main_while0b_v141 (V0 : Valuation τ sig (Elt F)) : val14 V0 (no_index (Proc.devRef .tc main_while0b_v141)) = broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (broadcastInDim S576 ![] bcast_S_S576 (constant S_ .f32 0x3F800000#32))) := by
  unfold val14
  simp only [trip_w13]
  after_results_entrywise [val13_main_while0b_v140, cast_eq]
set_option maxRecDepth 8192 in
theorem val14_main_while0b_cst_46 (V0 : Valuation τ sig (Elt F)) : val14 V0 (no_index (Proc.devRef .tc main_while0b_cst_46)) = constant S_ .f32 0x3F800000#32 := by
  unfold val14
  simp only [trip_w13]
  after_results_entrywise [cast_eq]

def val15 (V0 : Valuation τ sig (Elt F)) : Valuation τ sig (Elt F) := after trip_w14 (val14 V0)
theorem val15_keep (V0 : Valuation τ sig (Elt F)) (r : Ref sig .tc) (h : r ∉ trip_w14_W) :
    val15 V0 (Proc.devRef .tc r) = val14 V0 (Proc.devRef .tc r) :=
  after_of_writes_sub trip_w14 _ trip_w14_writes h
theorem val15_main_v28_4 (V0 : Valuation τ sig (Elt F)) : val15 V0 (no_index (Proc.devRef .tc main_v28_4)) = V0 (Proc.devRef .tc main_v28_4) :=
  (val15_keep V0 main_v28_4 (by decide)).trans (val14_main_v28_4 V0)
theorem val15_main_v28_0 (V0 : Valuation τ sig (Elt F)) : val15 V0 (no_index (Proc.devRef .tc main_v28_0)) = V0 (Proc.devRef .tc main_v28_0) :=
  (val15_keep V0 main_v28_0 (by decide)).trans (val14_main_v28_0 V0)
theorem val15_main_v28_5 (V0 : Valuation τ sig (Elt F)) : val15 V0 (no_index (Proc.devRef .tc main_v28_5)) = V0 (Proc.devRef .tc main_v28_5) :=
  (val15_keep V0 main_v28_5 (by decide)).trans (val14_main_v28_5 V0)
theorem val15_main_v28_1 (V0 : Valuation τ sig (Elt F)) : val15 V0 (no_index (Proc.devRef .tc main_v28_1)) = V0 (Proc.devRef .tc main_v28_1) :=
  (val15_keep V0 main_v28_1 (by decide)).trans (val14_main_v28_1 V0)
theorem val15_main_v28_6 (V0 : Valuation τ sig (Elt F)) : val15 V0 (no_index (Proc.devRef .tc main_v28_6)) = V0 (Proc.devRef .tc main_v28_6) :=
  (val15_keep V0 main_v28_6 (by decide)).trans (val14_main_v28_6 V0)
theorem val15_main_v28_2 (V0 : Valuation τ sig (Elt F)) : val15 V0 (no_index (Proc.devRef .tc main_v28_2)) = V0 (Proc.devRef .tc main_v28_2) :=
  (val15_keep V0 main_v28_2 (by decide)).trans (val14_main_v28_2 V0)
theorem val15_main_v28_7 (V0 : Valuation τ sig (Elt F)) : val15 V0 (no_index (Proc.devRef .tc main_v28_7)) = V0 (Proc.devRef .tc main_v28_7) :=
  (val15_keep V0 main_v28_7 (by decide)).trans (val14_main_v28_7 V0)
theorem val15_main_v28_3 (V0 : Valuation τ sig (Elt F)) : val15 V0 (no_index (Proc.devRef .tc main_v28_3)) = V0 (Proc.devRef .tc main_v28_3) :=
  (val15_keep V0 main_v28_3 (by decide)).trans (val14_main_v28_3 V0)
theorem val15_main_while0b_v36 (V0 : Valuation τ sig (Elt F)) : val15 V0 (no_index (Proc.devRef .tc main_while0b_v36)) = addi (V0 (Proc.devRef .tc main_v28_4)) (constantI S_ 32 1#32) :=
  (val15_keep V0 main_while0b_v36 (by decide)).trans (val14_main_while0b_v36 V0)
theorem val15_main_while0b_v72 (V0 : Valuation τ sig (Elt F)) : val15 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val15_keep V0 main_while0b_v72 (by decide)).trans (val14_main_while0b_v72 V0)
theorem val15_main_while0b_v108 (V0 : Valuation τ sig (Elt F)) : val15 V0 (no_index (Proc.devRef .tc main_while0b_v108)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))))) :=
  (val15_keep V0 main_while0b_v108 (by decide)).trans (val14_main_while0b_v108 V0)
theorem val15_main_while0b_v131 (V0 : Valuation τ sig (Elt F)) : val15 V0 (no_index (Proc.devRef .tc main_while0b_v131)) = Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (V0 (Proc.devRef .tc main_v28_2)) :=
  (val15_keep V0 main_while0b_v131 (by decide)).trans (val14_main_while0b_v131 V0)
set_option maxRecDepth 8192 in
theorem val15_main_while0b_v142 (V0 : Valuation τ sig (Elt F)) : val15 V0 (no_index (Proc.devRef .tc main_while0b_v142)) = maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (broadcastInDim S576 ![] bcast_S_S576 (constant S_ .f32 0x3F800000#32)))) := by
  unfold val15
  simp only [trip_w14]
  after_results_entrywise [val14_main_while0b_v141, val14_main_while0b_cst_46, cast_eq]

def val16 (V0 : Valuation τ sig (Elt F)) : Valuation τ sig (Elt F) := after trip_w15 (val15 V0)
theorem val16_keep (V0 : Valuation τ sig (Elt F)) (r : Ref sig .tc) (h : r ∉ trip_w15_W) :
    val16 V0 (Proc.devRef .tc r) = val15 V0 (Proc.devRef .tc r) :=
  after_of_writes_sub trip_w15 _ trip_w15_writes h
theorem val16_main_v28_4 (V0 : Valuation τ sig (Elt F)) : val16 V0 (no_index (Proc.devRef .tc main_v28_4)) = V0 (Proc.devRef .tc main_v28_4) :=
  (val16_keep V0 main_v28_4 (by decide)).trans (val15_main_v28_4 V0)
theorem val16_main_v28_0 (V0 : Valuation τ sig (Elt F)) : val16 V0 (no_index (Proc.devRef .tc main_v28_0)) = V0 (Proc.devRef .tc main_v28_0) :=
  (val16_keep V0 main_v28_0 (by decide)).trans (val15_main_v28_0 V0)
theorem val16_main_v28_5 (V0 : Valuation τ sig (Elt F)) : val16 V0 (no_index (Proc.devRef .tc main_v28_5)) = V0 (Proc.devRef .tc main_v28_5) :=
  (val16_keep V0 main_v28_5 (by decide)).trans (val15_main_v28_5 V0)
theorem val16_main_v28_1 (V0 : Valuation τ sig (Elt F)) : val16 V0 (no_index (Proc.devRef .tc main_v28_1)) = V0 (Proc.devRef .tc main_v28_1) :=
  (val16_keep V0 main_v28_1 (by decide)).trans (val15_main_v28_1 V0)
theorem val16_main_v28_6 (V0 : Valuation τ sig (Elt F)) : val16 V0 (no_index (Proc.devRef .tc main_v28_6)) = V0 (Proc.devRef .tc main_v28_6) :=
  (val16_keep V0 main_v28_6 (by decide)).trans (val15_main_v28_6 V0)
theorem val16_main_v28_2 (V0 : Valuation τ sig (Elt F)) : val16 V0 (no_index (Proc.devRef .tc main_v28_2)) = V0 (Proc.devRef .tc main_v28_2) :=
  (val16_keep V0 main_v28_2 (by decide)).trans (val15_main_v28_2 V0)
theorem val16_main_v28_7 (V0 : Valuation τ sig (Elt F)) : val16 V0 (no_index (Proc.devRef .tc main_v28_7)) = V0 (Proc.devRef .tc main_v28_7) :=
  (val16_keep V0 main_v28_7 (by decide)).trans (val15_main_v28_7 V0)
theorem val16_main_v28_3 (V0 : Valuation τ sig (Elt F)) : val16 V0 (no_index (Proc.devRef .tc main_v28_3)) = V0 (Proc.devRef .tc main_v28_3) :=
  (val16_keep V0 main_v28_3 (by decide)).trans (val15_main_v28_3 V0)
theorem val16_main_while0b_v36 (V0 : Valuation τ sig (Elt F)) : val16 V0 (no_index (Proc.devRef .tc main_while0b_v36)) = addi (V0 (Proc.devRef .tc main_v28_4)) (constantI S_ 32 1#32) :=
  (val16_keep V0 main_while0b_v36 (by decide)).trans (val15_main_while0b_v36 V0)
theorem val16_main_while0b_v72 (V0 : Valuation τ sig (Elt F)) : val16 V0 (no_index (Proc.devRef .tc main_while0b_v72)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))) :=
  (val16_keep V0 main_while0b_v72 (by decide)).trans (val15_main_while0b_v72 V0)
theorem val16_main_while0b_v108 (V0 : Valuation τ sig (Elt F)) : val16 V0 (no_index (Proc.devRef .tc main_while0b_v108)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))))) :=
  (val16_keep V0 main_while0b_v108 (by decide)).trans (val15_main_while0b_v108 V0)
set_option maxRecDepth 8192 in
theorem val16_main_while0b_v144 (V0 : Valuation τ sig (Elt F)) : val16 V0 (no_index (Proc.devRef .tc main_while0b_v144)) = Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (V0 (Proc.devRef .tc main_v28_2))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (broadcastInDim S576 ![] bcast_S_S576 (constant S_ .f32 0x3F800000#32)))))) := by
  unfold val16
  simp only [trip_w15]
  after_results_entrywise [val15_main_while0b_v142, val15_main_while0b_v131, cast_eq]

set_option maxRecDepth 8192 in
theorem trip_windows (V0 : Valuation τ sig (Elt F)) : after while0Ops0_12 (after while0Ops0_11 (after while0Ops0_10 (after while0Ops0_9 (after while0Ops0_8 (after while0Ops0_7 (after while0Ops0_6 (after while0Ops0_5 (after while0Ops0_4 (after while0Ops0_3 (after while0Ops0_2 (after while0Ops0_1 (after while0Ops0 (V0))))))))))))) = after while0Ops0_12_step (val16 V0) := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, while0Ops0_10_cut, while0Ops0_11_cut, while0Ops0_12_cut, after_append]
  rfl

set_option maxRecDepth 8192 in
set_option maxHeartbeats 2000000 in
theorem trip_main_v28_0 (V0 : Valuation τ sig (Elt F)) : afterL bodyI V0 (no_index (Proc.devRef .tc main_v28_0)) = V0 (Proc.devRef .tc main_v28_0) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl
set_option maxRecDepth 8192 in
set_option maxHeartbeats 2000000 in
theorem trip_main_v28_1 (V0 : Valuation τ sig (Elt F)) : afterL bodyI V0 (no_index (Proc.devRef .tc main_v28_1)) = V0 (Proc.devRef .tc main_v28_1) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl
set_option maxRecDepth 8192 in
set_option maxHeartbeats 2000000 in
theorem trip_main_v28_2 (V0 : Valuation τ sig (Elt F)) : afterL bodyI V0 (no_index (Proc.devRef .tc main_v28_2)) = V0 (Proc.devRef .tc main_v28_2) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl
set_option maxRecDepth 8192 in
set_option maxHeartbeats 2000000 in
theorem trip_main_v28_3 (V0 : Valuation τ sig (Elt F)) : afterL bodyI V0 (no_index (Proc.devRef .tc main_v28_3)) = id (addi (V0 (Proc.devRef .tc main_v28_3)) (constantI S_ 32 1#32)) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl
set_option maxRecDepth 8192 in
set_option maxHeartbeats 2000000 in
theorem trip_main_v28_4 (V0 : Valuation τ sig (Elt F)) : afterL bodyI V0 (no_index (Proc.devRef .tc main_v28_4)) = id (addi (V0 (Proc.devRef .tc main_v28_4)) (constantI S_ 32 1#32)) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl
set_option maxRecDepth 8192 in
set_option maxHeartbeats 2000000 in
theorem trip_main_v28_5 (V0 : Valuation τ sig (Elt F)) : afterL bodyI V0 (no_index (Proc.devRef .tc main_v28_5)) = id (Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32))))))) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl
set_option maxRecDepth 8192 in
set_option maxHeartbeats 2000000 in
theorem trip_main_v28_6 (V0 : Valuation τ sig (Elt F)) : afterL bodyI V0 (no_index (Proc.devRef .tc main_v28_6)) = id (Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32))))))) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl
set_option maxRecDepth 8192 in
set_option maxHeartbeats 2000000 in
theorem trip_main_v28_7 (V0 : Valuation τ sig (Elt F)) : afterL bodyI V0 (no_index (Proc.devRef .tc main_v28_7)) = id (Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (V0 (Proc.devRef .tc main_v28_2))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (broadcastInDim S576 ![] bcast_S_S576 (constant S_ .f32 0x3F800000#32))))))) := by
  simp only [bodyI, afterL_cons, afterL_nil, trip_windows]
  after_results
  all_goals (try simp only [val16_main_while0b_v36, val16_main_while0b_v72, val16_main_while0b_v108, val16_main_while0b_v144, val16_main_v28_0, val16_main_v28_1, val16_main_v28_2, val16_main_v28_3, val16_main_v28_4, val16_main_v28_5, val16_main_v28_6, val16_main_v28_7]) <;> rfl

abbrev carriedRefs : List (Ref sig .tc) := [main_v28_0, main_v28_1, main_v28_2, main_v28_3, main_v28_4, main_v28_5, main_v28_6, main_v28_7]
def Agree (V V' : Valuation τ sig (Elt F)) : Prop := ∀ j ∈ carriedRefs, V (Proc.devRef .tc j) = V' (Proc.devRef .tc j)

set_option maxRecDepth 8192 in
theorem res_main_while0b_v50_congr {V0 V0' : Valuation τ sig (Elt F)} (h : Agree V0 V0') : res_main_while0b_v50 V0 = res_main_while0b_v50 V0' := by
  unfold res_main_while0b_v50
  rw [h main_v28_0 (by decide), h main_v28_5 (by decide)]
set_option maxRecDepth 8192 in
theorem res_main_while0b_call0_v0_congr {V0 V0' : Valuation τ sig (Elt F)} (h : Agree V0 V0') : res_main_while0b_call0_v0 V0 = res_main_while0b_call0_v0 V0' := by
  unfold res_main_while0b_call0_v0
  rfl
set_option maxRecDepth 8192 in
theorem res_main_while0b_call0_cst_congr {V0 V0' : Valuation τ sig (Elt F)} (h : Agree V0 V0') : res_main_while0b_call0_cst V0 = res_main_while0b_call0_cst V0' := by
  unfold res_main_while0b_call0_cst
  rfl
set_option maxRecDepth 8192 in
theorem res_main_while0b_call0_c_congr {V0 V0' : Valuation τ sig (Elt F)} (h : Agree V0 V0') : res_main_while0b_call0_c V0 = res_main_while0b_call0_c V0' := by
  unfold res_main_while0b_call0_c
  rfl
set_option maxRecDepth 8192 in
theorem res_main_while0b_v51_congr {V0 V0' : Valuation τ sig (Elt F)} (h : Agree V0 V0') : res_main_while0b_v51 V0 = res_main_while0b_v51 V0' := by
  unfold res_main_while0b_v51
  rw [res_main_while0b_v50_congr h, res_main_while0b_call0_v0_congr h, res_main_while0b_call0_cst_congr h, res_main_while0b_call0_c_congr h]
set_option maxRecDepth 8192 in
theorem res_main_while0b_v86_congr {V0 V0' : Valuation τ sig (Elt F)} (h : Agree V0 V0') : res_main_while0b_v86 V0 = res_main_while0b_v86 V0' := by
  unfold res_main_while0b_v86
  rw [h main_v28_1 (by decide), h main_v28_6 (by decide)]
set_option maxRecDepth 8192 in
theorem res_main_while0b_call2_v0_congr {V0 V0' : Valuation τ sig (Elt F)} (h : Agree V0 V0') : res_main_while0b_call2_v0 V0 = res_main_while0b_call2_v0 V0' := by
  unfold res_main_while0b_call2_v0
  rfl
set_option maxRecDepth 8192 in
theorem res_main_while0b_call2_cst_congr {V0 V0' : Valuation τ sig (Elt F)} (h : Agree V0 V0') : res_main_while0b_call2_cst V0 = res_main_while0b_call2_cst V0' := by
  unfold res_main_while0b_call2_cst
  rfl
set_option maxRecDepth 8192 in
theorem res_main_while0b_call2_c_congr {V0 V0' : Valuation τ sig (Elt F)} (h : Agree V0 V0') : res_main_while0b_call2_c V0 = res_main_while0b_call2_c V0' := by
  unfold res_main_while0b_call2_c
  rfl
set_option maxRecDepth 8192 in
theorem res_main_while0b_v87_congr {V0 V0' : Valuation τ sig (Elt F)} (h : Agree V0 V0') : res_main_while0b_v87 V0 = res_main_while0b_v87 V0' := by
  unfold res_main_while0b_v87
  rw [res_main_while0b_v86_congr h, res_main_while0b_call2_v0_congr h, res_main_while0b_call2_cst_congr h, res_main_while0b_call2_c_congr h]
set_option maxRecDepth 8192 in
theorem res_main_while0b_v122_congr {V0 V0' : Valuation τ sig (Elt F)} (h : Agree V0 V0') : res_main_while0b_v122 V0 = res_main_while0b_v122 V0' := by
  unfold res_main_while0b_v122
  rw [h main_v28_2 (by decide), h main_v28_7 (by decide)]
set_option maxRecDepth 8192 in
theorem res_main_while0b_call4_v0_congr {V0 V0' : Valuation τ sig (Elt F)} (h : Agree V0 V0') : res_main_while0b_call4_v0 V0 = res_main_while0b_call4_v0 V0' := by
  unfold res_main_while0b_call4_v0
  rfl
set_option maxRecDepth 8192 in
theorem res_main_while0b_call4_cst_congr {V0 V0' : Valuation τ sig (Elt F)} (h : Agree V0 V0') : res_main_while0b_call4_cst V0 = res_main_while0b_call4_cst V0' := by
  unfold res_main_while0b_call4_cst
  rfl
set_option maxRecDepth 8192 in
theorem res_main_while0b_call4_c_congr {V0 V0' : Valuation τ sig (Elt F)} (h : Agree V0 V0') : res_main_while0b_call4_c V0 = res_main_while0b_call4_c V0' := by
  unfold res_main_while0b_call4_c
  rfl
set_option maxRecDepth 8192 in
theorem res_main_while0b_v123_congr {V0 V0' : Valuation τ sig (Elt F)} (h : Agree V0 V0') : res_main_while0b_v123 V0 = res_main_while0b_v123 V0' := by
  unfold res_main_while0b_v123
  rw [res_main_while0b_v122_congr h, res_main_while0b_call4_v0_congr h, res_main_while0b_call4_cst_congr h, res_main_while0b_call4_c_congr h]

set_option maxRecDepth 8192 in
def step_main_v28_3 (V0 : Valuation τ sig (Elt F)) : (Proc.devRef .tc main_v28_3 : DevRef τ sig).ty.Contents (Elt F) :=
  id (addi (V0 (Proc.devRef .tc main_v28_3)) (constantI S_ 32 1#32))
set_option maxRecDepth 8192 in
theorem step_main_v28_3_congr {V0 V0' : Valuation τ sig (Elt F)} (h : Agree V0 V0') : step_main_v28_3 V0 = step_main_v28_3 V0' := by
  unfold step_main_v28_3
  rw [h main_v28_3 (by decide)]
set_option maxRecDepth 8192 in
def step_main_v28_4 (V0 : Valuation τ sig (Elt F)) : (Proc.devRef .tc main_v28_4 : DevRef τ sig).ty.Contents (Elt F) :=
  id (addi (V0 (Proc.devRef .tc main_v28_4)) (constantI S_ 32 1#32))
set_option maxRecDepth 8192 in
theorem step_main_v28_4_congr {V0 V0' : Valuation τ sig (Elt F)} (h : Agree V0 V0') : step_main_v28_4 V0 = step_main_v28_4 V0' := by
  unfold step_main_v28_4
  rw [h main_v28_4 (by decide)]
set_option maxRecDepth 8192 in
def step_main_v28_5 (V0 : Valuation τ sig (Elt F)) : (Proc.devRef .tc main_v28_5 : DevRef τ sig).ty.Contents (Elt F) :=
  id (Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (V0 (Proc.devRef .tc main_v28_0))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v51 V0) (broadcastInDim S576 ![] bcast_S_S576 (constantI S_ 32 0#32))) (addi (res_main_while0b_v51 V0) (broadcastInDim S576 ![] bcast_S_S576 (constantI S_ 32 5#32))) (res_main_while0b_v51 V0))) (broadcastInDim S576 ![] bcast_S_S576 (constant S_ .f32 0x3F800000#32)))))))
set_option maxRecDepth 8192 in
theorem step_main_v28_5_congr {V0 V0' : Valuation τ sig (Elt F)} (h : Agree V0 V0') : step_main_v28_5 V0 = step_main_v28_5 V0' := by
  unfold step_main_v28_5
  rw [res_main_while0b_v51_congr h, h main_v28_0 (by decide)]
set_option maxRecDepth 8192 in
def step_main_v28_6 (V0 : Valuation τ sig (Elt F)) : (Proc.devRef .tc main_v28_6 : DevRef τ sig).ty.Contents (Elt F) :=
  id (Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (V0 (Proc.devRef .tc main_v28_1))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v87 V0) (broadcastInDim S576 ![] bcast_S_S576 (constantI S_ 32 0#32))) (addi (res_main_while0b_v87 V0) (broadcastInDim S576 ![] bcast_S_S576 (constantI S_ 32 5#32))) (res_main_while0b_v87 V0))) (broadcastInDim S576 ![] bcast_S_S576 (constant S_ .f32 0x3F800000#32)))))))
set_option maxRecDepth 8192 in
theorem step_main_v28_6_congr {V0 V0' : Valuation τ sig (Elt F)} (h : Agree V0 V0') : step_main_v28_6 V0 = step_main_v28_6 V0' := by
  unfold step_main_v28_6
  rw [res_main_while0b_v87_congr h, h main_v28_1 (by decide)]
set_option maxRecDepth 8192 in
def step_main_v28_7 (V0 : Valuation τ sig (Elt F)) : (Proc.devRef .tc main_v28_7 : DevRef τ sig).ty.Contents (Elt F) :=
  id (Host.divf (Host.scatterAdd scatter_S5x768_S576x1_S576x768_1_0_0_1 (broadcastInDim S5x768 ![] bcast_S_S5x768 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (V0 (Proc.devRef .tc main_v28_2))) (broadcastInDim S5x768 ![0, 1] bcast_S5x1_S5x768_0_1 (maximumf (broadcastInDim S5x1 ![] bcast_S_S5x1 (id (constant S_ .f32 0x3F800000#32))) (broadcastInDim S5x1 ![0] bcast_S5_S5x1_0 (Host.scatterAdd scatter_S5_S576x1_S576_n_0_0_1 (broadcastInDim S5 ![] bcast_S_S5 (constant S_ .f32 0x00000000#32)) (broadcastInDim S576x1 ![0] bcast_S576_S576x1_0 (select (cmpi .slt (res_main_while0b_v123 V0) (broadcastInDim S576 ![] bcast_S_S576 (constantI S_ 32 0#32))) (addi (res_main_while0b_v123 V0) (broadcastInDim S576 ![] bcast_S_S576 (constantI S_ 32 5#32))) (res_main_while0b_v123 V0))) (broadcastInDim S576 ![] bcast_S_S576 (constant S_ .f32 0x3F800000#32)))))))
set_option maxRecDepth 8192 in
theorem step_main_v28_7_congr {V0 V0' : Valuation τ sig (Elt F)} (h : Agree V0 V0') : step_main_v28_7 V0 = step_main_v28_7 V0' := by
  unfold step_main_v28_7
  rw [res_main_while0b_v123_congr h, h main_v28_2 (by decide)]

def STEP (V0 : Valuation τ sig (Elt F)) : Valuation τ sig (Elt F) :=
  Function.update (Function.update (Function.update (Function.update (Function.update (V0) (Proc.devRef .tc main_v28_3) (step_main_v28_3 V0)) (Proc.devRef .tc main_v28_4) (step_main_v28_4 V0)) (Proc.devRef .tc main_v28_5) (step_main_v28_5 V0)) (Proc.devRef .tc main_v28_6) (step_main_v28_6 V0)) (Proc.devRef .tc main_v28_7) (step_main_v28_7 V0)

theorem STEP_main_v28_0 (V0 : Valuation τ sig (Elt F)) : STEP V0 (Proc.devRef .tc main_v28_0) = V0 (Proc.devRef .tc main_v28_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v28_1 (V0 : Valuation τ sig (Elt F)) : STEP V0 (Proc.devRef .tc main_v28_1) = V0 (Proc.devRef .tc main_v28_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v28_2 (V0 : Valuation τ sig (Elt F)) : STEP V0 (Proc.devRef .tc main_v28_2) = V0 (Proc.devRef .tc main_v28_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v28_3 (V0 : Valuation τ sig (Elt F)) : STEP V0 (Proc.devRef .tc main_v28_3) = step_main_v28_3 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v28_4 (V0 : Valuation τ sig (Elt F)) : STEP V0 (Proc.devRef .tc main_v28_4) = step_main_v28_4 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v28_5 (V0 : Valuation τ sig (Elt F)) : STEP V0 (Proc.devRef .tc main_v28_5) = step_main_v28_5 V0 := by
  unfold STEP; rw [Function.update_of_ne (devRef_ne_of_ne (by decide))]; rw [Function.update_of_ne (devRef_ne_of_ne (by decide))]; rw [Function.update_self]
theorem STEP_main_v28_6 (V0 : Valuation τ sig (Elt F)) : STEP V0 (Proc.devRef .tc main_v28_6) = step_main_v28_6 V0 := by
  unfold STEP; rw [Function.update_of_ne (devRef_ne_of_ne (by decide))]; rw [Function.update_self]
theorem STEP_main_v28_7 (V0 : Valuation τ sig (Elt F)) : STEP V0 (Proc.devRef .tc main_v28_7) = step_main_v28_7 V0 := by
  unfold STEP; rw [Function.update_self]

theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
theorem trip_agree (X : Valuation τ sig (Elt F)) : Agree (afterL bodyI (after condOps X)) (STEP X) := by
  have hc := cond_keeps X
  intro j hj
  fin_cases hj
  · exact (trip_main_v28_0 (after condOps X)).trans ((hc main_v28_0 (by decide)).trans (STEP_main_v28_0 X).symm)
  · exact (trip_main_v28_1 (after condOps X)).trans ((hc main_v28_1 (by decide)).trans (STEP_main_v28_1 X).symm)
  · exact (trip_main_v28_2 (after condOps X)).trans ((hc main_v28_2 (by decide)).trans (STEP_main_v28_2 X).symm)
  · exact (trip_main_v28_3 (after condOps X)).trans ((step_main_v28_3_congr hc).trans (STEP_main_v28_3 X).symm)
  · exact (trip_main_v28_4 (after condOps X)).trans ((step_main_v28_4_congr hc).trans (STEP_main_v28_4 X).symm)
  · exact (trip_main_v28_5 (after condOps X)).trans ((step_main_v28_5_congr hc).trans (STEP_main_v28_5 X).symm)
  · exact (trip_main_v28_6 (after condOps X)).trans ((step_main_v28_6_congr hc).trans (STEP_main_v28_6 X).symm)
  · exact (trip_main_v28_7 (after condOps X)).trans ((step_main_v28_7_congr hc).trans (STEP_main_v28_7 X).symm)

set_option maxRecDepth 8192 in
theorem STEP_congr {V V' : Valuation τ sig (Elt F)} (h : Agree V V') : Agree (STEP V) (STEP V') := by
  intro j hj
  fin_cases hj
  · rw [STEP_main_v28_0, STEP_main_v28_0]; exact h main_v28_0 (by decide)
  · rw [STEP_main_v28_1, STEP_main_v28_1]; exact h main_v28_1 (by decide)
  · rw [STEP_main_v28_2, STEP_main_v28_2]; exact h main_v28_2 (by decide)
  · rw [STEP_main_v28_3, STEP_main_v28_3]; exact step_main_v28_3_congr h
  · rw [STEP_main_v28_4, STEP_main_v28_4]; exact step_main_v28_4_congr h
  · rw [STEP_main_v28_5, STEP_main_v28_5]; exact step_main_v28_5_congr h
  · rw [STEP_main_v28_6, STEP_main_v28_6]; exact step_main_v28_6_congr h
  · rw [STEP_main_v28_7, STEP_main_v28_7]; exact step_main_v28_7_congr h

theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Trip

end
-- ==== Proof.RefEnd.lean ====
/- The reference program's results after a run: the features, and ten steps of the clustering from the first
   five rows, written as functions of the arguments. -/
module

public import proofs.«01_k».proof.Proof.RefTrip
public import Idealize.ShloMosaic.Lib.StableHlo.RunRead
public import Idealize.ShloMosaic.Lib.Claim
public import Idealize.ShloMosaic.Lib.Pointwise
public import Idealize.ShloMosaic.Lib.Quiescent

@[expose] public section

set_option maxRecDepth 16384

noncomputable section

namespace Cert.ReferenceIdeal.Val

open Cert.ReferenceIdeal Cert.ReferenceIdeal.Gen Cert.ReferenceIdeal.Fold Cert.ReferenceIdeal.Trip
open Idealize.ShloMosaic Idealize.ShloMosaic.TcCoe Idealize.ShloMosaic.Tactic
open Idealize.ShloMosaic.StableHlo

/-- The image cut into patches, one patch a row. -/
def patchesR (x : S8x3x384x384.Idx → EReal) : S8x576x768.Idx → EReal :=
  shapeCast S8x576x768 (transpose S8x24x24x3x16x16 [0, 2, 4, 1, 3, 5] (shapeCast S8x3x24x16x24x16 x shapeCasts_S8x3x384x384_S8x3x24x16x24x16)
    transposes_S8x3x24x16x24x16_S8x24x24x3x16x16_0_2_4_1_3_5) shapeCasts_S8x24x24x3x16x16_S8x576x768

/-- The patches' embeddings under one weight matrix. -/
def embR (x : S8x3x384x384.Idx → EReal) (W : S768x768.Idx → EReal) : S8x576x768.Idx → EReal :=
  Host.dotGeneral (F := Ideal) (φ₁ := .f32) (φ₂ := .f32) dot_S8x576x768_S768x768_S8x576x768_2_0_01_1_n_n none (patchesR x) W

/-- The mean embedding of each image. -/
def meanR (x : S8x3x384x384.Idx → EReal) (W : S768x768.Idx → EReal) : S8x768.Idx → EReal :=
  Host.divf (F := Ideal) (φ := .f32) (Host.reduceAdd (F := Ideal) (φ := .f32) (embR x W) (constant S_ .f32 0x00000000#32) reducesTo_S8x576x768_S8x768_d1 h_S_)
    (broadcastInDim S8x768 ![] bcast_S_S8x768 (constant (F := Ideal) S_ .f32 0x44100000#32))

/-- The features of all three weight matrices. -/
def featR (x : S8x3x384x384.Idx → EReal) (W0 W1 W2 : S768x768.Idx → EReal) : S3x8x768.Idx → EReal :=
  concatenate S3x8x768 0 [⟨S1x8x768, broadcastInDim S1x8x768 ![1, 2] bcast_S8x768_S1x8x768_1_2 (meanR x W0)⟩,
    ⟨S1x8x768, broadcastInDim S1x8x768 ![1, 2] bcast_S8x768_S1x8x768_1_2 (meanR x W1)⟩,
    ⟨S1x8x768, broadcastInDim S1x8x768 ![1, 2] bcast_S8x768_S1x8x768_1_2 (meanR x W2)⟩] concatenates_S1x8x768_S1x8x768_S1x8x768_S3x8x768_d0

/-- The embeddings of the first image: the points to cluster. -/
def pointsR (x : S8x3x384x384.Idx → EReal) (W : S768x768.Idx → EReal) : S576x768.Idx → EReal :=
  shapeCast S576x768 (extractStridedSlice S1x576x768 ![0, 0, 0] (embR x W) slices_S8x576x768_S1x576x768_0_0_0) shapeCasts_S1x576x768_S576x768

/-- The squared distances of every point to every centre. -/
def distR (X : S576x768.Idx → EReal) (C : S5x768.Idx → EReal) : S576x5.Idx → EReal :=
  addf (F := Ideal) (φ := .f32) (subf (broadcastInDim S576x5 ![0, 1] bcast_S576x1_S576x5_0_1 (broadcastInDim S576x1 ![0] bcast_S576_S576x1_0 (Host.reduceAdd (F := Ideal) (φ := .f32) (mulf (F := Ideal) (φ := .f32) (X) (X)) (constant (F := Ideal) S_ .f32 0x00000000#32) reducesTo_S576x768_S576_d1 h_S_))) (mulf (broadcastInDim S576x5 ![] bcast_S_S576x5 (constant (F := Ideal) S_ .f32 0x40000000#32)) (Host.dotGeneral (F := Ideal) (φ₁ := .f32) (φ₂ := .f32) dot_S576x768_S768x5_S576x5_1_0_0_1_n_n none (X) (transpose S768x5 [1, 0] (C) transposes_S5x768_S768x5_1_0)))) (broadcastInDim S576x5 ![0, 1] bcast_S1x5_S576x5_0_1 (broadcastInDim S1x5 ![1] bcast_S5_S1x5_1 (Host.reduceAdd (F := Ideal) (φ := .f32) (mulf (F := Ideal) (φ := .f32) (C) (C)) (constant (F := Ideal) S_ .f32 0x00000000#32) reducesTo_S5x768_S5_d1 h_S_)))

/-- The nearest centre of every point. -/
def assignR (X : S576x768.Idx → EReal) (C : S5x768.Idx → EReal) : IVec S576 32 :=
  fun j => (Host.argReduce (F := Ideal) (φ := .f32) reducer_argmin_f32_i32 (distR X C) (iotaInDim S576x5 32 1) (constant S_ .f32 0x7F800000#32) (constantI S_ 32 0#32) reducesTo_S576x5_S576_d1 h_S_ j).2

/-- One step of the clustering. -/
def stepR (X : S576x768.Idx → EReal) (C : S5x768.Idx → EReal) : S5x768.Idx → EReal :=
  id (Host.divf (F := Ideal) (φ := .f32) (Host.scatterAdd (F := Ideal) (φ := .f32) scatter_S5x768_S576x1_S576x768_1_0_0_1 (broadcastInDim S5x768 ![] bcast_S_S5x768 (constant (F := Ideal) S_ .f32 0x00000000#32)) (broadcastInDim S576x1 ![0] bcast_S576_S576x1_0 (select (cmpi .slt (assignR X C) (broadcastInDim S576 ![] bcast_S_S576 (constantI S_ 32 0#32))) (addi (assignR X C) (broadcastInDim S576 ![] bcast_S_S576 (constantI S_ 32 5#32))) (assignR X C))) (X)) (broadcastInDim S5x768 ![0, 1] bcast_S5x1_S5x768_0_1 (maximumf (broadcastInDim S5x1 ![] bcast_S_S5x1 (id (constant (F := Ideal) S_ .f32 0x3F800000#32))) (broadcastInDim S5x1 ![0] bcast_S5_S5x1_0 (Host.scatterAdd (F := Ideal) (φ := .f32) scatter_S5_S576x1_S576_n_0_0_1 (broadcastInDim S5 ![] bcast_S_S5 (constant (F := Ideal) S_ .f32 0x00000000#32)) (broadcastInDim S576x1 ![0] bcast_S576_S576x1_0 (select (cmpi .slt (assignR X C) (broadcastInDim S576 ![] bcast_S_S576 (constantI S_ 32 0#32))) (addi (assignR X C) (broadcastInDim S576 ![] bcast_S_S576 (constantI S_ 32 5#32))) (assignR X C))) (broadcastInDim S576 ![] bcast_S_S576 (constant (F := Ideal) S_ .f32 0x3F800000#32)))))))

/-- The centres after ten steps from the first five points. -/
def centR (x : S8x3x384x384.Idx → EReal) (W : S768x768.Idx → EReal) : S5x768.Idx → EReal :=
  (stepR (pointsR x W))^[10] (extractStridedSlice S5x768 ![0, 0] (pointsR x W) slices_S576x768_S5x768_0_0)

/-- The centres of all three weight matrices. -/
def centsR (x : S8x3x384x384.Idx → EReal) (W0 W1 W2 : S768x768.Idx → EReal) : S3x1x5x768.Idx → EReal :=
  concatenate S3x1x5x768 0 [⟨S1x1x5x768, broadcastInDim S1x1x5x768 ![1, 2, 3] bcast_S1x5x768_S1x1x5x768_1_2_3 (broadcastInDim S1x5x768 ![1, 2] bcast_S5x768_S1x5x768_1_2 (centR x W0))⟩,
    ⟨S1x1x5x768, broadcastInDim S1x1x5x768 ![1, 2, 3] bcast_S1x5x768_S1x1x5x768_1_2_3 (broadcastInDim S1x5x768 ![1, 2] bcast_S5x768_S1x5x768_1_2 (centR x W1))⟩,
    ⟨S1x1x5x768, broadcastInDim S1x1x5x768 ![1, 2, 3] bcast_S1x5x768_S1x1x5x768_1_2_3 (broadcastInDim S1x5x768 ![1, 2] bcast_S5x768_S1x5x768_1_2 (centR x W2))⟩] concatenates_S1x1x5x768_S1x1x5x768_S1x1x5x768_S3x1x5x768_d0

theorem step5 (V : Valuation τ sig (Elt Ideal)) : @Eq (S5x768.Idx → EReal) (step_main_v28_5 V) (stepR (V (Proc.devRef .tc main_v28_0)) (V (Proc.devRef .tc main_v28_5))) := by
  unfold step_main_v28_5 stepR assignR distR
  rfl
theorem step6 (V : Valuation τ sig (Elt Ideal)) : @Eq (S5x768.Idx → EReal) (step_main_v28_6 V) (stepR (V (Proc.devRef .tc main_v28_1)) (V (Proc.devRef .tc main_v28_6))) := by
  unfold step_main_v28_6 stepR assignR distR
  rfl
theorem step7 (V : Valuation τ sig (Elt Ideal)) : @Eq (S5x768.Idx → EReal) (step_main_v28_7 V) (stepR (V (Proc.devRef .tc main_v28_2)) (V (Proc.devRef .tc main_v28_7))) := by
  unfold step_main_v28_7 stepR assignR distR
  rfl

variable (m : (ℓ : Loc nD τ sig) → Buf (Elt Ideal) ℓ) (ρ : Dev nD → PrngReg)

/-- What the loop writes. -/
abbrev loopW : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W

theorem trip_keeps (r : Ref sig .tc) (h : r ∉ loopW) (X : Valuation τ sig (Elt Ideal)) :
    afterL bodyI (after condOps X) (Proc.devRef .tc r) = X (Proc.devRef .tc r) := by
  simp only [loopW, List.mem_append, not_or] at h
  simp only [afterL_cons, afterL_nil]
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := h
  rw [after_of_writes_sub while0Ops0_12 _ while0Ops0_12_writes h13, after_of_writes_sub while0Ops0_11 _ while0Ops0_11_writes h12, after_of_writes_sub while0Ops0_10 _ while0Ops0_10_writes h11, after_of_writes_sub while0Ops0_9 _ while0Ops0_9_writes h10, after_of_writes_sub while0Ops0_8 _ while0Ops0_8_writes h9, after_of_writes_sub while0Ops0_7 _ while0Ops0_7_writes h8, after_of_writes_sub while0Ops0_6 _ while0Ops0_6_writes h7, after_of_writes_sub while0Ops0_5 _ while0Ops0_5_writes h6, after_of_writes_sub while0Ops0_4 _ while0Ops0_4_writes h5, after_of_writes_sub while0Ops0_3 _ while0Ops0_3_writes h4, after_of_writes_sub while0Ops0_2 _ while0Ops0_2_writes h3, after_of_writes_sub while0Ops0_1 _ while0Ops0_1_writes h2, after_of_writes_sub while0Ops0 _ while0Ops0_writes h1, after_of_writes_sub condOps _ condOps_writes h0]

theorem atK_keeps (r : Ref sig .tc) (h : r ∉ loopW) (c : Dev nD) : ∀ k, atK m k c (Proc.devRef .tc r) = entryContents preI m c (Proc.devRef .tc r)
  | 0 => rfl
  | k + 1 => (trip_keeps r h (atK m k c)).trans (atK_keeps r h c k)

theorem final_keeps (r : Ref sig .tc) (h : r ∉ loopW) (h1 : r ∉ hostOps0_1_W) (c : Dev nD) :
    finalContents condOps preI bodyI postI 10 m c (Proc.devRef .tc r) = entryContents preI m c (Proc.devRef .tc r) := by
  have hc : r ∉ condOps_W := fun h' => h (by simp only [loopW, List.mem_append]; tauto)
  simp only [finalContents, afterL_cons, afterL_nil]
  rw [after_of_writes_sub hostOps0_1 _ hostOps0_1_writes h1, after_of_writes_sub condOps _ condOps_writes hc]
  exact atK_keeps m r h c 10

theorem final_arg (r : Ref sig .tc) (h : r ∉ loopW) (h1 : r ∉ hostOps0_1_W) (h0 : r ∉ hostOps0_W) (c : Dev nD) :
    finalContents condOps preI bodyI postI 10 m c (Proc.devRef .tc r) = m ((c : Thread nD τ).loc r) := by
  rw [final_keeps m r h h1]
  simp only [entryContents, afterL_cons, afterL_nil]
  rw [after_of_writes_sub hostOps0 _ hostOps0_writes h0]

theorem final_v18 (c : Dev nD) : @Eq (S3x8x768.Idx → EReal) (finalContents condOps preI bodyI postI 10 m c (Proc.devRef .tc main_v18))
    (featR (m ((c : Thread nD τ).loc main_arg0)) (m ((c : Thread nD τ).loc main_arg1)) (m ((c : Thread nD τ).loc main_arg2)) (m ((c : Thread nD τ).loc main_arg3))) := by
  rw [final_keeps m main_v18 (by decide +kernel) (by decide +kernel)]
  simp only [entryContents, afterL_cons, afterL_nil]
  after_reads_simp
  rfl

theorem entry_X0 (c : Dev nD) : @Eq (S576x768.Idx → EReal) (entryContents preI m c (Proc.devRef .tc main_v28_0)) (pointsR (m ((c : Thread nD τ).loc main_arg0)) (m ((c : Thread nD τ).loc main_arg1))) := by
  simp only [entryContents, afterL_cons, afterL_nil]
  after_reads_simp
  rfl

theorem entry_C0 (c : Dev nD) : @Eq (S5x768.Idx → EReal) (entryContents preI m c (Proc.devRef .tc main_v28_5))
    (extractStridedSlice S5x768 ![0, 0] (pointsR (m ((c : Thread nD τ).loc main_arg0)) (m ((c : Thread nD τ).loc main_arg1))) slices_S576x768_S5x768_0_0) := by
  simp only [entryContents, afterL_cons, afterL_nil]
  after_reads_simp
  rfl

theorem entry_X1 (c : Dev nD) : @Eq (S576x768.Idx → EReal) (entryContents preI m c (Proc.devRef .tc main_v28_1)) (pointsR (m ((c : Thread nD τ).loc main_arg0)) (m ((c : Thread nD τ).loc main_arg2))) := by
  simp only [entryContents, afterL_cons, afterL_nil]
  after_reads_simp
  rfl

theorem entry_C1 (c : Dev nD) : @Eq (S5x768.Idx → EReal) (entryContents preI m c (Proc.devRef .tc main_v28_6))
    (extractStridedSlice S5x768 ![0, 0] (pointsR (m ((c : Thread nD τ).loc main_arg0)) (m ((c : Thread nD τ).loc main_arg2))) slices_S576x768_S5x768_0_0) := by
  simp only [entryContents, afterL_cons, afterL_nil]
  after_reads_simp
  rfl

theorem entry_X2 (c : Dev nD) : @Eq (S576x768.Idx → EReal) (entryContents preI m c (Proc.devRef .tc main_v28_2)) (pointsR (m ((c : Thread nD τ).loc main_arg0)) (m ((c : Thread nD τ).loc main_arg3))) := by
  simp only [entryContents, afterL_cons, afterL_nil]
  after_reads_simp
  rfl

theorem entry_C2 (c : Dev nD) : @Eq (S5x768.Idx → EReal) (entryContents preI m c (Proc.devRef .tc main_v28_7))
    (extractStridedSlice S5x768 ![0, 0] (pointsR (m ((c : Thread nD τ).loc main_arg0)) (m ((c : Thread nD τ).loc main_arg3))) slices_S576x768_S5x768_0_0) := by
  simp only [entryContents, afterL_cons, afterL_nil]
  after_reads_simp
  rfl

theorem iter_X (V : Valuation τ sig (Elt Ideal)) (k : ℕ) : (STEP^[k] V) (Proc.devRef .tc main_v28_0) = V (Proc.devRef .tc main_v28_0)
    ∧ (STEP^[k] V) (Proc.devRef .tc main_v28_1) = V (Proc.devRef .tc main_v28_1) ∧ (STEP^[k] V) (Proc.devRef .tc main_v28_2) = V (Proc.devRef .tc main_v28_2) := by
  induction k with
  | zero => exact ⟨rfl, rfl, rfl⟩
  | succ k ih =>
    rw [Function.iterate_succ_apply']
    exact ⟨(STEP_main_v28_0 _).trans ih.1, (STEP_main_v28_1 _).trans ih.2.1, (STEP_main_v28_2 _).trans ih.2.2⟩

theorem iter_C0 (V : Valuation τ sig (Elt Ideal)) (k : ℕ) : @Eq (S5x768.Idx → EReal) ((STEP^[k] V) (Proc.devRef .tc main_v28_5))
    ((stepR (V (Proc.devRef .tc main_v28_0)))^[k] (V (Proc.devRef .tc main_v28_5))) := by
  induction k with
  | zero => rfl
  | succ k ih =>
    rw [Function.iterate_succ_apply', Function.iterate_succ_apply', ← ih]
    exact (STEP_main_v28_5 _).trans ((step5 _).trans (by rw [(iter_X V k).1]))

theorem iter_C1 (V : Valuation τ sig (Elt Ideal)) (k : ℕ) : @Eq (S5x768.Idx → EReal) ((STEP^[k] V) (Proc.devRef .tc main_v28_6))
    ((stepR (V (Proc.devRef .tc main_v28_1)))^[k] (V (Proc.devRef .tc main_v28_6))) := by
  induction k with
  | zero => rfl
  | succ k ih =>
    rw [Function.iterate_succ_apply', Function.iterate_succ_apply', ← ih]
    exact (STEP_main_v28_6 _).trans ((step6 _).trans (by rw [(iter_X V k).2.1]))

theorem iter_C2 (V : Valuation τ sig (Elt Ideal)) (k : ℕ) : @Eq (S5x768.Idx → EReal) ((STEP^[k] V) (Proc.devRef .tc main_v28_7))
    ((stepR (V (Proc.devRef .tc main_v28_2)))^[k] (V (Proc.devRef .tc main_v28_7))) := by
  induction k with
  | zero => rfl
  | succ k ih =>
    rw [Function.iterate_succ_apply', Function.iterate_succ_apply', ← ih]
    exact (STEP_main_v28_7 _).trans ((step7 _).trans (by rw [(iter_X V k).2.2]))

theorem final_c5 (c : Dev nD) : @Eq (S5x768.Idx → EReal) (after condOps (atTrip condOps bodyI (entryContents preI m) 10 c) (Proc.devRef .tc main_v28_5))
    (centR (m ((c : Thread nD τ).loc main_arg0)) (m ((c : Thread nD τ).loc main_arg1))) := by
  refine (cond_keeps _ main_v28_5 (by decide)).trans ((atK_agree m c 10 main_v28_5 (by decide)).trans ((iter_C0 _ 10).trans ?_))
  rw [entry_X0, entry_C0]
  rfl

theorem final_c6 (c : Dev nD) : @Eq (S5x768.Idx → EReal) (after condOps (atTrip condOps bodyI (entryContents preI m) 10 c) (Proc.devRef .tc main_v28_6))
    (centR (m ((c : Thread nD τ).loc main_arg0)) (m ((c : Thread nD τ).loc main_arg2))) := by
  refine (cond_keeps _ main_v28_6 (by decide)).trans ((atK_agree m c 10 main_v28_6 (by decide)).trans ((iter_C1 _ 10).trans ?_))
  rw [entry_X1, entry_C1]
  rfl

theorem final_c7 (c : Dev nD) : @Eq (S5x768.Idx → EReal) (after condOps (atTrip condOps bodyI (entryContents preI m) 10 c) (Proc.devRef .tc main_v28_7))
    (centR (m ((c : Thread nD τ).loc main_arg0)) (m ((c : Thread nD τ).loc main_arg3))) := by
  refine (cond_keeps _ main_v28_7 (by decide)).trans ((atK_agree m c 10 main_v28_7 (by decide)).trans ((iter_C2 _ 10).trans ?_))
  rw [entry_X2, entry_C2]
  rfl

theorem final_v35 (c : Dev nD) : @Eq (S3x1x5x768.Idx → EReal) (finalContents condOps preI bodyI postI 10 m c (Proc.devRef .tc main_v35))
    (centsR (m ((c : Thread nD τ).loc main_arg0)) (m ((c : Thread nD τ).loc main_arg1)) (m ((c : Thread nD τ).loc main_arg2)) (m ((c : Thread nD τ).loc main_arg3))) := by
  simp only [finalContents, afterL_cons, afterL_nil]
  have e0 := final_c5 m c
  have e1 := final_c6 m c
  have e2 := final_c7 m c
  generalize after condOps (atTrip condOps bodyI (entryContents preI m) 10 c) = Z at e0 e1 e2 ⊢
  after_reads_simp
  unfold centsR
  rw [← e0, ← e1, ← e2]
  rfl

theorem run_vals : θ_run (defs (F := Ideal)) (onTc (τ := τ) (main (F := Ideal))) ⟨m, fun _ => 0, ρ⟩ (fun r => ∀ c : Dev nD,
      r.2.mem ((c.tc : Thread nD τ).loc main_v18) = featR (m ((c : Thread nD τ).loc main_arg0)) (m ((c : Thread nD τ).loc main_arg1)) (m ((c : Thread nD τ).loc main_arg2)) (m ((c : Thread nD τ).loc main_arg3))
      ∧ r.2.mem ((c.tc : Thread nD τ).loc main_v35) = centsR (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c main_v18 (by decide)).trans (final_v18 m c), (h c main_v35 (by decide)).trans (final_v35 m c),
    (h c main_arg0 (by decide)).trans (final_arg m main_arg0 (by decide +kernel) (by decide +kernel) (by decide +kernel) c),
    (h c main_arg1 (by decide)).trans (final_arg m main_arg1 (by decide +kernel) (by decide +kernel) (by decide +kernel) c),
    (h c main_arg2 (by decide)).trans (final_arg m main_arg2 (by decide +kernel) (by decide +kernel) (by decide +kernel) c),
    (h c main_arg3 (by decide)).trans (final_arg m main_arg3 (by decide +kernel) (by decide +kernel) (by decide +kernel) c)⟩)
    (run_fold m ρ)

/-- The arguments end unchanged and the machine is quiescent. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems rfl _⟩) (run_vals m ρ)

end Cert.ReferenceIdeal.Val

end
-- ==== Proof.KFeat.lean ====
/- The feature path: patch sums, patch means, and their embeddings, over the reals. -/
module

public import proofs.«01_k».proof.Proof.KEnd
public import proofs.«01_k».proof.Proof.Arrays

@[expose] public section

set_option maxRecDepth 16384

noncomputable section

namespace Cert.KernelIdeal.Val

open Cert.KernelIdeal.Gen Cert.Sums
open Idealize.ShloMosaic Idealize.ShloMosaic.TcCoe Idealize.ShloMosaic.Tactic
open scoped BigOperators

/-- The patch sums of one block, entry by entry. -/
theorem pay390_at (x : S6x24x16x384.Idx → EReal) (R : S384x16.Idx → EReal) (L : S96x2304.Idx → EReal) (y : S96x16.Idx) :
    @Eq EReal (k0_pay390 (F := Ideal) x R R L L y)
    (∑ q : Fin 2304, L (ix2 (y 0) q) * (∑ w : Fin 384, x (ix4 ⟨q.val / 384, by omega⟩ ⟨q.val / 16 % 24, by omega⟩ ⟨q.val % 16, by omega⟩ w) * R (ix2 w (y 1))
       + ∑ w : Fin 384, (x (ix4 ⟨q.val / 384, by omega⟩ ⟨q.val / 16 % 24, by omega⟩ ⟨q.val % 16, by omega⟩ w) - x (ix4 ⟨q.val / 384, by omega⟩ ⟨q.val / 16 % 24, by omega⟩ ⟨q.val % 16, by omega⟩ w)) * R (ix2 w (y 1)))
     + ∑ q : Fin 2304, L (ix2 (y 0) q) * ((∑ w : Fin 384, x (ix4 ⟨q.val / 384, by omega⟩ ⟨q.val / 16 % 24, by omega⟩ ⟨q.val % 16, by omega⟩ w) * R (ix2 w (y 1))
       + ∑ w : Fin 384, (x (ix4 ⟨q.val / 384, by omega⟩ ⟨q.val / 16 % 24, by omega⟩ ⟨q.val % 16, by omega⟩ w) - x (ix4 ⟨q.val / 384, by omega⟩ ⟨q.val / 16 % 24, by omega⟩ ⟨q.val % 16, by omega⟩ w)) * R (ix2 w (y 1)))
       - (∑ w : Fin 384, x (ix4 ⟨q.val / 384, by omega⟩ ⟨q.val / 16 % 24, by omega⟩ ⟨q.val % 16, by omega⟩ w) * R (ix2 w (y 1))
       + ∑ w : Fin 384, (x (ix4 ⟨q.val / 384, by omega⟩ ⟨q.val / 16 % 24, by omega⟩ ⟨q.val % 16, by omega⟩ w) - x (ix4 ⟨q.val / 384, by omega⟩ ⟨q.val / 16 % 24, by omega⟩ ⟨q.val % 16, by omega⟩ w)) * R (ix2 w (y 1))))) := by
  pointwise [k0_pay390]

theorem pay390_real {X : S6x24x16x384.Idx → EReal} {R : S384x16.Idx → EReal} {L : S96x2304.Idx → EReal}
    (x : Fin 2304 → Fin 384 → ℝ) (ρ : Fin 384 → Fin 16 → ℝ) (l : Fin 96 → Fin 2304 → ℝ)
    (hX : ∀ (q : Fin 2304) (w : Fin 384), X (ix4 ⟨q.val / 384, by omega⟩ ⟨q.val / 16 % 24, by omega⟩ ⟨q.val % 16, by omega⟩ w) = (x q w : EReal))
    (hR : ∀ w j, R (ix2 w j) = (ρ w j : EReal)) (hL : ∀ r q, L (ix2 r q) = (l r q : EReal)) (r : Fin 96) (j : Fin 16) :
    @Eq EReal (k0_pay390 (F := Ideal) X R R L L (ix2 r j)) ((∑ q, l r q * ∑ w, x q w * ρ w j : ℝ) : EReal) := by
  rw [pay390_at]
  have e0 : (ix2 r j : S96x16.Idx) 0 = r := rfl
  have e1 : (ix2 r j : S96x16.Idx) 1 = j := rfl
  rw [e0, e1]
  simp only [hX, hR, hL]
  exact split_two (l r) x (fun w => ρ w j)

/-- The regrouped image, entry by entry. -/
theorem regroup_at (x : S8x3x384x384.Idx → EReal) (s : Fin 24) (g : Fin 24) (i : Fin 16) (w : Fin 384) :
    shapeCast S24x24x16x384 x shapeCasts_S8x3x384x384_S24x24x16x384 (ix4 s g i w) =
      x (ix4 ⟨s.val / 3, by omega⟩ ⟨s.val % 3, by omega⟩ ⟨g.val * 16 + i.val, by omega⟩ w) := by
  pointwise

/-- The image block of point `t`, entry by entry. -/
theorem blk0_at (m : (ℓ : Loc nD τ sig) → Buf (Elt Ideal) ℓ) (c : Dev nD) (hx : Fin1 (s := S8x3x384x384) (m ((c : Thread nD τ).loc main_arg0))) (t : Fin cfg0.N)
    (a : Fin 6) (g : Fin 24) (i : Fin 16) (w : Fin 384) :
    @Eq EReal ((iblk m c 0 t : S6x24x16x384.Idx → EReal) (ix4 a g i w))
      ((xN (m ((c : Thread nD τ).loc main_arg0)) ((6 * t.val + a.val) / 3) ((6 * t.val + a.val) % 3) (g.val * 16 + i.val) w.val : ℝ) : EReal) := by
  have ht : t.val < 4 := t.isLt
  refine (show @Eq EReal _ _ from iblk0 m c t a g i w).trans ?_
  rw [V_v0]
  refine (regroup_at _ ⟨6 * t.val + a.val, by omega⟩ g i w).trans ?_
  exact x_at hx ⟨(6 * t.val + a.val) / 3, by omega⟩ ⟨(6 * t.val + a.val) % 3, by omega⟩ ⟨g.val * 16 + i.val, by omega⟩ w

/-- Patch sums: image `s / 3`, channel `s % 3`, row place `i`, column place `j`. -/
def psN (x : S8x3x384x384.Idx → EReal) (s i j : ℕ) : ℝ :=
  ∑ gh ∈ Finset.range 24, ∑ gw ∈ Finset.range 24, xN x (s / 3) (s % 3) (gh * 16 + i) (gw * 16 + j)

/-- What one point adds to the table of patch sums. -/
theorem psumAt_at (m : (ℓ : Loc nD τ sig) → Buf (Elt Ideal) ℓ) (c : Dev nD) (hx : Fin1 (s := S8x3x384x384) (m ((c : Thread nD τ).loc main_arg0))) (t : Fin cfg0.N)
    (r : Fin 96) (j : Fin 16) :
    @Eq EReal (psumAt m c t (ix2 r j)) ((psN (m ((c : Thread nD τ).loc main_arg0)) (6 * t.val + r.val / 16) (r.val % 16) j.val : ℝ) : EReal) := by
  have hr := r.isLt
  have hj := j.isLt
  refine (pay390_real
    (fun q w => xN (m ((c : Thread nD τ).loc main_arg0)) ((6 * t.val + q.val / 384) / 3) ((6 * t.val + q.val / 384) % 3) (q.val / 16 % 24 * 16 + q.val % 16) w.val)
    (fun w j => if w.val % 16 = j.val then 1 else 0)
    (fun r q => if (q.val / 1152 = r.val / 48 ∧ q.val % 1152 / 384 = r.val % 48 / 16) ∧ q.val % 16 = r.val % 16 then 1 else 0)
    (fun q w => blk0_at m c hx t _ _ _ w)
    (fun w j => by
      refine Eq.trans (congrFun (iblk4 m c t) _) ((Rm_at m c w j).trans ?_)
      split <;> simp)
    (fun r q => by
      refine Eq.trans (congrFun (iblk5 m c t) _) ((Lm_at m c r q).trans ?_)
      split <;> simp)
    r j).trans ?_
  congr 1
  have h := patch_sum (fun a g i w => xN (m ((c : Thread nD τ).loc main_arg0)) ((6 * t.val + a) / 3) ((6 * t.val + a) % 3) (g * 16 + i) w) r.val j.val hr hj
  simp only [Finset.sum_range] at h
  unfold psN
  simp only [Finset.sum_range]
  exact h

/-- The whole table of patch sums. -/
theorem psumFull_at (m : (ℓ : Loc nD τ sig) → Buf (Elt Ideal) ℓ) (c : Dev nD) (hx : Fin1 (s := S8x3x384x384) (m ((c : Thread nD τ).loc main_arg0)))
    (r : Fin 384) (j : Fin 16) :
    @Eq EReal (psumFull m c (ix2 r j)) ((psN (m ((c : Thread nD τ).loc main_arg0)) (r.val / 16) (r.val % 16) j.val : ℝ) : EReal) := by
  have hr := r.isLt
  refine (psumAt_at m c hx ⟨r.val / 96, by show r.val / 96 < 4; omega⟩ ⟨r.val % 96, by omega⟩ j).trans ?_
  congr 2
  · show 6 * (r.val / 96) + r.val % 96 / 16 = r.val / 16
    omega
  · show r.val % 96 % 16 = r.val % 16
    omega

theorem tile32 (S : S384x16.Idx → EReal) (r : Fin 384) (j : Fin 32) :
    concatenate S384x32 1 [⟨S384x16, S⟩, ⟨S384x16, S⟩] concatenates_S384x16_S384x16_S384x32_d1 (ix2 r j)
      = S (ix2 r ⟨j.val % 16, Nat.mod_lt _ (by decide)⟩) := by
  have hj := j.isLt
  pointwise
  split <;> rename_i h <;> (change _ at h; congr 2; apply Fin.ext; simp only []; omega)

theorem tile64 {S : S384x16.Idx → EReal} {A : S384x32.Idx → EReal} (hA : ∀ (r : Fin 384) (j : Fin 32), A (ix2 r j) = S (ix2 r ⟨j.val % 16, Nat.mod_lt _ (by decide)⟩)) (r : Fin 384) (j : Fin 64) :
    concatenate S384x64 1 [⟨S384x32, A⟩, ⟨S384x32, A⟩] concatenates_S384x32_S384x32_S384x64_d1 (ix2 r j)
      = S (ix2 r ⟨j.val % 16, Nat.mod_lt _ (by decide)⟩) := by
  have hj := j.isLt
  pointwise
  split <;> rename_i h <;> change _ at h
  · refine (hA _ _).trans ?_
    congr 2
  · refine (hA _ _).trans ?_
    congr 2; apply Fin.ext; simp only []; omega

theorem tile128 {S : S384x16.Idx → EReal} {A : S384x64.Idx → EReal} (hA : ∀ (r : Fin 384) (j : Fin 64), A (ix2 r j) = S (ix2 r ⟨j.val % 16, Nat.mod_lt _ (by decide)⟩)) (r : Fin 384) (j : Fin 128) :
    concatenate S384x128 1 [⟨S384x64, A⟩, ⟨S384x64, A⟩] concatenates_S384x64_S384x64_S384x128_d1 (ix2 r j)
      = S (ix2 r ⟨j.val % 16, Nat.mod_lt _ (by decide)⟩) := by
  have hj := j.isLt
  pointwise
  split <;> rename_i h <;> change _ at h
  · refine (hA _ _).trans ?_
    congr 2
  · refine (hA _ _).trans ?_
    congr 2; apply Fin.ext; simp only []; omega

theorem tile256 {S : S384x16.Idx → EReal} {A : S384x128.Idx → EReal} (hA : ∀ (r : Fin 384) (j : Fin 128), A (ix2 r j) = S (ix2 r ⟨j.val % 16, Nat.mod_lt _ (by decide)⟩)) (r : Fin 384) (j : Fin 256) :
    concatenate S384x256 1 [⟨S384x128, A⟩, ⟨S384x128, A⟩] concatenates_S384x128_S384x128_S384x256_d1 (ix2 r j)
      = S (ix2 r ⟨j.val % 16, Nat.mod_lt _ (by decide)⟩) := by
  have hj := j.isLt
  pointwise
  split <;> rename_i h <;> change _ at h
  · refine (hA _ _).trans ?_
    congr 2
  · refine (hA _ _).trans ?_
    congr 2; apply Fin.ext; simp only []; omega

theorem tile512 {S : S384x16.Idx → EReal} {A : S384x256.Idx → EReal} (hA : ∀ (r : Fin 384) (j : Fin 256), A (ix2 r j) = S (ix2 r ⟨j.val % 16, Nat.mod_lt _ (by decide)⟩)) (r : Fin 384) (j : Fin 512) :
    concatenate S384x512 1 [⟨S384x256, A⟩, ⟨S384x256, A⟩] concatenates_S384x256_S384x256_S384x512_d1 (ix2 r j)
      = S (ix2 r ⟨j.val % 16, Nat.mod_lt _ (by decide)⟩) := by
  have hj := j.isLt
  pointwise
  split <;> rename_i h <;> change _ at h
  · refine (hA _ _).trans ?_
    congr 2
  · refine (hA _ _).trans ?_
    congr 2; apply Fin.ext; simp only []; omega

theorem tile768 {S : S384x16.Idx → EReal} {A : S384x512.Idx → EReal} {B : S384x256.Idx → EReal} (hA : ∀ (r : Fin 384) (j : Fin 512), A (ix2 r j) = S (ix2 r ⟨j.val % 16, Nat.mod_lt _ (by decide)⟩)) (hB : ∀ (r : Fin 384) (j : Fin 256), B (ix2 r j) = S (ix2 r ⟨j.val % 16, Nat.mod_lt _ (by decide)⟩)) (r : Fin 384) (j : Fin 768) :
    concatenate S384x768 1 [⟨S384x512, A⟩, ⟨S384x256, B⟩] concatenates_S384x512_S384x256_S384x768_d1 (ix2 r j)
      = S (ix2 r ⟨j.val % 16, Nat.mod_lt _ (by decide)⟩) := by
  have hj := j.isLt
  pointwise
  split <;> rename_i h <;> change _ at h
  · refine (hA _ _).trans ?_
    congr 2
  · refine (hB _ _).trans ?_
    congr 2; apply Fin.ext; simp only []; omega

/-- The table of patch sums repeated along the columns. -/
def tiled (S : FVec Ideal S384x16 .f32) : FVec Ideal S384x768 .f32 :=
  have v38 : FVec Ideal S384x32 .f32 := concatenate S384x32 1 [⟨S384x16, S⟩, ⟨S384x16, S⟩] concatenates_S384x16_S384x16_S384x32_d1
  have v39 : FVec Ideal S384x64 .f32 := concatenate S384x64 1 [⟨S384x32, v38⟩, ⟨S384x32, v38⟩] concatenates_S384x32_S384x32_S384x64_d1
  have v40 : FVec Ideal S384x128 .f32 := concatenate S384x128 1 [⟨S384x64, v39⟩, ⟨S384x64, v39⟩] concatenates_S384x64_S384x64_S384x128_d1
  have v41 : FVec Ideal S384x256 .f32 := concatenate S384x256 1 [⟨S384x128, v40⟩, ⟨S384x128, v40⟩] concatenates_S384x128_S384x128_S384x256_d1
  have v42 : FVec Ideal S384x512 .f32 := concatenate S384x512 1 [⟨S384x256, v41⟩, ⟨S384x256, v41⟩] concatenates_S384x256_S384x256_S384x512_d1
  concatenate S384x768 1 [⟨S384x512, v42⟩, ⟨S384x256, v41⟩] concatenates_S384x512_S384x256_S384x768_d1

theorem tiled_at (S : S384x16.Idx → EReal) (r : Fin 384) (j : Fin 768) :
    @Eq EReal (tiled S (ix2 r j)) (S (ix2 r ⟨j.val % 16, Nat.mod_lt _ (by decide)⟩)) :=
  tile768 (tile512 (tile256 (tile128 (tile64 (tile32 S))))) (tile256 (tile128 (tile64 (tile32 S)))) r j

/-- The patch means from the repeated table. -/
def meanOf (T M : FVec Ideal S384x768 .f32) (E : FVec Ideal S8x384 .bf16) : FVec Ideal S8x768 .f32 :=
  have v46 : FVec Ideal S384x768 .f32 := mulf T (shapeCast S384x768 M shapeCasts_S384x768_S384x768)
  have v47 : FVec Ideal S384x768 .bf16 := truncf .bf16 v46 bitsLt_bf16_f32
  have v49 : FVec Ideal S384x768 .f32 := subf v46 (extf .f32 v47 bitsLt_bf16_f32)
  have v52 : FVec Ideal S8x384 .bf16 := shapeCast S8x384 E shapeCasts_S8x384_S8x384
  mulf (addf (matmul dot_S8x384_S384x768_S8x768_1_0_0_1_n_n none v52 v47 (constant (F := Ideal) S8x768 .f32 0x00000000#32))
      (matmul dot_S8x384_S384x768_S8x768_1_0_0_1_n_n none v52 (truncf .bf16 v49 bitsLt_bf16_f32) (constant (F := Ideal) S8x768 .f32 0x00000000#32)))
    (broadcast S8x768 (Named.named (F := Ideal) κ "inv_patches" 0x3AE38E39#32 : Ideal .f32))

theorem pay387_eq (S : FVec Ideal S384x16 .f32) (M : FVec Ideal S384x768 .f32) (E : FVec Ideal S8x384 .bf16) :
    k0_pay387 (F := Ideal) S M E E = meanOf (tiled S) M E := rfl

theorem meanOf_at (T M : S384x768.Idx → EReal) (E : S8x384.Idx → EReal) (y : S8x768.Idx) :
    @Eq EReal (meanOf T M E y)
      ((∑ g : Fin 384, E (ix2 (y 0) g) * (T (ix2 g (y 1)) * M (ix2 g (y 1)))
        + ∑ g : Fin 384, E (ix2 (y 0) g) * (T (ix2 g (y 1)) * M (ix2 g (y 1)) - T (ix2 g (y 1)) * M (ix2 g (y 1))))
        * (Named.named (F := Ideal) κ "inv_patches" 0x3AE38E39#32 : Ideal .f32)) := by
  pointwise [meanOf]

theorem inv_patches_val : @Eq EReal (Named.named (F := Ideal) κ "inv_patches" 0x3AE38E39#32 : Ideal .f32) (((1 / 576 : ℝ)) : EReal) := rfl

/-- The patch means over the reals. -/
theorem pay387_real {S : S384x16.Idx → EReal} {M : S384x768.Idx → EReal} {E : S8x384.Idx → EReal}
    (s : ℕ → ℕ → ℝ) (hS : ∀ (r : Fin 384) (j : Fin 16), S (ix2 r j) = (s r j : EReal))
    (hM : ∀ (g : Fin 384) (j : Fin 768), M (ix2 g j) = (((if j.val / 16 = g.val % 48 then 1 else 0 : ℝ)) : EReal))
    (hE : ∀ (b : Fin 8) (g : Fin 384), E (ix2 b g) = (((if g.val / 48 = b.val then 1 else 0 : ℝ)) : EReal)) (b : Fin 8) (k : Fin 768) :
    @Eq EReal (k0_pay387 (F := Ideal) S M E E (ix2 b k)) ((s (b.val * 48 + k.val / 16) (k.val % 16) * (1 / 576) : ℝ) : EReal) := by
  rw [pay387_eq, meanOf_at, inv_patches_val]
  have e0 : (ix2 b k : S8x768.Idx) 0 = b := rfl
  have e1 : (ix2 b k : S8x768.Idx) 1 = k := rfl
  rw [e0, e1]
  simp only [hM, hE, tiled_at, hS, ← EReal.coe_mul]
  have h := split_one (fun g : Fin 384 => (if g.val / 48 = b.val then (1 : ℝ) else 0)) (fun g : Fin 384 => s g.val (k.val % 16) * (if k.val / 16 = g.val % 48 then 1 else 0))
  have h2 := mean_pick s b.val k.val b.isLt k.isLt
  simp only [Finset.sum_range] at h2
  rw [h2] at h
  simp only [← EReal.coe_mul] at h
  rw [EReal.coe_mul, ← h]

theorem pay1_at (P : S8x768.Idx → EReal) (W : S768x768.Idx → EReal) (b : Fin 8) (d : Fin 768) :
    @Eq EReal (k0_pay1 (F := Ideal) P W (ix3 (n0 := 1) 0 b d)) (∑ k : Fin 768, P (ix2 b k) * W (ix2 k d)) := by
  pointwise [k0_pay1]

/-- One feature: the mean over the patches, embedded. -/
def featN (x : S8x3x384x384.Idx → EReal) (W : S768x768.Idx → EReal) (b d : ℕ) : ℝ :=
  ∑ k ∈ Finset.range 768, psN x (b * 3 + k / 256) (k / 16 % 16) (k % 16) * (1 / 576) * wN W k d

/-- One slab of features. -/
theorem slab_at (m : (ℓ : Loc nD τ sig) → Buf (Elt Ideal) ℓ) (c : Dev nD) (hx : Fin1 (s := S8x3x384x384) (m ((c : Thread nD τ).loc main_arg0)))
    (W : S768x768.Idx → EReal) (hW : Fin1 W) (b : Fin 8) (d : Fin 768) :
    @Eq EReal (k0_pay1 (F := Ideal) (k0_pay387 (psumFull m c) (iblk m c 6 tLast) (iblk m c 7 tLast) (iblk m c 7 tLast)) W (ix3 (n0 := 1) 0 b d))
      ((featN (m ((c : Thread nD τ).loc main_arg0)) W b.val d.val : ℝ) : EReal) := by
  rw [pay1_at]
  unfold featN
  rw [Finset.sum_range, coe_sum]
  refine Finset.sum_congr rfl fun k _ => ?_
  rw [w_at hW k d, EReal.coe_mul]
  congr 1
  refine (pay387_real (fun r j => psN (m ((c : Thread nD τ).loc main_arg0)) (r / 16) (r % 16) j)
    (fun r j => psumFull_at m c hx r j)
    (fun g j => by
      refine Eq.trans (congrFun (iblk6 m c tLast) _) ((Mm_at m c g j).trans ?_)
      split <;> simp)
    (fun b g => by
      refine Eq.trans (congrFun (iblk7 m c tLast) _) ((Sel_at m c b g).trans ?_)
      split <;> simp) b k).trans ?_
  congr 3
  · omega
  · omega

/-- Every feature the kernel ends with. -/
theorem featAt_at (m : (ℓ : Loc nD τ sig) → Buf (Elt Ideal) ℓ) (c : Dev nD) (hx : Fin1 (s := S8x3x384x384) (m ((c : Thread nD τ).loc main_arg0)))
    (h1 : Fin1 (s := S768x768) (m ((c : Thread nD τ).loc main_arg1))) (h2 : Fin1 (s := S768x768) (m ((c : Thread nD τ).loc main_arg2)))
    (h3 : Fin1 (s := S768x768) (m ((c : Thread nD τ).loc main_arg3))) (e : Fin 3) (b : Fin 8) (d : Fin 768) :
    @Eq EReal (featAt m c (ix3 e b d))
      ((featN (m ((c : Thread nD τ).loc main_arg0))
        (match e with | 0 => m ((c : Thread nD τ).loc main_arg1) | 1 => m ((c : Thread nD τ).loc main_arg2) | 2 => m ((c : Thread nD τ).loc main_arg3)) b.val d.val : ℝ) : EReal) := by
  unfold featAt
  rw [iblk1, iblk2, iblk3]
  match e with
  | 0 => exact slab_at m c hx _ h1 b d
  | 1 => exact slab_at m c hx _ h2 b d
  | 2 => exact slab_at m c hx _ h3 b d

end Cert.KernelIdeal.Val
-- ==== Proof.RFeat.lean ====
/- The reference's features over the reals. -/
module

public import proofs.«01_k».proof.Proof.RefEnd
public import proofs.«01_k».proof.Proof.Arrays

@[expose] public section

set_option maxRecDepth 16384

noncomputable section

namespace Cert.ReferenceIdeal.Val

open Cert.ReferenceIdeal.Gen Cert.Sums
open Idealize.ShloMosaic Idealize.ShloMosaic.TcCoe Idealize.ShloMosaic.Tactic
open scoped BigOperators

theorem patchesR_at (x : S8x3x384x384.Idx → EReal) (b : Fin 8) (p : Fin 576) (k : Fin 768) :
    patchesR x (ix3 b p k) = x (ix4 b ⟨k.val / 256, by omega⟩ ⟨p.val / 24 * 16 + k.val / 16 % 16, by omega⟩ ⟨p.val % 24 * 16 + k.val % 16, by omega⟩) := by
  pointwise [patchesR]

theorem embR_at (x : S8x3x384x384.Idx → EReal) (W : S768x768.Idx → EReal) (b : Fin 8) (p : Fin 576) (d : Fin 768) :
    @Eq EReal (embR x W (ix3 b p d)) (∑ k : Fin 768, patchesR x (ix3 b p k) * W (ix2 k d)) := by
  unfold embR
  generalize patchesR x = P
  pointwise

theorem bits_576 : Ideal.ofBits .f32 0x44100000#32 = ((576 : ℝ) : EReal) := by
  simp [Ideal.ofBits, Ideal.ieee, -EReal.coe_mul]; norm_num

theorem meanR_at (x : S8x3x384x384.Idx → EReal) (W : S768x768.Idx → EReal) (b : Fin 8) (d : Fin 768) :
    @Eq EReal (meanR x W (ix2 b d)) (Ideal.div (∑ p : Fin 576, embR x W (ix3 b p d)) (576 : ℝ)) := by
  unfold meanR
  generalize embR x W = P
  rw [← bits_576]
  pointwise

theorem featR_at (x : S8x3x384x384.Idx → EReal) (W0 W1 W2 : S768x768.Idx → EReal) (e : Fin 3) (b : Fin 8) (d : Fin 768) :
    @Eq EReal (featR x W0 W1 W2 (ix3 e b d)) (meanR x (match e with | 0 => W0 | 1 => W1 | 2 => W2) (ix2 b d)) := by
  unfold featR
  match e with
  | 0 => generalize meanR x W0 = A; generalize meanR x W1 = B; generalize meanR x W2 = C; pointwise
  | 1 => generalize meanR x W0 = A; generalize meanR x W1 = B; generalize meanR x W2 = C; pointwise
  | 2 => generalize meanR x W0 = A; generalize meanR x W1 = B; generalize meanR x W2 = C; pointwise

/-- The embedding of patch `p` of image `b` at column `d`, over the reals. -/
def embN (x : S8x3x384x384.Idx → EReal) (W : S768x768.Idx → EReal) (b p d : ℕ) : ℝ :=
  ∑ k ∈ Finset.range 768, patchN x b p k * wN W k d

theorem embR_real {x : S8x3x384x384.Idx → EReal} {W : S768x768.Idx → EReal} (hx : Fin1 x) (hW : Fin1 W) (b : Fin 8) (p : Fin 576) (d : Fin 768) :
    @Eq EReal (embR x W (ix3 b p d)) ((embN x W b.val p.val d.val : ℝ) : EReal) := by
  rw [embR_at]
  unfold embN
  rw [Finset.sum_range, coe_sum]
  refine Finset.sum_congr rfl fun k _ => ?_
  rw [patchesR_at, w_at hW k d, x_at hx, EReal.coe_mul]
  rfl

theorem meanR_real {x : S8x3x384x384.Idx → EReal} {W : S768x768.Idx → EReal} (hx : Fin1 x) (hW : Fin1 W) (b : Fin 8) (d : Fin 768) :
    @Eq EReal (meanR x W (ix2 b d)) (((∑ p ∈ Finset.range 576, embN x W b.val p d.val) * (1 / 576) : ℝ) : EReal) := by
  rw [meanR_at, Ideal.div_coe (by norm_num), EReal.coe_mul, Finset.sum_range, coe_sum]
  congr 1
  exact Finset.sum_congr rfl fun p _ => embR_real hx hW b p d

end Cert.ReferenceIdeal.Val
-- ==== Proof.FeatEq.lean ====
/- The two programs' features are equal. -/
module

public import proofs.«01_k».proof.Proof.KFeat
public import proofs.«01_k».proof.Proof.RFeat

@[expose] public section

set_option maxRecDepth 16384

noncomputable section

namespace Cert.Both

open Cert.Sums
open Idealize.ShloMosaic Idealize.ShloMosaic.TcCoe
open scoped BigOperators

/-- Embedding the mean patch is the mean of the embedded patches. -/
theorem feat_real (x : KernelIdeal.S8x3x384x384.Idx → EReal) (W : KernelIdeal.S768x768.Idx → EReal) (b d : ℕ) :
    KernelIdeal.Val.featN x W b d = (∑ p ∈ Finset.range 576, ReferenceIdeal.Val.embN x W b p d) * (1 / 576) := by
  unfold KernelIdeal.Val.featN ReferenceIdeal.Val.embN
  rw [Finset.sum_comm, Finset.sum_mul]
  refine Finset.sum_congr rfl fun k hk => ?_
  have hk' : k < 768 := Finset.mem_range.mp hk
  rw [← Finset.sum_mul, mul_right_comm]
  congr 2
  rw [show (576 : ℕ) = 24 * 24 from rfl, sum_range_blocks]
  unfold KernelIdeal.Val.psN patchN
  refine Finset.sum_congr rfl fun gh _ => Finset.sum_congr rfl fun gw hgw => ?_
  have hgw' : gw < 24 := Finset.mem_range.mp hgw
  congr 1
  · omega
  · omega
  · omega
  · omega

theorem feat_eq (m : (ℓ : Loc KernelIdeal.nD KernelIdeal.τ KernelIdeal.sig) → Buf (Elt Ideal) ℓ) (c : Dev KernelIdeal.nD)
    (hx : Fin1 (s := KernelIdeal.S8x3x384x384) (m ((c : Thread KernelIdeal.nD KernelIdeal.τ).loc KernelIdeal.main_arg0)))
    (h1 : Fin1 (s := KernelIdeal.S768x768) (m ((c : Thread KernelIdeal.nD KernelIdeal.τ).loc KernelIdeal.main_arg1)))
    (h2 : Fin1 (s := KernelIdeal.S768x768) (m ((c : Thread KernelIdeal.nD KernelIdeal.τ).loc KernelIdeal.main_arg2)))
    (h3 : Fin1 (s := KernelIdeal.S768x768) (m ((c : Thread KernelIdeal.nD KernelIdeal.τ).loc KernelIdeal.main_arg3))) :
    @Eq (KernelIdeal.S3x8x768.Idx → EReal) (KernelIdeal.Val.featAt m c)
      (ReferenceIdeal.Val.featR (m ((c : Thread KernelIdeal.nD KernelIdeal.τ).loc KernelIdeal.main_arg0))
        (m ((c : Thread KernelIdeal.nD KernelIdeal.τ).loc KernelIdeal.main_arg1)) (m ((c : Thread KernelIdeal.nD KernelIdeal.τ).loc KernelIdeal.main_arg2))
        (m ((c : Thread KernelIdeal.nD KernelIdeal.τ).loc KernelIdeal.main_arg3))) := by
  have key : ∀ (e : Fin 3) (b : Fin 8) (d : Fin 768), @Eq EReal (KernelIdeal.Val.featAt m c (ix3 e b d))
      (ReferenceIdeal.Val.featR (m ((c : Thread KernelIdeal.nD KernelIdeal.τ).loc KernelIdeal.main_arg0))
        (m ((c : Thread KernelIdeal.nD KernelIdeal.τ).loc KernelIdeal.main_arg1)) (m ((c : Thread KernelIdeal.nD KernelIdeal.τ).loc KernelIdeal.main_arg2))
        (m ((c : Thread KernelIdeal.nD KernelIdeal.τ).loc KernelIdeal.main_arg3)) (ix3 e b d)) := by
    intro e b d
    refine (KernelIdeal.Val.featAt_at m c hx h1 h2 h3 e b d).trans (Eq.symm ?_)
    refine (ReferenceIdeal.Val.featR_at _ _ _ _ e b d).trans ?_
    rw [feat_real]
    match e with
    | 0 => exact ReferenceIdeal.Val.meanR_real hx h1 b d
    | 1 => exact ReferenceIdeal.Val.meanR_real hx h2 b d
    | 2 => exact ReferenceIdeal.Val.meanR_real hx h3 b d
  funext y
  rw [show y = (ix3 (y 0) (y 1) (y 2) : KernelIdeal.S3x8x768.Idx) from by
    funext a; match a with | 0 => rfl | 1 => rfl | 2 => rfl]
  exact key (y 0) (y 1) (y 2)

end Cert.Both
-- ==== Proof.KStep.lean ====
/- The clustering step of the kernel, as one function of the points and the centres. -/
module

public import proofs.«01_k».proof.Proof.KOut
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic

variable {F : FTy → Type} [FloatOps F]

/-- The squared distances: a row for every centre, a column for every point. -/
def kscores (X : FVec F S1728x768 .f32) (C : FVec F S24x768 .f32) : FVec F S24x1728 .f32 :=
  addf (subf (broadcastTo S24x1728 (transpose S1x1728 [1, 0] (shapeCast S1728x1 (multiReduction .add [1] S1728 (mulf X X) 0x00000000#32 reduces_S1728x768_S1728 (.inl rfl) rfl) shapeCasts_S1728_S1728x1) transposes_S1728x1_p1_0_S1x1728) broadcasts_S1x1728_S24x1728)
      (mulf (broadcast S24x1728 (Scalar.ofBits .f32 0x40000000#32)) (matmul dot_S24x768_S1728x768_S24x1728_1_1_0_0_n_n none C X (constant S24x1728 .f32 0x00000000#32))))
    (broadcastTo S24x1728 (shapeCast S24x1 (multiReduction .add [1] S24 (mulf C C) 0x00000000#32 reduces_S24x768_S24 (.inl rfl) rfl) shapeCasts_S24_S24x1) broadcasts_S24x1_S24x1728)

/-- The number of the row, at every entry. -/
def krows : IVec S24x1728 32 := iota .tc S24x1728 32 [0] iota_S24x1728_d0_w32

/-- The distances, infinite where the centre is not one of the point's own. -/
def kmasked (S : FVec F S24x1728 .f32) : FVec F S24x1728 .f32 :=
  select k0_pay367 S (broadcast S24x1728 (Scalar.ofBits .f32 0x7F800000#32))

/-- The row's number where the distance is the column's least, 24 elsewhere. -/
def kties (S : FVec F S24x1728 .f32) : IVec S24x1728 32 :=
  select (cmpf .oeq S (broadcastTo S24x1728 (shapeCast S1x1728 (multiReduction .minimumf [0] S1728 S 0x7F800000#32 reduces_S24x1728_S1728 (.inl rfl) rfl) shapeCasts_S1728_S1x1728) broadcasts_S1x1728_S24x1728)) krows (broadcast S24x1728 24#32)

/-- One in the row of the column's nearest centre, zero elsewhere. -/
def khot (T : IVec S24x1728 32) : FVec F S24x1728 .bf16 :=
  truncf .bf16 (sitofp .f32 (extui 32 (cmpi .eq krows (broadcastTo S24x1728 (shapeCast S1x1728 (multiReductionI .minsi [0] S1728 T 2147483647#32 reduces_S24x1728_S1728 rfl) shapeCasts_S1728_S1x1728) broadcasts_S1x1728_S24x1728)) natLt_1_32)) bitsLt_bf16_f32

/-- The points rounded. -/
def khi (X : FVec F S1728x768 .f32) : FVec F S1728x768 .bf16 := truncf .bf16 X bitsLt_bf16_f32

/-- What rounding the points leaves. -/
def krest (X : FVec F S1728x768 .f32) : FVec F S1728x768 .f32 := subf X (extf .f32 (khi X) bitsLt_bf16_f32)

/-- The means of the columns each row holds. -/
def kmeans (H : FVec F S24x1728 .bf16) (X : FVec F S1728x768 .f32) : FVec F S24x768 .f32 :=
  divf (addf (addf (matmul dot_S24x1728_S1728x768_S24x768_1_0_0_1_n_n none H (khi X) (constant S24x768 .f32 0x00000000#32))
        (matmul dot_S24x1728_S1728x768_S24x768_1_0_0_1_n_n none H (khi (krest X)) (constant S24x768 .f32 0x00000000#32)))
      (matmul dot_S24x1728_S1728x768_S24x768_1_0_0_1_n_n none H (khi (krest (krest X))) (constant S24x768 .f32 0x00000000#32)))
    (broadcastTo S24x768 (maximumf (matmul dot_S24x1728_S1728x1_S24x1_1_0_0_1_n_n none H (broadcast S1728x1 (Scalar.ofBits .bf16 0x3F80#16)) (constant S24x1 .f32 0x00000000#32)) (broadcast S24x1 (Scalar.ofBits .f32 0x3F800000#32))) broadcasts_S24x1_S24x768)

/-- One step of the clustering. -/
def kstep (X : FVec F S1728x768 .f32) (C : FVec F S24x768 .f32) : FVec F S24x768 .f32 :=
  kmeans (khot (kties (kmasked (kscores X C)))) X

variable (c : Dev nD) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole)
    (x0 : Vec F S6x24x16x384 .f32) (x1 x2 x3 : Vec F S768x768 .f32)

theorem step1 : runA.sl.v1428 c arg1 harg1 arg2 harg2 arg3 harg3 arg4 harg4 x0 x1 x2 x3
    = kstep (runA.sl.v1340 c arg1 harg1 arg2 harg2 arg3 harg3 arg4 harg4 x0 x1 x2 x3) (runA.sl.v1368 c arg1 harg1 arg2 harg2 arg3 harg3 arg4 harg4 x0 x1 x2 x3) := rfl

theorem step2 : runA.sl.v1463 c arg1 harg1 arg2 harg2 arg3 harg3 arg4 harg4 x0 x1 x2 x3
    = kstep (runA.sl.v1340 c arg1 harg1 arg2 harg2 arg3 harg3 arg4 harg4 x0 x1 x2 x3) (runA.sl.v1428 c arg1 harg1 arg2 harg2 arg3 harg3 arg4 harg4 x0 x1 x2 x3) := rfl

theorem step3 : runA.sl.v1498 c arg1 harg1 arg2 harg2 arg3 harg3 arg4 harg4 x0 x1 x2 x3
    = kstep (runA.sl.v1340 c arg1 harg1 arg2 harg2 arg3 harg3 arg4 harg4 x0 x1 x2 x3) (runA.sl.v1463 c arg1 harg1 arg2 harg2 arg3 harg3 arg4 harg4 x0 x1 x2 x3) := rfl

theorem step4 : runA.sl.v1533 c arg1 harg1 arg2 harg2 arg3 harg3 arg4 harg4 x0 x1 x2 x3
    = kstep (runA.sl.v1340 c arg1 harg1 arg2 harg2 arg3 harg3 arg4 harg4 x0 x1 x2 x3) (runA.sl.v1498 c arg1 harg1 arg2 harg2 arg3 harg3 arg4 harg4 x0 x1 x2 x3) := rfl

theorem step5 : runA.sl.v1568 c arg1 harg1 arg2 harg2 arg3 harg3 arg4 harg4 x0 x1 x2 x3
    = kstep (runA.sl.v1340 c arg1 harg1 arg2 harg2 arg3 harg3 arg4 harg4 x0 x1 x2 x3) (runA.sl.v1533 c arg1 harg1 arg2 harg2 arg3 harg3 arg4 harg4 x0 x1 x2 x3) := rfl

theorem step6 : runA.sl.v1603 c arg1 harg1 arg2 harg2 arg3 harg3 arg4 harg4 x0 x1 x2 x3
    = kstep (runA.sl.v1340 c arg1 harg1 arg2 harg2 arg3 harg3 arg4 harg4 x0 x1 x2 x3) (runA.sl.v1568 c arg1 harg1 arg2 harg2 arg3 harg3 arg4 harg4 x0 x1 x2 x3) := rfl

theorem step7 : runA.sl.v1638 c arg1 harg1 arg2 harg2 arg3 harg3 arg4 harg4 x0 x1 x2 x3
    = kstep (runA.sl.v1340 c arg1 harg1 arg2 harg2 arg3 harg3 arg4 harg4 x0 x1 x2 x3) (runA.sl.v1603 c arg1 harg1 arg2 harg2 arg3 harg3 arg4 harg4 x0 x1 x2 x3) := rfl

theorem step8 : runA.sl.v1673 c arg1 harg1 arg2 harg2 arg3 harg3 arg4 harg4 x0 x1 x2 x3
    = kstep (runA.sl.v1340 c arg1 harg1 arg2 harg2 arg3 harg3 arg4 harg4 x0 x1 x2 x3) (runA.sl.v1638 c arg1 harg1 arg2 harg2 arg3 harg3 arg4 harg4 x0 x1 x2 x3) := rfl

theorem step9 : runA.sl.v1708 c arg1 harg1 arg2 harg2 arg3 harg3 arg4 harg4 x0 x1 x2 x3
    = kstep (runA.sl.v1340 c arg1 harg1 arg2 harg2 arg3 harg3 arg4 harg4 x0 x1 x2 x3) (runA.sl.v1673 c arg1 harg1 arg2 harg2 arg3 harg3 arg4 harg4 x0 x1 x2 x3) := rfl

theorem step10 : runA.sl.v1743 c arg1 harg1 arg2 harg2 arg3 harg3 arg4 harg4 x0 x1 x2 x3
    = kstep (runA.sl.v1340 c arg1 harg1 arg2 harg2 arg3 harg3 arg4 harg4 x0 x1 x2 x3) (runA.sl.v1708 c arg1 harg1 arg2 harg2 arg3 harg3 arg4 harg4 x0 x1 x2 x3) := rfl

/-- The centres the kernel ends with: ten steps from the ones it starts with. -/
theorem centres_eq : centres c arg1 harg1 arg2 harg2 arg3 harg3 arg4 harg4 x0 x1 x2 x3
    = (kstep (runA.sl.v1340 c arg1 harg1 arg2 harg2 arg3 harg3 arg4 harg4 x0 x1 x2 x3))^[10] (runA.sl.v1368 c arg1 harg1 arg2 harg2 arg3 harg3 arg4 harg4 x0 x1 x2 x3) := by
  unfold centres
  rw [step10, step9, step8, step7, step6, step5, step4, step3, step2, step1]
  rfl

end Cert.KernelIdeal.Val
-- ==== Proof.KInit.lean ====
/- The points and the first centres of the kernel's clustering: patches of the first image, embedded. -/
module

public import proofs.«01_k».proof.Proof.KStep
public import Idealize.ShloMosaic.Lib.WholeRead
public import Idealize.ShloMosaic.Lib.StableHlo.Run
public import Idealize.ShloMosaic.Lib.Pipeline.Value

@[expose] public section

set_option maxRecDepth 16384

noncomputable section

namespace Cert.KernelIdeal.Val

open Cert.KernelIdeal.Gen
open Idealize.ShloMosaic Idealize.ShloMosaic.TcCoe Idealize.ShloMosaic.Tactic

variable {F : FTy → Type} [FloatOps F]

/-- One pixel row of every patch of one channel: row `g` of patches, all their pixels side by side. -/
def kload (x0 : Vec F S6x24x16x384 .f32) (ch : Fin 6) (kh : Fin 16) : FVec F S24x384 .f32 :=
  shapeCast S24x384 (fun y : S1x24x1x384.Idx => x0 (ix4 ch (y 1) kh (y 3))) shapeCasts_S1x24x1x384_S24x384

/-- The 24 patches of each row laid one under the other. -/
def kstack (v : FVec F S24x384 .f32) : FVec F S576x16 .f32 :=
  concatenate S576x16 0 [⟨S24x16, extractStridedSlice S24x16 ![0, 0] v slices_S24x384_o0_0_S24x16⟩, ⟨S24x16, extractStridedSlice S24x16 ![0, 16] v slices_S24x384_o0_16_S24x16⟩, ⟨S24x16, extractStridedSlice S24x16 ![0, 32] v slices_S24x384_o0_32_S24x16⟩, ⟨S24x16, extractStridedSlice S24x16 ![0, 48] v slices_S24x384_o0_48_S24x16⟩, ⟨S24x16, extractStridedSlice S24x16 ![0, 64] v slices_S24x384_o0_64_S24x16⟩, ⟨S24x16, extractStridedSlice S24x16 ![0, 80] v slices_S24x384_o0_80_S24x16⟩, ⟨S24x16, extractStridedSlice S24x16 ![0, 96] v slices_S24x384_o0_96_S24x16⟩, ⟨S24x16, extractStridedSlice S24x16 ![0, 112] v slices_S24x384_o0_112_S24x16⟩, ⟨S24x16, extractStridedSlice S24x16 ![0, 128] v slices_S24x384_o0_128_S24x16⟩, ⟨S24x16, extractStridedSlice S24x16 ![0, 144] v slices_S24x384_o0_144_S24x16⟩, ⟨S24x16, extractStridedSlice S24x16 ![0, 160] v slices_S24x384_o0_160_S24x16⟩, ⟨S24x16, extractStridedSlice S24x16 ![0, 176] v slices_S24x384_o0_176_S24x16⟩, ⟨S24x16, extractStridedSlice S24x16 ![0, 192] v slices_S24x384_o0_192_S24x16⟩, ⟨S24x16, extractStridedSlice S24x16 ![0, 208] v slices_S24x384_o0_208_S24x16⟩, ⟨S24x16, extractStridedSlice S24x16 ![0, 224] v slices_S24x384_o0_224_S24x16⟩, ⟨S24x16, extractStridedSlice S24x16 ![0, 240] v slices_S24x384_o0_240_S24x16⟩, ⟨S24x16, extractStridedSlice S24x16 ![0, 256] v slices_S24x384_o0_256_S24x16⟩, ⟨S24x16, extractStridedSlice S24x16 ![0, 272] v slices_S24x384_o0_272_S24x16⟩, ⟨S24x16, extractStridedSlice S24x16 ![0, 288] v slices_S24x384_o0_288_S24x16⟩, ⟨S24x16, extractStridedSlice S24x16 ![0, 304] v slices_S24x384_o0_304_S24x16⟩, ⟨S24x16, extractStridedSlice S24x16 ![0, 320] v slices_S24x384_o0_320_S24x16⟩, ⟨S24x16, extractStridedSlice S24x16 ![0, 336] v slices_S24x384_o0_336_S24x16⟩, ⟨S24x16, extractStridedSlice S24x16 ![0, 352] v slices_S24x384_o0_352_S24x16⟩, ⟨S24x16, extractStridedSlice S24x16 ![0, 368] v slices_S24x384_o0_368_S24x16⟩] concatenates_S24x16_S24x16_S24x16_S24x16_S24x16_S24x16_S24x16_S24x16_S24x16_S24x16_S24x16_S24x16_S24x16_S24x16_S24x16_S24x16_S24x16_S24x16_S24x16_S24x16_S24x16_S24x16_S24x16_S24x16_S576x16_d0

/-- The patches of the first image, one in each row. -/
def kp0 (x0 : Vec F S6x24x16x384 .f32) : FVec F S576x768 .f32 :=
  concatenate S576x768 1 (⟨S576x16, kstack (kload x0 0 0)⟩ :: ⟨S576x16, kstack (kload x0 0 1)⟩ :: ⟨S576x16, kstack (kload x0 0 2)⟩ :: ⟨S576x16, kstack (kload x0 0 3)⟩ :: ⟨S576x16, kstack (kload x0 0 4)⟩ :: ⟨S576x16, kstack (kload x0 0 5)⟩ :: ⟨S576x16, kstack (kload x0 0 6)⟩ :: ⟨S576x16, kstack (kload x0 0 7)⟩ :: ⟨S576x16, kstack (kload x0 0 8)⟩ :: ⟨S576x16, kstack (kload x0 0 9)⟩ :: ⟨S576x16, kstack (kload x0 0 10)⟩ :: ⟨S576x16, kstack (kload x0 0 11)⟩ :: ⟨S576x16, kstack (kload x0 0 12)⟩ :: ⟨S576x16, kstack (kload x0 0 13)⟩ :: ⟨S576x16, kstack (kload x0 0 14)⟩ :: ⟨S576x16, kstack (kload x0 0 15)⟩ :: ⟨S576x16, kstack (kload x0 1 0)⟩ :: ⟨S576x16, kstack (kload x0 1 1)⟩ :: ⟨S576x16, kstack (kload x0 1 2)⟩ :: ⟨S576x16, kstack (kload x0 1 3)⟩ :: ⟨S576x16, kstack (kload x0 1 4)⟩ :: ⟨S576x16, kstack (kload x0 1 5)⟩ :: ⟨S576x16, kstack (kload x0 1 6)⟩ :: ⟨S576x16, kstack (kload x0 1 7)⟩ :: ⟨S576x16, kstack (kload x0 1 8)⟩ :: ⟨S576x16, kstack (kload x0 1 9)⟩ :: ⟨S576x16, kstack (kload x0 1 10)⟩ :: ⟨S576x16, kstack (kload x0 1 11)⟩ :: ⟨S576x16, kstack (kload x0 1 12)⟩ :: ⟨S576x16, kstack (kload x0 1 13)⟩ :: ⟨S576x16, kstack (kload x0 1 14)⟩ :: ⟨S576x16, kstack (kload x0 1 15)⟩ :: ⟨S576x16, kstack (kload x0 2 0)⟩ :: ⟨S576x16, kstack (kload x0 2 1)⟩ :: ⟨S576x16, kstack (kload x0 2 2)⟩ :: ⟨S576x16, kstack (kload x0 2 3)⟩ :: ⟨S576x16, kstack (kload x0 2 4)⟩ :: ⟨S576x16, kstack (kload x0 2 5)⟩ :: ⟨S576x16, kstack (kload x0 2 6)⟩ :: ⟨S576x16, kstack (kload x0 2 7)⟩ :: ⟨S576x16, kstack (kload x0 2 8)⟩ :: ⟨S576x16, kstack (kload x0 2 9)⟩ :: ⟨S576x16, kstack (kload x0 2 10)⟩ :: ⟨S576x16, kstack (kload x0 2 11)⟩ :: ⟨S576x16, kstack (kload x0 2 12)⟩ :: ⟨S576x16, kstack (kload x0 2 13)⟩ :: ⟨S576x16, kstack (kload x0 2 14)⟩ :: ⟨S576x16, kstack (kload x0 2 15)⟩ :: []) concatenates_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x16_S576x768_d1

theorem load_eq {arg1 : Memref sig .tc .vmem S6x24x16x384 .f32} (harg1 : arg1.IsWhole) (x0 : Vec F S6x24x16x384 .f32) (ch : Fin 6) (kh : Fin 16)
    (h : ∀ a, (![ch.val, 0, kh.val, 0] : Fin 4 → ℕ) a + S1x24x1x384.size a ≤ S6x24x16x384.size a) :
    @Eq (S1x24x1x384.Idx → F .f32) (View.readAt (Elt F) arg1.view (Rect.unit (s := S6x24x16x384) ![ch.val, 0, kh.val, 0] S1x24x1x384.size h).toLoadRect (harg1.unread x0))
      (fun y => x0 (ix4 ch (y 1) kh (y 3))) := by
  funext y
  refine (harg1.readAt_unread x0 _ y).trans (congrArg x0 (funext fun a => Fin.ext ?_))
  have h0 : (y 0).val < 1 := (y 0).isLt
  have h2 : (y 2).val < 1 := (y 2).isLt
  match a with
  | 0 => show ch.val + 1 * (y 0).val = ch.val; omega
  | 1 => show 0 + 1 * (y 1).val = (y 1).val; omega
  | 2 => show kh.val + 1 * (y 2).val = kh.val; omega
  | 3 => show 0 + 1 * (y 3).val = (y 3).val; omega

theorem inb_row (ch : Fin 6) (kh : Fin 16) : ∀ a, (![ch.val, 0, kh.val, 0] : Fin 4 → ℕ) a + S1x24x1x384.size a ≤ S6x24x16x384.size a := fun a =>
  match a with
  | 0 => show ch.val + 1 ≤ 6 by omega
  | 1 => show 0 + 24 ≤ 24 by omega
  | 2 => show kh.val + 1 ≤ 16 by omega
  | 3 => show 0 + 384 ≤ 384 by omega

theorem piece_of {arg1 : Memref sig .tc .vmem S6x24x16x384 .f32} (harg1 : arg1.IsWhole) (x0 : Vec F S6x24x16x384 .f32) (ch : Fin 6) (kh : Fin 16)
    (v : FVec F S576x16 .f32)
    (hv : v = kstack (shapeCast S24x384 (View.readAt (Elt F) arg1.view (Rect.unit (s := S6x24x16x384) ![ch.val, 0, kh.val, 0] S1x24x1x384.size (inb_row ch kh)).toLoadRect (harg1.unread x0)) shapeCasts_S1x24x1x384_S24x384)) :
    v = kstack (kload x0 ch kh) :=
  hv.trans (congrArg (fun w : S1x24x1x384.Idx → F .f32 => kstack (shapeCast S24x384 w shapeCasts_S1x24x1x384_S24x384)) (load_eq harg1 x0 ch kh (inb_row ch kh)))

variable (c : Dev nD) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole)
    (x0 : Vec F S6x24x16x384 .f32) (x1 x2 x3 : Vec F S768x768 .f32)

theorem piece0 : runA.sl.v63 c arg1 harg1 x0 = kstack (kload x0 0 0) := by
  refine piece_of harg1 x0 0 0 _ ?_
  rfl
theorem piece1 : runA.sl.v90 c arg1 harg1 x0 = kstack (kload x0 0 1) := by
  refine piece_of harg1 x0 0 1 _ ?_
  rfl
theorem piece2 : runA.sl.v117 c arg1 harg1 x0 = kstack (kload x0 0 2) := by
  refine piece_of harg1 x0 0 2 _ ?_
  rfl
theorem piece3 : runA.sl.v144 c arg1 harg1 x0 = kstack (kload x0 0 3) := by
  refine piece_of harg1 x0 0 3 _ ?_
  rfl
theorem piece4 : runA.sl.v171 c arg1 harg1 x0 = kstack (kload x0 0 4) := by
  refine piece_of harg1 x0 0 4 _ ?_
  rfl
theorem piece5 : runA.sl.v198 c arg1 harg1 x0 = kstack (kload x0 0 5) := by
  refine piece_of harg1 x0 0 5 _ ?_
  rfl
theorem piece6 : runA.sl.v225 c arg1 harg1 x0 = kstack (kload x0 0 6) := by
  refine piece_of harg1 x0 0 6 _ ?_
  rfl
theorem piece7 : runA.sl.v252 c arg1 harg1 x0 = kstack (kload x0 0 7) := by
  refine piece_of harg1 x0 0 7 _ ?_
  rfl
theorem piece8 : runA.sl.v279 c arg1 harg1 x0 = kstack (kload x0 0 8) := by
  refine piece_of harg1 x0 0 8 _ ?_
  rfl
theorem piece9 : runA.sl.v306 c arg1 harg1 x0 = kstack (kload x0 0 9) := by
  refine piece_of harg1 x0 0 9 _ ?_
  rfl
theorem piece10 : runA.sl.v333 c arg1 harg1 x0 = kstack (kload x0 0 10) := by
  refine piece_of harg1 x0 0 10 _ ?_
  rfl
theorem piece11 : runA.sl.v360 c arg1 harg1 x0 = kstack (kload x0 0 11) := by
  refine piece_of harg1 x0 0 11 _ ?_
  rfl
theorem piece12 : runA.sl.v387 c arg1 harg1 x0 = kstack (kload x0 0 12) := by
  refine piece_of harg1 x0 0 12 _ ?_
  rfl
theorem piece13 : runA.sl.v414 c arg1 harg1 x0 = kstack (kload x0 0 13) := by
  refine piece_of harg1 x0 0 13 _ ?_
  rfl
theorem piece14 : runA.sl.v441 c arg1 harg1 x0 = kstack (kload x0 0 14) := by
  refine piece_of harg1 x0 0 14 _ ?_
  rfl
theorem piece15 : runA.sl.v468 c arg1 harg1 x0 = kstack (kload x0 0 15) := by
  refine piece_of harg1 x0 0 15 _ ?_
  rfl
theorem piece16 : runA.sl.v495 c arg1 harg1 x0 = kstack (kload x0 1 0) := by
  refine piece_of harg1 x0 1 0 _ ?_
  rfl
theorem piece17 : runA.sl.v522 c arg1 harg1 x0 = kstack (kload x0 1 1) := by
  refine piece_of harg1 x0 1 1 _ ?_
  rfl
theorem piece18 : runA.sl.v549 c arg1 harg1 x0 = kstack (kload x0 1 2) := by
  refine piece_of harg1 x0 1 2 _ ?_
  rfl
theorem piece19 : runA.sl.v576 c arg1 harg1 x0 = kstack (kload x0 1 3) := by
  refine piece_of harg1 x0 1 3 _ ?_
  rfl
theorem piece20 : runA.sl.v603 c arg1 harg1 x0 = kstack (kload x0 1 4) := by
  refine piece_of harg1 x0 1 4 _ ?_
  rfl
theorem piece21 : runA.sl.v630 c arg1 harg1 x0 = kstack (kload x0 1 5) := by
  refine piece_of harg1 x0 1 5 _ ?_
  rfl
theorem piece22 : runA.sl.v657 c arg1 harg1 x0 = kstack (kload x0 1 6) := by
  refine piece_of harg1 x0 1 6 _ ?_
  rfl
theorem piece23 : runA.sl.v684 c arg1 harg1 x0 = kstack (kload x0 1 7) := by
  refine piece_of harg1 x0 1 7 _ ?_
  rfl
theorem piece24 : runA.sl.v711 c arg1 harg1 x0 = kstack (kload x0 1 8) := by
  refine piece_of harg1 x0 1 8 _ ?_
  rfl
theorem piece25 : runA.sl.v738 c arg1 harg1 x0 = kstack (kload x0 1 9) := by
  refine piece_of harg1 x0 1 9 _ ?_
  rfl
theorem piece26 : runA.sl.v765 c arg1 harg1 x0 = kstack (kload x0 1 10) := by
  refine piece_of harg1 x0 1 10 _ ?_
  rfl
theorem piece27 : runA.sl.v792 c arg1 harg1 x0 = kstack (kload x0 1 11) := by
  refine piece_of harg1 x0 1 11 _ ?_
  rfl
theorem piece28 : runA.sl.v819 c arg1 harg1 x0 = kstack (kload x0 1 12) := by
  refine piece_of harg1 x0 1 12 _ ?_
  rfl
theorem piece29 : runA.sl.v846 c arg1 harg1 x0 = kstack (kload x0 1 13) := by
  refine piece_of harg1 x0 1 13 _ ?_
  rfl
theorem piece30 : runA.sl.v873 c arg1 harg1 x0 = kstack (kload x0 1 14) := by
  refine piece_of harg1 x0 1 14 _ ?_
  rfl
theorem piece31 : runA.sl.v900 c arg1 harg1 x0 = kstack (kload x0 1 15) := by
  refine piece_of harg1 x0 1 15 _ ?_
  rfl
theorem piece32 : runA.sl.v927 c arg1 harg1 x0 = kstack (kload x0 2 0) := by
  refine piece_of harg1 x0 2 0 _ ?_
  rfl
theorem piece33 : runA.sl.v954 c arg1 harg1 x0 = kstack (kload x0 2 1) := by
  refine piece_of harg1 x0 2 1 _ ?_
  rfl
theorem piece34 : runA.sl.v981 c arg1 harg1 x0 = kstack (kload x0 2 2) := by
  refine piece_of harg1 x0 2 2 _ ?_
  rfl
theorem piece35 : runA.sl.v1008 c arg1 harg1 x0 = kstack (kload x0 2 3) := by
  refine piece_of harg1 x0 2 3 _ ?_
  rfl
theorem piece36 : runA.sl.v1035 c arg1 harg1 x0 = kstack (kload x0 2 4) := by
  refine piece_of harg1 x0 2 4 _ ?_
  rfl
theorem piece37 : runA.sl.v1062 c arg1 harg1 x0 = kstack (kload x0 2 5) := by
  refine piece_of harg1 x0 2 5 _ ?_
  rfl
theorem piece38 : runA.sl.v1089 c arg1 harg1 x0 = kstack (kload x0 2 6) := by
  refine piece_of harg1 x0 2 6 _ ?_
  rfl
theorem piece39 : runA.sl.v1116 c arg1 harg1 x0 = kstack (kload x0 2 7) := by
  refine piece_of harg1 x0 2 7 _ ?_
  rfl
theorem piece40 : runA.sl.v1143 c arg1 harg1 x0 = kstack (kload x0 2 8) := by
  refine piece_of harg1 x0 2 8 _ ?_
  rfl
theorem piece41 : runA.sl.v1170 c arg1 harg1 x0 = kstack (kload x0 2 9) := by
  refine piece_of harg1 x0 2 9 _ ?_
  rfl
theorem piece42 : runA.sl.v1197 c arg1 harg1 x0 = kstack (kload x0 2 10) := by
  refine piece_of harg1 x0 2 10 _ ?_
  rfl
theorem piece43 : runA.sl.v1224 c arg1 harg1 x0 = kstack (kload x0 2 11) := by
  refine piece_of harg1 x0 2 11 _ ?_
  rfl
theorem piece44 : runA.sl.v1251 c arg1 harg1 x0 = kstack (kload x0 2 12) := by
  refine piece_of harg1 x0 2 12 _ ?_
  rfl
theorem piece45 : runA.sl.v1278 c arg1 harg1 x0 = kstack (kload x0 2 13) := by
  refine piece_of harg1 x0 2 13 _ ?_
  rfl
theorem piece46 : runA.sl.v1305 c arg1 harg1 x0 = kstack (kload x0 2 14) := by
  refine piece_of harg1 x0 2 14 _ ?_
  rfl
theorem piece47 : runA.sl.v1332 c arg1 harg1 x0 = kstack (kload x0 2 15) := by
  refine piece_of harg1 x0 2 15 _ ?_
  rfl

theorem patches_eq : runA.sl.v1333 c arg1 harg1 x0 = kp0 x0 := by
  unfold runA.sl.v1333
  rw [piece0, piece1, piece2, piece3, piece4, piece5, piece6, piece7, piece8, piece9, piece10, piece11, piece12, piece13, piece14, piece15, piece16, piece17, piece18, piece19, piece20, piece21, piece22, piece23, piece24, piece25, piece26, piece27, piece28, piece29, piece30, piece31, piece32, piece33, piece34, piece35, piece36, piece37, piece38, piece39, piece40, piece41, piece42, piece43, piece44, piece45, piece46, piece47]
  rfl

end Cert.KernelIdeal.Val
-- ==== Proof.KPts.lean ====
/- The points and the first centres of the kernel's clustering, entry by entry. -/
module

public import proofs.«01_k».proof.Proof.KInit
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic

variable {F : FTy → Type} [FloatOps F]

theorem slices_row : ∀ n : Fin 24, S24x384.Slices ![0, 16 * n.val] S24x16 := by decide

/-- The stacked patches: row `24 w + g` is patch `w` of row `g`. -/
theorem kstack_at (v : FVec F S24x384 .f32) (r : Fin 576) (j : Fin 16) :
    kstack v (ix2 r j) = v (ix2 ⟨r.val % 24, by omega⟩ ⟨16 * (r.val / 24) + j.val, by omega⟩) := by
  have e : kstack v = concatenate S576x16 0 (List.ofFn fun n : Fin 24 => (⟨S24x16, extractStridedSlice S24x16 ![0, 16 * n.val] v (slices_row n)⟩ : (s : Shape) × (s.Idx → F .f32))) (by
      rw [show ((List.ofFn fun n : Fin 24 => (⟨S24x16, extractStridedSlice S24x16 ![0, 16 * n.val] v (slices_row n)⟩ : (s : Shape) × (s.Idx → F .f32))).map (·.1)) = List.replicate 24 S24x16 from by simp [List.map_ofFn, List.ofFn_const, Function.comp_def]]
      decide) := by
    unfold kstack
    refine StableHlo.concatenate_congr _ _ ?_ _ _
    simp only [List.ofFn_succ, List.ofFn_zero]
    rfl
  rw [e]
  refine (concatenate_ofFn_apply (t := S576x16) (s₁ := S24x16) (N := 24) 0 _ _ rfl 24 rfl (ix2 r j) ⟨r.val / 24, by omega⟩ rfl (ix2 ⟨r.val % 24, by omega⟩ j) rfl ?_).trans ?_
  · intro b hb
    match b with
    | 0 => exact absurd rfl hb
    | 1 => rfl
  · pointwise

/-- Row `24 w + g` of the points' pixels is the patch in row `g`, column `w` of the first image. -/
theorem kp0_at (x0 : Vec F S6x24x16x384 .f32) (r : Fin 576) (k : Fin 768) :
    kp0 x0 (ix2 r k) = x0 (ix4 ⟨k.val / 256, by omega⟩ ⟨r.val % 24, by omega⟩ ⟨k.val / 16 % 16, by omega⟩ ⟨16 * (r.val / 24) + k.val % 16, by omega⟩) := by
  have e : kp0 x0 = concatenate S576x768 1 (List.ofFn fun n : Fin 48 => (⟨S576x16, kstack (kload x0 ⟨n.val / 16, by omega⟩ ⟨n.val % 16, by omega⟩)⟩ : (s : Shape) × (s.Idx → F .f32))) (by
      rw [show ((List.ofFn fun n : Fin 48 => (⟨S576x16, kstack (kload x0 ⟨n.val / 16, by omega⟩ ⟨n.val % 16, by omega⟩)⟩ : (s : Shape) × (s.Idx → F .f32))).map (·.1)) = List.replicate 48 S576x16 from by simp [List.map_ofFn, List.ofFn_const, Function.comp_def]]
      decide) := by
    unfold kp0
    refine StableHlo.concatenate_congr _ _ ?_ _ _
    simp only [List.ofFn_succ, List.ofFn_zero]
    rfl
  rw [e]
  refine (concatenate_ofFn_apply (t := S576x768) (s₁ := S576x16) (N := 48) 1 _ _ rfl 16 rfl (ix2 r k) ⟨k.val / 16, by omega⟩ rfl (ix2 r ⟨k.val % 16, by omega⟩) rfl ?_).trans ?_
  · intro b hb
    match b with
    | 0 => rfl
    | 1 => exact absurd rfl hb
  · rw [kstack_at]
    unfold kload
    pointwise
    have e : k.val / 16 / 16 = k.val / 256 := by omega
    simp only [e]

end Cert.KernelIdeal.Val
-- ==== Proof.Lloyd.lean ====
/- One step of the clustering, over the reals. -/
module

public import proofs.«01_k».proof.Proof.Arrays

@[expose] public section

noncomputable section

namespace Cert.Sums

open scoped BigOperators

/-- `a` is the first of the five places where `s` is least. -/
def FirstMin (s : ℕ → ℝ) (a : ℕ) : Prop := a < 5 ∧ (∀ q < 5, s a ≤ s q) ∧ ∀ q < a, s a < s q

theorem FirstMin.unique {s : ℕ → ℝ} {a b : ℕ} (ha : FirstMin s a) (hb : FirstMin s b) : a = b := by
  rcases lt_trichotomy a b with h | h | h
  · exact absurd (hb.2.2 a h) (not_lt.mpr (ha.2.1 b hb.1))
  · exact h
  · exact absurd (ha.2.2 b h) (not_lt.mpr (hb.2.1 a ha.1))

theorem FirstMin.exists (s : ℕ → ℝ) : ∃ a, FirstMin s a := by
  obtain ⟨m, hm, hmin⟩ := Finset.exists_min_image (Finset.range 5) s ⟨0, by simp⟩
  classical
  have hex : ∃ a, a < 5 ∧ s a = s m := ⟨m, Finset.mem_range.mp hm, rfl⟩
  refine ⟨Nat.find hex, (Nat.find_spec hex).1, fun q hq => ?_, fun q hq => ?_⟩
  · rw [(Nat.find_spec hex).2]
    exact hmin q (Finset.mem_range.mpr hq)
  · have h5 : q < 5 := lt_trans hq (Nat.find_spec hex).1
    rw [(Nat.find_spec hex).2]
    refine lt_of_le_of_ne (hmin q (Finset.mem_range.mpr h5)) fun h => ?_
    exact Nat.find_min hex hq ⟨h5, h.symm⟩

/-- The first of the five places where `s` is least. -/
def firstMin (s : ℕ → ℝ) : ℕ := (FirstMin.exists s).choose

theorem firstMin_spec (s : ℕ → ℝ) : FirstMin s (firstMin s) := (FirstMin.exists s).choose_spec

theorem firstMin_eq {s : ℕ → ℝ} {a : ℕ} (h : FirstMin s a) : firstMin s = a := (firstMin_spec s).unique h

/-- The squared distance of point `p` to centre `q`. -/
def scoreN (X C : ℕ → ℕ → ℝ) (p q : ℕ) : ℝ :=
  (∑ d ∈ Finset.range 768, X p d * X p d) - 2 * (∑ d ∈ Finset.range 768, X p d * C q d) + ∑ d ∈ Finset.range 768, C q d * C q d

/-- How many points are nearest to centre `q`. -/
def countN (X C : ℕ → ℕ → ℝ) (q : ℕ) : ℝ := ∑ p ∈ Finset.range 576, if firstMin (scoreN X C p) = q then 1 else 0

/-- The new centres: the mean of the points nearest to the old ones. -/
def stepN (X C : ℕ → ℕ → ℝ) (q d : ℕ) : ℝ :=
  (∑ p ∈ Finset.range 576, if firstMin (scoreN X C p) = q then X p d else 0) * (1 / max (countN X C q) 1)

end Cert.Sums
-- ==== Proof.KStepAt.lean ====
/- The kernel's clustering step, entry by entry. -/
module

public import proofs.«01_k».proof.Proof.KStep
public import proofs.«01_k».proof.Proof.Lloyd
public import Idealize.ShloMosaic.Lib.SortNet.Extract
public import Idealize.ShloMosaic.Lib.Pointwise

@[expose] public section

set_option maxRecDepth 16384

noncomputable section

namespace Cert.KernelIdeal.Val

open Cert.KernelIdeal.Gen Cert.Sums
open Idealize.ShloMosaic Idealize.ShloMosaic.TcCoe Idealize.ShloMosaic.Tactic
open scoped BigOperators

theorem kscores_at (X : S1728x768.Idx → EReal) (C : S24x768.Idx → EReal) (r : Fin 24) (n : Fin 1728) :
    @Eq EReal (kscores (F := Ideal) X C (ix2 r n)) (∑ d : Fin 768, X (ix2 n d) * X (ix2 n d) - Ideal.ofBits .f32 0x40000000#32 * ∑ d : Fin 768, C (ix2 r d) * X (ix2 n d) + ∑ d : Fin 768, C (ix2 r d) * C (ix2 r d)) := by
  pointwise [kscores]

/-- Which rows are a column's own: decided by going through the rows. -/
theorem own_word (r : Fin 24) (e : Fin 3) :
    IntOp.andi (IntOp.cmpi CmpIPredicate.eq (IntOp.shrsi ArithUnit.vector (BitVec.ofNat 32 r.val) 3#32) (BitVec.ofNat 32 e.val))
      (IntOp.cmpi CmpIPredicate.slt (IntOp.andi (BitVec.ofNat 32 r.val) 7#32) 5#32) = if r.val / 8 = e.val ∧ r.val % 8 < 5 then 1#1 else 0#1 := by
  revert r e
  decide

theorem kmasked_at (S : S24x1728.Idx → EReal) (r : Fin 24) (n : Fin 1728) :
    @Eq EReal (kmasked (F := Ideal) S (ix2 r n)) (if r.val / 8 = n.val / 576 ∧ r.val % 8 < 5 then S (ix2 r n) else ⊤) := by
  have ht : Ideal.ofBits .f32 0x7F800000#32 = ⊤ := by simp [Ideal.ofBits, Ideal.ieee]
  pointwise [kmasked, k0_pay367]
  have hw : (if h : n.val < 576 then 0#32 else if h : n.val - 576 < 576 then 1#32 else 2#32) = BitVec.ofNat 32 (n.val / 576) := by
    have hn := n.isLt
    split_ifs with h h'
    · rw [show n.val / 576 = 0 by omega]
    · rw [show n.val / 576 = 1 by omega]
    · rw [show n.val / 576 = 2 by omega]
  rw [hw, own_word r ⟨n.val / 576, by omega⟩, ht]
  split_ifs <;> rfl

theorem kties_at (S : S24x1728.Idx → EReal) (r : Fin 24) (n : Fin 1728) :
    kties (F := Ideal) S (ix2 r n) = if S (ix2 r n) = Finset.fold min ⊤ (fun x => S (ix2 x n)) Finset.univ then BitVec.ofNat 32 r.val else 24#32 := by
  have ht : Ideal.ofBits .f32 0x7F800000#32 = ⊤ := by simp [Ideal.ofBits, Ideal.ieee]
  rw [← ht]
  pointwise [kties, krows]

theorem hot_word (r : Fin 24) (a : Fin 24) :
    @Eq EReal (FloatOps.sitofp (F := Ideal) FTy.f32 (BitVec.setWidth 32 (IntOp.cmpi CmpIPredicate.eq (BitVec.ofNat 32 r.val) (BitVec.ofNat 32 a.val)))) (((if r.val = a.val then 1 else 0 : ℝ)) : EReal) := by
  have h : BitVec.setWidth 32 (IntOp.cmpi CmpIPredicate.eq (BitVec.ofNat 32 r.val) (BitVec.ofNat 32 a.val)) = if r.val = a.val then 1#32 else 0#32 := by
    revert r a
    decide
  rw [h]
  split_ifs
  · show (((1#32).toInt : ℝ) : EReal) = _
    norm_num
  · show (((0#32).toInt : ℝ) : EReal) = _
    norm_num

theorem khot_at (T : IVec S24x1728 32) (r : Fin 24) (n : Fin 1728) (a : Fin 24)
    (ha : Finset.fold IntOp.minsi (2147483647#32) (fun x => T (ix2 x n)) Finset.univ = BitVec.ofNat 32 a.val) :
    @Eq EReal (khot (F := Ideal) T (ix2 r n)) ((if r.val = a.val then 1 else 0 : ℝ) : EReal) := by
  rw [← hot_word, ← ha]
  pointwise [khot, krows]

theorem kmeans_at (H : S24x1728.Idx → EReal) (X : S1728x768.Idx → EReal) (r : Fin 24) (d : Fin 768) :
    @Eq EReal (kmeans (F := Ideal) H X (ix2 r d)) (Ideal.div
      (∑ x, H (ix2 r x) * X (ix2 x d) + ∑ x, H (ix2 r x) * (X (ix2 x d) - X (ix2 x d)) +
        ∑ x, H (ix2 r x) * (X (ix2 x d) - X (ix2 x d) - (X (ix2 x d) - X (ix2 x d))))
      (max (∑ x, H (ix2 r x)) 1)) := by
  pointwise [kmeans, khi, krest]

/-- The least of a column's distances. -/
theorem fold_min_own (s : ℕ → ℝ) (e : ℕ) (he : e < 3) :
    Finset.fold min ⊤ (fun r : Fin 24 => if r.val / 8 = e ∧ r.val % 8 < 5 then ((s (r.val % 8) : ℝ) : EReal) else ⊤) Finset.univ = ((s (firstMin s) : ℝ) : EReal) := by
  obtain ⟨h5, hle, hlt⟩ := firstMin_spec s
  refine le_antisymm (Finset.fold_min_le _ |>.mpr (Or.inr ⟨⟨8 * e + firstMin s, by omega⟩, Finset.mem_univ _, ?_⟩)) (Finset.le_fold_min _ |>.mpr ⟨le_top, fun r _ => ?_⟩)
  · rw [if_pos ⟨by show (8 * e + firstMin s) / 8 = e; omega, by show (8 * e + firstMin s) % 8 < 5; omega⟩]
    rw [show (8 * e + firstMin s) % 8 = firstMin s by omega]
  · split_ifs with h
    · exact EReal.coe_le_coe_iff.mpr (hle _ h.2)
    · exact le_top

/-- The first row at which a column is least. -/
theorem fold_first (s : ℕ → ℝ) (e : ℕ) (he : e < 3) (T : Fin 24 → BitVec 32)
    (hT : ∀ r : Fin 24, T r = if (if r.val / 8 = e ∧ r.val % 8 < 5 then ((s (r.val % 8) : ℝ) : EReal) else ⊤) = ((s (firstMin s) : ℝ) : EReal) then BitVec.ofNat 32 r.val else 24#32) :
    Finset.fold IntOp.minsi (2147483647#32) T Finset.univ = BitVec.ofNat 32 (8 * e + firstMin s) := by
  obtain ⟨h5, hle, hlt⟩ := firstMin_spec s
  have hi : ∀ q : Fin 24, (BitVec.ofNat 32 q.val).toInt = q.val := by decide
  apply BitVec.eq_of_toInt_eq
  rw [← Finset.fold_hom (op := IntOp.minsi) (op' := min) (m := BitVec.toInt) (SortNet.toInt_minsi)]
  rw [hi ⟨8 * e + firstMin s, by omega⟩]
  refine le_antisymm (Finset.fold_min_le _ |>.mpr (Or.inr ⟨⟨8 * e + firstMin s, by omega⟩, Finset.mem_univ _, ?_⟩)) (Finset.le_fold_min _ |>.mpr ⟨?_, fun r _ => ?_⟩)
  · rw [hT, if_pos, hi]
    rw [if_pos ⟨by show (8 * e + firstMin s) / 8 = e; omega, by show (8 * e + firstMin s) % 8 < 5; omega⟩]
    rw [show (8 * e + firstMin s) % 8 = firstMin s by omega]
  · rw [show (2147483647#32).toInt = 2147483647 from rfl]
    show ((8 * e + firstMin s : ℕ) : ℤ) ≤ 2147483647
    omega
  · rw [hT]
    show ((8 * e + firstMin s : ℕ) : ℤ) ≤ _
    split_ifs with h h'
    · rw [hi]
      have hs : s (r.val % 8) = s (firstMin s) := EReal.coe_eq_coe_iff.mp h'
      have hq : ¬ r.val % 8 < firstMin s := fun hq => (hlt _ hq).ne hs.symm
      omega
    · rw [show (24#32).toInt = 24 from rfl]
      omega
    · rename_i h'
      exact absurd h'.symm (EReal.coe_ne_top _)
    · rw [show (24#32).toInt = 24 from rfl]
      omega

end Cert.KernelIdeal.Val
-- ==== Proof.KStepReal.lean ====
/- The kernel's clustering step over the reals: three clusterings side by side. -/
module

public import proofs.«01_k».proof.Proof.KStepAt

@[expose] public section

set_option maxRecDepth 16384

noncomputable section

namespace Cert.KernelIdeal.Val

open Cert.KernelIdeal.Gen Cert.Sums
open Idealize.ShloMosaic Idealize.ShloMosaic.TcCoe Idealize.ShloMosaic.Tactic
open scoped BigOperators

/-- The patch in row `r` of a block of points: the kernel goes down the columns. -/
def patchOf (r : ℕ) : ℕ := r % 24 * 24 + r / 24

theorem sum_patches (g : ℕ → ℝ) : ∑ r ∈ Finset.range 576, g (patchOf r) = ∑ p ∈ Finset.range 576, g p := by
  rw [show (576 : ℕ) = 24 * 24 from rfl, sum_range_blocks, sum_range_blocks, Finset.sum_comm]
  refine Finset.sum_congr rfl fun i hi => Finset.sum_congr rfl fun j hj => ?_
  have hi := Finset.mem_range.mp hi
  have hj := Finset.mem_range.mp hj
  unfold patchOf
  congr 1
  omega

/-- A sum over all points is one over the blocks and their patches. -/
theorem sum_points (g : ℕ → ℕ → ℝ) : ∑ n ∈ Finset.range 1728, g (n / 576) (patchOf (n % 576)) = ∑ e ∈ Finset.range 3, ∑ p ∈ Finset.range 576, g e p := by
  rw [show (1728 : ℕ) = 3 * 576 from rfl, sum_range_blocks]
  refine Finset.sum_congr rfl fun e he => ?_
  rw [← sum_patches (g e)]
  refine Finset.sum_congr rfl fun r hr => ?_
  have hr := Finset.mem_range.mp hr
  rw [show (e * 576 + r) / 576 = e by omega, show (e * 576 + r) % 576 = r by omega]

/-- Only the block that owns the row counts. -/
theorem sum_own (a : ℕ → ℕ → ℕ) (ha : ∀ e p, a e p < 5) (g : ℕ → ℕ → ℝ) (e q : ℕ) (he : e < 3) (hq : q < 5) :
    (∑ n ∈ Finset.range 1728, if 8 * e + q = 8 * (n / 576) + a (n / 576) (patchOf (n % 576)) then g (n / 576) (patchOf (n % 576)) else 0)
      = ∑ p ∈ Finset.range 576, if a e p = q then g e p else 0 := by
  rw [sum_points (fun e' p => if 8 * e + q = 8 * e' + a e' p then g e' p else 0)]
  rw [Finset.sum_eq_single e]
  · refine Finset.sum_congr rfl fun p _ => ?_
    by_cases h : a e p = q
    · rw [if_pos h, if_pos (by omega)]
    · rw [if_neg h, if_neg (by omega)]
  · intro e' _ hne
    refine Finset.sum_eq_zero fun p _ => ?_
    have := ha e' p
    rw [if_neg (by omega)]
  · intro h
    exact absurd (Finset.mem_range.mpr he) h

variable {X : S1728x768.Idx → EReal} {C : S24x768.Idx → EReal} (pN cN : ℕ → ℕ → ℕ → ℝ)

theorem kmasked_real (hX : ∀ (n : Fin 1728) (d : Fin 768), X (ix2 n d) = (pN (n.val / 576) (patchOf (n.val % 576)) d.val : EReal))
    (hC : ∀ (r : Fin 24) (d : Fin 768), r.val % 8 < 5 → C (ix2 r d) = (cN (r.val / 8) (r.val % 8) d.val : EReal)) (r : Fin 24) (n : Fin 1728) :
    @Eq EReal (kmasked (F := Ideal) (kscores (F := Ideal) X C) (ix2 r n))
      (if r.val / 8 = n.val / 576 ∧ r.val % 8 < 5 then ((scoreN (pN (n.val / 576)) (cN (n.val / 576)) (patchOf (n.val % 576)) (r.val % 8) : ℝ) : EReal) else ⊤) := by
  have htwo : Ideal.ofBits .f32 0x40000000#32 = ((2 : ℝ) : EReal) := by
    simp [Ideal.ofBits, Ideal.ieee, -EReal.coe_mul]; norm_num
  rw [kmasked_at]
  by_cases h : r.val / 8 = n.val / 576 ∧ r.val % 8 < 5
  · rw [if_pos h, if_pos h, kscores_at, htwo]
    unfold scoreN
    simp only [hX, hC r _ h.2, h.1, Finset.sum_range, EReal.coe_add, EReal.coe_sub, EReal.coe_mul, coe_sum]
    simp only [mul_comm]
  · rw [if_neg h, if_neg h]

theorem khot_real (hX : ∀ (n : Fin 1728) (d : Fin 768), X (ix2 n d) = (pN (n.val / 576) (patchOf (n.val % 576)) d.val : EReal))
    (hC : ∀ (r : Fin 24) (d : Fin 768), r.val % 8 < 5 → C (ix2 r d) = (cN (r.val / 8) (r.val % 8) d.val : EReal)) (r : Fin 24) (n : Fin 1728) :
    @Eq EReal (khot (F := Ideal) (kties (F := Ideal) (kmasked (F := Ideal) (kscores (F := Ideal) X C))) (ix2 r n))
      ((if r.val = 8 * (n.val / 576) + firstMin (scoreN (pN (n.val / 576)) (cN (n.val / 576)) (patchOf (n.val % 576))) then 1 else 0 : ℝ) : EReal) := by
  have hn := n.isLt
  have h5 := (firstMin_spec (scoreN (pN (n.val / 576)) (cN (n.val / 576)) (patchOf (n.val % 576)))).1
  refine khot_at _ r n ⟨8 * (n.val / 576) + firstMin (scoreN (pN (n.val / 576)) (cN (n.val / 576)) (patchOf (n.val % 576))), by omega⟩ ?_
  refine fold_first (scoreN (pN (n.val / 576)) (cN (n.val / 576)) (patchOf (n.val % 576))) (n.val / 576) (by omega) _ fun r' => ?_
  rw [kties_at]
  simp only [kmasked_real pN cN hX hC]
  rw [fold_min_own _ _ (by omega)]

/-- One step: each row moves to the mean of its own points. -/
theorem kstep_real (hX : ∀ (n : Fin 1728) (d : Fin 768), X (ix2 n d) = (pN (n.val / 576) (patchOf (n.val % 576)) d.val : EReal))
    (hC : ∀ (r : Fin 24) (d : Fin 768), r.val % 8 < 5 → C (ix2 r d) = (cN (r.val / 8) (r.val % 8) d.val : EReal)) (r : Fin 24) (d : Fin 768) (hr : r.val % 8 < 5) :
    @Eq EReal (kstep (F := Ideal) X C (ix2 r d)) ((stepN (pN (r.val / 8)) (cN (r.val / 8)) (r.val % 8) d.val : ℝ) : EReal) := by
  have hrl := r.isLt
  unfold kstep
  rw [kmeans_at]
  have e1 : (∑ n, khot (F := Ideal) (kties (F := Ideal) (kmasked (F := Ideal) (kscores (F := Ideal) X C))) (ix2 r n) * X (ix2 n d) : EReal)
      = ((∑ p ∈ Finset.range 576, if firstMin (scoreN (pN (r.val / 8)) (cN (r.val / 8)) p) = r.val % 8 then pN (r.val / 8) p d.val else 0 : ℝ) : EReal) := by
    rw [← sum_own (fun e p => firstMin (scoreN (pN e) (cN e) p)) (fun e p => (firstMin_spec _).1) (fun e p => pN e p d.val) (r.val / 8) (r.val % 8) (by omega) hr]
    rw [Finset.sum_range, coe_sum]
    refine Finset.sum_congr rfl fun n _ => ?_
    rw [khot_real pN cN hX hC, hX, ← EReal.coe_mul, ite_mul, one_mul, zero_mul, show 8 * (r.val / 8) + r.val % 8 = r.val by omega]
  have e2 : (∑ n, khot (F := Ideal) (kties (F := Ideal) (kmasked (F := Ideal) (kscores (F := Ideal) X C))) (ix2 r n) : EReal)
      = ((countN (pN (r.val / 8)) (cN (r.val / 8)) (r.val % 8) : ℝ) : EReal) := by
    unfold countN
    rw [← sum_own (fun e p => firstMin (scoreN (pN e) (cN e) p)) (fun e p => (firstMin_spec _).1) (fun e p => 1) (r.val / 8) (r.val % 8) (by omega) hr]
    rw [Finset.sum_range, coe_sum]
    refine Finset.sum_congr rfl fun n _ => ?_
    rw [khot_real pN cN hX hC, show 8 * (r.val / 8) + r.val % 8 = r.val by omega]
  have z1 : ∀ n : Fin 1728, X (ix2 n d) - X (ix2 n d) = 0 := fun n => by
    rw [hX, ← EReal.coe_sub, sub_self]
    rfl
  have z2 : (0 : EReal) - 0 = 0 := by simp
  simp only [z1, z2, mul_zero, Finset.sum_const_zero, add_zero]
  have hpos : (max (countN (pN (r.val / 8)) (cN (r.val / 8)) (r.val % 8)) 1 : ℝ) ≠ 0 := (lt_of_lt_of_le one_pos (le_max_right _ _)).ne'
  have em : max ((countN (pN (r.val / 8)) (cN (r.val / 8)) (r.val % 8) : ℝ) : EReal) 1 = ((max (countN (pN (r.val / 8)) (cN (r.val / 8)) (r.val % 8)) 1 : ℝ) : EReal) :=
    (EReal.coe_strictMono.monotone.map_max (a := countN (pN (r.val / 8)) (cN (r.val / 8)) (r.val % 8)) (b := 1)).symm
  rw [e1, e2, em, Ideal.div_coe hpos, ← EReal.coe_mul]
  rfl

end Cert.KernelIdeal.Val
-- ==== Proof.KCent.lean ====
/- The kernel's centres over the reals. -/
module

public import proofs.«01_k».proof.Proof.KPts
public import proofs.«01_k».proof.Proof.KStepReal
public import proofs.«01_k».proof.Proof.KFeat

@[expose] public section

set_option maxRecDepth 16384

noncomputable section

namespace Cert.KernelIdeal.Val

open Cert.KernelIdeal.Gen Cert.Sums
open Idealize.ShloMosaic Idealize.ShloMosaic.TcCoe Idealize.ShloMosaic.Tactic
open scoped BigOperators

section General

variable {F : FTy → Type} [FloatOps F] [Named F]

/-- The patches through one weight matrix. -/
def kemb (P : FVec F S576x768 .f32) (W : Vec F S768x768 .f32) : FVec F S576x768 .f32 :=
  matmul dot_S576x768_S768x768_S576x768_1_0_0_1_n_n none P W (constant S576x768 .f32 0x00000000#32)

/-- The points of the three clusterings, one block under the other. -/
def kpoints (Y0 Y1 Y2 : FVec F S576x768 .f32) : FVec F S1728x768 .f32 :=
  concatenate S1728x768 0 [⟨S576x768, Y0⟩, ⟨S576x768, Y1⟩, ⟨S576x768, Y2⟩] concatenates_S576x768_S576x768_S576x768_S1728x768_d0

/-- The first patches of one block of points. -/
def kfirst (Y : FVec F S576x768 .f32) : FVec F S8x768 .f32 :=
  concatenate S8x768 0 [⟨S1x768, extractStridedSlice S1x768 ![0, 0] Y slices_S576x768_o0_0_S1x768⟩, ⟨S1x768, extractStridedSlice S1x768 ![24, 0] Y slices_S576x768_o24_0_S1x768⟩,
    ⟨S1x768, extractStridedSlice S1x768 ![48, 0] Y slices_S576x768_o48_0_S1x768⟩, ⟨S1x768, extractStridedSlice S1x768 ![72, 0] Y slices_S576x768_o72_0_S1x768⟩,
    ⟨S1x768, extractStridedSlice S1x768 ![96, 0] Y slices_S576x768_o96_0_S1x768⟩, ⟨S1x768, extractStridedSlice S1x768 ![120, 0] Y slices_S576x768_o120_0_S1x768⟩,
    ⟨S1x768, extractStridedSlice S1x768 ![144, 0] Y slices_S576x768_o144_0_S1x768⟩, ⟨S1x768, extractStridedSlice S1x768 ![168, 0] Y slices_S576x768_o168_0_S1x768⟩]
    concatenates_S1x768_S1x768_S1x768_S1x768_S1x768_S1x768_S1x768_S1x768_S8x768_d0

/-- The centres all three clusterings start from. -/
def kfirsts (Y0 Y1 Y2 : FVec F S576x768 .f32) : FVec F S24x768 .f32 :=
  concatenate S24x768 0 [⟨S8x768, kfirst Y0⟩, ⟨S8x768, kfirst Y1⟩, ⟨S8x768, kfirst Y2⟩] concatenates_S8x768_S8x768_S8x768_S24x768_d0

variable (c : Dev nD) (arg1 : Memref sig .tc .vmem S6x24x16x384 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole)
    (x0 : Vec F S6x24x16x384 .f32) (x1 x2 x3 : Vec F S768x768 .f32)

theorem emb0_eq : runA.sl.v1335 c arg1 harg1 arg2 harg2 x0 x1 = kemb (kp0 x0) x1 := by
  unfold runA.sl.v1335
  rw [patches_eq, readAt_whole harg2 x1 _ zero2 _]
  rfl

theorem emb1_eq : runA.sl.v1337 c arg1 harg1 arg3 harg3 x0 x2 = kemb (kp0 x0) x2 := by
  unfold runA.sl.v1337
  rw [patches_eq, readAt_whole harg3 x2 _ zero2 _]
  rfl

theorem emb2_eq : runA.sl.v1339 c arg1 harg1 arg4 harg4 x0 x3 = kemb (kp0 x0) x3 := by
  unfold runA.sl.v1339
  rw [patches_eq, readAt_whole harg4 x3 _ zero2 _]
  rfl

theorem points_eq : runA.sl.v1340 c arg1 harg1 arg2 harg2 arg3 harg3 arg4 harg4 x0 x1 x2 x3 = kpoints (kemb (kp0 x0) x1) (kemb (kp0 x0) x2) (kemb (kp0 x0) x3) := by
  unfold runA.sl.v1340
  rw [emb0_eq, emb1_eq, emb2_eq]
  rfl

theorem first0_eq : runA.sl.v1349 c arg1 harg1 arg2 harg2 x0 x1 = kfirst (runA.sl.v1335 c arg1 harg1 arg2 harg2 x0 x1) := rfl
theorem first1_eq : runA.sl.v1358 c arg1 harg1 arg3 harg3 x0 x2 = kfirst (runA.sl.v1337 c arg1 harg1 arg3 harg3 x0 x2) := rfl
theorem first2_eq : runA.sl.v1367 c arg1 harg1 arg4 harg4 x0 x3 = kfirst (runA.sl.v1339 c arg1 harg1 arg4 harg4 x0 x3) := rfl

theorem firsts_eq : runA.sl.v1368 c arg1 harg1 arg2 harg2 arg3 harg3 arg4 harg4 x0 x1 x2 x3 = kfirsts (kemb (kp0 x0) x1) (kemb (kp0 x0) x2) (kemb (kp0 x0) x3) := by
  unfold runA.sl.v1368
  rw [first0_eq, first1_eq, first2_eq, emb0_eq, emb1_eq, emb2_eq]
  rfl

theorem centres_from : centres c arg1 harg1 arg2 harg2 arg3 harg3 arg4 harg4 x0 x1 x2 x3
    = (kstep (kpoints (kemb (kp0 x0) x1) (kemb (kp0 x0) x2) (kemb (kp0 x0) x3)))^[10] (kfirsts (kemb (kp0 x0) x1) (kemb (kp0 x0) x2) (kemb (kp0 x0) x3)) := by
  rw [centres_eq, points_eq, firsts_eq]

end General

theorem kemb_at (P : S576x768.Idx → EReal) (W : S768x768.Idx → EReal) (r : Fin 576) (d : Fin 768) :
    @Eq EReal (kemb (F := Ideal) P W (ix2 r d)) (∑ k : Fin 768, P (ix2 r k) * W (ix2 k d)) := by
  pointwise [kemb]

theorem kpoints_at (Y0 Y1 Y2 : S576x768.Idx → EReal) (Y : ℕ → ℕ → ℕ → EReal)
    (h0 : ∀ (r : Fin 576) (d : Fin 768), Y0 (ix2 r d) = Y 0 r.val d.val) (h1 : ∀ (r : Fin 576) (d : Fin 768), Y1 (ix2 r d) = Y 1 r.val d.val)
    (h2 : ∀ (r : Fin 576) (d : Fin 768), Y2 (ix2 r d) = Y 2 r.val d.val) (n : Fin 1728) (d : Fin 768) :
    @Eq EReal (kpoints (F := Ideal) Y0 Y1 Y2 (ix2 n d)) (Y (n.val / 576) (n.val % 576) d.val) := by
  have hn := n.isLt
  pointwise [kpoints]
  simp only [h0, h1, h2]
  split_ifs with ha hb
  · rw [show n.val / 576 = 0 by omega, show n.val % 576 = n.val by omega]
  · rw [show n.val / 576 = 1 by omega, show n.val % 576 = n.val - 576 by omega]
  · rw [show n.val / 576 = 2 by omega, show n.val % 576 = n.val - 576 - 576 by omega]

theorem kfirst_at (Y : S576x768.Idx → EReal) (q : Fin 8) (d : Fin 768) :
    @Eq EReal (kfirst (F := Ideal) Y (ix2 q d)) (Y (ix2 ⟨24 * q.val, by omega⟩ d)) := by
  fin_cases q <;> pointwise [kfirst]

theorem kfirsts_at (Y0 Y1 Y2 : S576x768.Idx → EReal) (Y : ℕ → ℕ → ℕ → EReal)
    (h0 : ∀ (r : Fin 576) (d : Fin 768), Y0 (ix2 r d) = Y 0 r.val d.val) (h1 : ∀ (r : Fin 576) (d : Fin 768), Y1 (ix2 r d) = Y 1 r.val d.val)
    (h2 : ∀ (r : Fin 576) (d : Fin 768), Y2 (ix2 r d) = Y 2 r.val d.val) (r : Fin 24) (d : Fin 768) :
    @Eq EReal (kfirsts (F := Ideal) Y0 Y1 Y2 (ix2 r d)) (Y (r.val / 8) (24 * (r.val % 8)) d.val) := by
  have hr := r.isLt
  have e : @Eq EReal (kfirsts (F := Ideal) Y0 Y1 Y2 (ix2 r d)) (if h : r.val < 8 then kfirst (F := Ideal) Y0 (ix2 ⟨r.val, h⟩ d) else if h' : r.val - 8 < 8 then kfirst (F := Ideal) Y1 (ix2 ⟨r.val - 8, h'⟩ d) else kfirst (F := Ideal) Y2 (ix2 ⟨r.val - 8 - 8, by omega⟩ d)) := by
    unfold kfirsts
    generalize kfirst (F := Ideal) Y0 = Z0
    generalize kfirst (F := Ideal) Y1 = Z1
    generalize kfirst (F := Ideal) Y2 = Z2
    pointwise
  rw [e]
  simp only [kfirst_at, h0, h1, h2]
  split_ifs with ha hb
  · rw [show r.val / 8 = 0 by omega, show r.val % 8 = r.val by omega]
  · rw [show r.val / 8 = 1 by omega, show r.val % 8 = r.val - 8 by omega]
  · rw [show r.val / 8 = 2 by omega, show r.val % 8 = r.val - 8 - 8 by omega]

/-- Ten steps over the reals. -/
theorem iterate_real (X : S1728x768.Idx → EReal) (C : S24x768.Idx → EReal) (pN cN : ℕ → ℕ → ℕ → ℝ)
    (hX : ∀ (n : Fin 1728) (d : Fin 768), X (ix2 n d) = (pN (n.val / 576) (patchOf (n.val % 576)) d.val : EReal))
    (hC : ∀ (r : Fin 24) (d : Fin 768), r.val % 8 < 5 → C (ix2 r d) = (cN (r.val / 8) (r.val % 8) d.val : EReal)) (i : ℕ) :
    ∀ (r : Fin 24) (d : Fin 768), r.val % 8 < 5 → @Eq EReal ((kstep (F := Ideal) X)^[i] C (ix2 r d)) (((stepN (pN (r.val / 8)))^[i] (cN (r.val / 8)) (r.val % 8) d.val : ℝ) : EReal) := by
  induction i with
  | zero => exact hC
  | succ i ih =>
    intro r d hr
    rw [Function.iterate_succ_apply', Function.iterate_succ_apply']
    exact kstep_real pN (fun e => (stepN (pN e))^[i] (cN e)) hX ih r d hr

end Cert.KernelIdeal.Val
-- ==== Proof.RStep.lean ====
/- One step of the reference's clustering over the reals. -/
module

public import proofs.«01_k».proof.Proof.RFeat
public import proofs.«01_k».proof.Proof.Lloyd
public import Idealize.ShloMosaic.Lib.Routing.OpsPair

@[expose] public section

set_option maxRecDepth 16384

noncomputable section

namespace Cert.ReferenceIdeal.Val

open Cert.ReferenceIdeal.Gen Cert.Sums
open Idealize.ShloMosaic Idealize.ShloMosaic.TcCoe Idealize.ShloMosaic.Tactic
open scoped BigOperators

theorem bits_two : Ideal.ofBits .f32 0x40000000#32 = ((2 : ℝ) : EReal) := by
  simp [Ideal.ofBits, Ideal.ieee, -EReal.coe_mul]; norm_num

theorem distR_at (X : S576x768.Idx → EReal) (C : S5x768.Idx → EReal) (p : Fin 576) (q : Fin 5) :
    @Eq EReal (distR X C (ix2 p q)) (∑ d : Fin 768, X (ix2 p d) * X (ix2 p d) - Ideal.ofBits .f32 0x40000000#32 * ∑ d : Fin 768, X (ix2 p d) * C (ix2 q d) + ∑ d : Fin 768, C (ix2 q d) * C (ix2 q d)) := by
  pointwise [distR]

/-- The distances over the reals. -/
theorem distR_real {X : S576x768.Idx → EReal} {C : S5x768.Idx → EReal} (xN cN : ℕ → ℕ → ℝ)
    (hX : ∀ (p : Fin 576) (d : Fin 768), X (ix2 p d) = (xN p d : EReal)) (hC : ∀ (q : Fin 5) (d : Fin 768), C (ix2 q d) = (cN q d : EReal))
    (p : Fin 576) (q : Fin 5) : @Eq EReal (distR X C (ix2 p q)) ((scoreN xN cN p q : ℝ) : EReal) := by
  rw [distR_at, bits_two]
  unfold scoreN
  simp only [hX, hC, Finset.sum_range, EReal.coe_add, EReal.coe_sub, EReal.coe_mul, coe_sum]

theorem scat2_lands (idx : IVec S576x1 32) (p : Fin 576) (k : Fin 768) (q : Fin 5) (d : Fin 768) :
    scatter_S5x768_S576x1_S576x768_1_0_0_1.resultIdx? (ix2 p k) idx = some (ix2 q d) ↔ (idx (ix2 p 0)).toInt = q.val ∧ k = d := by
  refine (Routing.resultIdx?_ix2 _ _ _ q d).trans ?_
  have w0 : scatter_S5x768_S576x1_S576x768_1_0_0_1.window (ix2 p k) 0 = 0 := rfl
  have w1 : scatter_S5x768_S576x1_S576x768_1_0_0_1.window (ix2 p k) 1 = k.val := rfl
  have s1 : scatter_S5x768_S576x1_S576x768_1_0_0_1.start (ix2 p k) idx 1 = 0 := rfl
  have s0 : scatter_S5x768_S576x1_S576x768_1_0_0_1.start (ix2 p k) idx 0 = (idx (ix2 p 0)).toInt := by
    refine congrArg (fun i => (idx i).toInt) ?_
    funext a
    match a with
    | 0 => rfl
    | 1 => rfl
  rw [w0, w1, s0, s1]
  constructor
  · rintro ⟨h, h'⟩
    exact ⟨by omega, Fin.ext (by omega)⟩
  · rintro ⟨h, h'⟩
    subst h'
    exact ⟨by omega, by omega⟩

theorem scat1_lands (idx : IVec S576x1 32) (p : Fin 576) (q : Fin 5) :
    scatter_S5_S576x1_S576_n_0_0_1.resultIdx? (ix1 p) idx = some (ix1 q) ↔ (idx (ix2 p 0)).toInt = q.val := by
  refine (Routing.resultIdx?_ix1 _ _ _ q).trans ?_
  have w0 : scatter_S5_S576x1_S576_n_0_0_1.window (ix1 p) 0 = 0 := rfl
  have s0 : scatter_S5_S576x1_S576_n_0_0_1.start (ix1 p) idx 0 = (idx (ix2 p 0)).toInt := by
    refine congrArg (fun i => (idx i).toInt) ?_
    funext a
    match a with
    | 0 => rfl
    | 1 => rfl
  rw [w0, s0]
  constructor <;> intro h <;> omega

theorem ex_ix2 (j : S576x768.Idx) : ∃ (p : Fin 576) (k : Fin 768), j = ix2 p k :=
  ⟨j 0, j 1, by
    funext a
    match a with
    | 0 => rfl
    | 1 => rfl⟩

theorem ex_ix1 (j : S576.Idx) : ∃ p : Fin 576, j = ix1 p :=
  ⟨j 0, by
    funext a
    match a with
    | 0 => rfl⟩

/-- Rows added up by their index word. -/
theorem scat2_sum (x : S5x768.Idx → EReal) (idx : IVec S576x1 32) (X : S576x768.Idx → EReal) (q : Fin 5) (d : Fin 768) :
    @Eq EReal (Host.scatterAdd (F := Ideal) (φ := .f32) scatter_S5x768_S576x1_S576x768_1_0_0_1 x idx X (ix2 q d))
      (x (ix2 q d) + ∑ p : Fin 576, if (idx (ix2 p 0)).toInt = q.val then X (ix2 p d) else 0) := by
  refine (show _ = x (ix2 q d) + ∑ j ∈ Finset.univ.filter (fun j => scatter_S5x768_S576x1_S576x768_1_0_0_1.resultIdx? j idx = some (ix2 q d)), X j from rfl).trans ?_
  congr 1
  rw [← Finset.sum_filter]
  refine Finset.sum_nbij' (fun j => j 0) (fun p => ix2 p d) ?_ ?_ ?_ ?_ ?_
  · intro j hj
    obtain ⟨p, k, rfl⟩ := ex_ix2 j
    rw [Finset.mem_filter, scat2_lands] at hj
    exact Finset.mem_filter.mpr ⟨Finset.mem_univ _, hj.2.1⟩
  · intro p hp
    rw [Finset.mem_filter] at hp ⊢
    exact ⟨Finset.mem_univ _, (scat2_lands _ _ _ _ _).mpr ⟨hp.2, rfl⟩⟩
  · intro j hj
    obtain ⟨p, k, rfl⟩ := ex_ix2 j
    rw [Finset.mem_filter, scat2_lands] at hj
    rw [← hj.2.2]
    rfl
  · intro p hp
    rfl
  · intro j hj
    obtain ⟨p, k, rfl⟩ := ex_ix2 j
    rw [Finset.mem_filter, scat2_lands] at hj
    rw [← hj.2.2]
    rfl

/-- Ones added up by their index word. -/
theorem scat1_sum (x : S5.Idx → EReal) (idx : IVec S576x1 32) (X : S576.Idx → EReal) (q : Fin 5) :
    @Eq EReal (Host.scatterAdd (F := Ideal) (φ := .f32) scatter_S5_S576x1_S576_n_0_0_1 x idx X (ix1 q))
      (x (ix1 q) + ∑ p : Fin 576, if (idx (ix2 p 0)).toInt = q.val then X (ix1 p) else 0) := by
  refine (show _ = x (ix1 q) + ∑ j ∈ Finset.univ.filter (fun j => scatter_S5_S576x1_S576_n_0_0_1.resultIdx? j idx = some (ix1 q)), X j from rfl).trans ?_
  congr 1
  rw [← Finset.sum_filter]
  refine Finset.sum_nbij' (fun j => j 0) (fun p => ix1 p) ?_ ?_ ?_ ?_ ?_
  · intro j hj
    obtain ⟨p, rfl⟩ := ex_ix1 j
    rw [Finset.mem_filter, scat1_lands] at hj
    exact Finset.mem_filter.mpr ⟨Finset.mem_univ _, hj.2⟩
  · intro p hp
    rw [Finset.mem_filter] at hp ⊢
    exact ⟨Finset.mem_univ _, (scat1_lands _ _ _).mpr hp.2⟩
  · intro j hj
    obtain ⟨p, rfl⟩ := ex_ix1 j
    rfl
  · intro p hp
    rfl
  · intro j hj
    obtain ⟨p, rfl⟩ := ex_ix1 j
    rfl

/-- The index words the scatters use. -/
def wordsR (A : IVec S576 32) : IVec S576x1 32 :=
  broadcastInDim S576x1 ![0] bcast_S576_S576x1_0 (select (cmpi .slt A (broadcastInDim S576 ![] bcast_S_S576 (constantI S_ 32 0#32))) (addi A (broadcastInDim S576 ![] bcast_S_S576 (constantI S_ 32 5#32))) A)

theorem wordsR_at (A : IVec S576 32) (p : Fin 576) (a : ℕ) (ha : a < 5) (h : A (ix1 p) = BitVec.ofNat 32 a) : (wordsR A (ix2 p 0)).toInt = a := by
  have e : wordsR A (ix2 p 0) = Scalar.select (IntOp.cmpi .slt (A (ix1 p)) 0#32) (IntOp.addi (A (ix1 p)) 5#32) (A (ix1 p)) := by
    pointwise [wordsR]
  rw [e, h]
  interval_cases a <;> rfl

/-- Sums of rows over the counts, an empty cluster counting one. -/
noncomputable def quotR (U : S5x768.Idx → EReal) (N : S5.Idx → EReal) : S5x768.Idx → EReal :=
  Host.divf (F := Ideal) (φ := .f32) U (broadcastInDim S5x768 ![0, 1] bcast_S5x1_S5x768_0_1 (maximumf (F := Ideal) (φ := .f32) (broadcastInDim S5x1 ![] bcast_S_S5x1 (constant (F := Ideal) S_ .f32 0x3F800000#32)) (broadcastInDim S5x1 ![0] bcast_S5_S5x1_0 N)))

theorem quotR_at (U : S5x768.Idx → EReal) (N : S5.Idx → EReal) (q : Fin 5) (d : Fin 768) :
    @Eq EReal (quotR U N (ix2 q d)) (Ideal.div (U (ix2 q d)) (max (Ideal.ofBits .f32 0x3F800000#32) (N (ix1 q)))) := by
  pointwise [quotR]

noncomputable def sumsR (X : S576x768.Idx → EReal) (A : IVec S576x1 32) : S5x768.Idx → EReal :=
  Host.scatterAdd (F := Ideal) (φ := .f32) scatter_S5x768_S576x1_S576x768_1_0_0_1 (broadcastInDim S5x768 ![] bcast_S_S5x768 (constant (F := Ideal) S_ .f32 0x00000000#32)) A X

noncomputable def countsR (A : IVec S576x1 32) : S5.Idx → EReal :=
  Host.scatterAdd (F := Ideal) (φ := .f32) scatter_S5_S576x1_S576_n_0_0_1 (broadcastInDim S5 ![] bcast_S_S5 (constant (F := Ideal) S_ .f32 0x00000000#32)) A (broadcastInDim S576 ![] bcast_S_S576 (constant (F := Ideal) S_ .f32 0x3F800000#32))

theorem stepR_eq (X : S576x768.Idx → EReal) (C : S5x768.Idx → EReal) :
    @Eq (S5x768.Idx → EReal) (stepR X C) (quotR (sumsR X (wordsR (assignR X C))) (countsR (wordsR (assignR X C)))) := rfl

theorem bits_one : Ideal.ofBits .f32 0x3F800000#32 = 1 := by
  simp [Ideal.ofBits, Ideal.ieee, -EReal.coe_mul]
  norm_num

theorem bits_zero : Ideal.ofBits .f32 0x00000000#32 = 0 := by
  simp [Ideal.ofBits, Ideal.ieee]

theorem stepR_at (X : S576x768.Idx → EReal) (C : S5x768.Idx → EReal) (q : Fin 5) (d : Fin 768) :
    @Eq EReal (stepR X C (ix2 q d)) (Ideal.div (∑ p : Fin 576, if (wordsR (assignR X C) (ix2 p 0)).toInt = q.val then X (ix2 p d) else 0)
      (max 1 (∑ p : Fin 576, if (wordsR (assignR X C) (ix2 p 0)).toInt = q.val then 1 else 0))) := by
  rw [stepR_eq, quotR_at]
  have h2 := scat2_sum (broadcastInDim S5x768 ![] bcast_S_S5x768 (constant (F := Ideal) S_ .f32 0x00000000#32)) (wordsR (assignR X C)) X q d
  have h1 := scat1_sum (broadcastInDim S5 ![] bcast_S_S5 (constant (F := Ideal) S_ .f32 0x00000000#32)) (wordsR (assignR X C)) (broadcastInDim S576 ![] bcast_S_S576 (constant (F := Ideal) S_ .f32 0x3F800000#32)) q
  change @Eq EReal (sumsR X (wordsR (assignR X C)) (ix2 q d)) (Ideal.ofBits .f32 0x00000000#32 + _) at h2
  change @Eq EReal (countsR (wordsR (assignR X C)) (ix1 q)) (Ideal.ofBits .f32 0x00000000#32 + ∑ p : Fin 576, if (wordsR (assignR X C) (ix2 p 0)).toInt = q.val then Ideal.ofBits .f32 0x3F800000#32 else 0) at h1
  rw [h2, h1, bits_one, bits_zero, zero_add, zero_add]

end Cert.ReferenceIdeal.Val
-- ==== Proof.RArg.lean ====
/- The nearest centre of every point, as the reference finds it: the first of the five least distances. -/
module

public import proofs.«01_k».proof.Proof.RStep
public import Idealize.ShloMosaic.PureOps.Reduce
public import Idealize.ShloMosaic.PureOps.Ideal.Laws

@[expose] public section

set_option maxRecDepth 16384

noncomputable section

namespace Cert.ReferenceIdeal.Val

open Cert.ReferenceIdeal.Gen Cert.Sums
open Idealize.ShloMosaic Idealize.ShloMosaic.TcCoe Idealize.ShloMosaic.Tactic
open scoped BigOperators

/-- A value with its place, ordered by value and then by place. -/
def rank (a : EReal × BitVec 32) : EReal ×ₗ ℤ := toLex (a.1, a.2.toInt)

/-- The combiner keeps the first of two pairs only if it ranks below the second. -/
theorem reducer_eq (a b : EReal × BitVec 32) :
    @Eq (EReal × BitVec 32) (reducer_argmin_f32_i32 (F := Ideal) a b) (if rank a < rank b then a else b) := by
  obtain ⟨x, i⟩ := a
  obtain ⟨y, j⟩ := b
  change @Eq (EReal × BitVec 32) (Scalar.select (IntOp.ori (Ideal.cmp .olt x y) (Ideal.cmp .une x x)) x y,
    Scalar.select (IntOp.ori (IntOp.ori (Ideal.cmp .olt x y) (Ideal.cmp .une x x)) (IntOp.andi (Ideal.cmp .oeq x y) (IntOp.cmpi .slt i j))) i j) _
  have hr : rank (x, i) < rank (y, j) ↔ x < y ∨ x = y ∧ i.toInt < j.toInt := Prod.Lex.toLex_lt_toLex
  have h1 : Ideal.cmp .olt x y = BitVec.ofBool (decide (x < y)) := rfl
  have h2 : Ideal.cmp .une x x = BitVec.ofBool (decide (x ≠ x)) := rfl
  have h3 : Ideal.cmp .oeq x y = BitVec.ofBool (decide (x = y)) := rfl
  have h4 : IntOp.cmpi .slt i j = BitVec.ofBool (decide (i.toInt < j.toInt)) := rfl
  rw [h1, h2, h3, h4]
  by_cases hl : x < y
  · rw [if_pos (hr.mpr (Or.inl hl))]
    have he : ¬x = y := hl.ne
    by_cases hi : i.toInt < j.toInt <;> simp [hl, he, hi] <;> exact ⟨rfl, rfl⟩
  · by_cases he : x = y
    · by_cases hi : i.toInt < j.toInt
      · rw [if_pos (hr.mpr (Or.inr ⟨he, hi⟩))]
        subst he
        simp [hi]
        exact ⟨rfl, rfl⟩
      · rw [if_neg (fun h => (hr.mp h).elim hl fun h => hi h.2)]
        subst he
        simp [hi]
        exact ⟨rfl, rfl⟩
    · rw [if_neg (fun h => (hr.mp h).elim hl fun h => he h.1)]
      simp [hl, he]
      by_cases hi : i.toInt < j.toInt <;> simp [hi] <;> exact ⟨rfl, rfl⟩

theorem fold_rank (L : List (EReal × BitVec 32)) (a : EReal × BitVec 32) (f : EReal × BitVec 32 → EReal × BitVec 32 → EReal × BitVec 32)
    (hf : ∀ a b, f a b = if rank a < rank b then a else b) :
    (L.foldl f a ∈ a :: L) ∧ ∀ z ∈ a :: L, rank (L.foldl f a) ≤ rank z := by
  induction L generalizing a with
  | nil => simp
  | cons b L ih =>
    rw [List.foldl_cons]
    obtain ⟨h1, h2⟩ := ih (f a b)
    have hc : f a b = a ∨ f a b = b := by
      rw [hf]
      split_ifs
      · exact Or.inl rfl
      · exact Or.inr rfl
    have ha : rank (f a b) ≤ rank a := by
      rw [hf]
      split_ifs with h
      · exact le_rfl
      · exact not_lt.mp h
    have hb : rank (f a b) ≤ rank b := by
      rw [hf]
      split_ifs with h
      · exact h.le
      · exact le_rfl
    have h0 := h2 _ (List.mem_cons_self ..)
    refine ⟨?_, ?_⟩
    · rcases List.mem_cons.mp h1 with h | h
      · rw [h]
        rcases hc with h | h <;> rw [h] <;> simp
      · simp [h]
    · intro z hz
      rcases List.mem_cons.mp hz with rfl | hz
      · exact h0.trans ha
      · rcases List.mem_cons.mp hz with rfl | hz
        · exact h0.trans hb
        · exact h2 z (List.mem_cons_of_mem _ hz)

theorem ex_ix2_5 (j : S576x5.Idx) : ∃ (p : Fin 576) (k : Fin 5), j = ix2 p k :=
  ⟨j 0, j 1, by
    funext a
    match a with
    | 0 => rfl
    | 1 => rfl⟩

theorem drop_ix2 (p : Fin 576) (k : Fin 5) : reducesTo_S576x5_S576_d1.drop (ix2 p k) = ix1 p := by
  funext a
  match a with
  | 0 => rfl

/-- The pairs the combiner runs over, for point `p`. -/
theorem fiber_mem (D : S576x5.Idx → EReal) (p : Fin 576) (z : EReal × BitVec 32) :
    z ∈ Host.argReduceFiber (α := EReal) (β := BitVec 32) D (iotaInDim S576x5 32 1) reducesTo_S576x5_S576_d1 (ix1 p)
      ↔ ∃ q : Fin 5, z = (D (ix2 p q), BitVec.ofNat 32 q) := by
  unfold Host.argReduceFiber
  rw [List.mem_map]
  constructor
  · rintro ⟨n, hn, rfl⟩
    have hn := (List.mem_filter.mp hn).2
    obtain ⟨p', q, hpq⟩ := ex_ix2_5 (S576x5.rowMajor.symm n)
    rw [hpq, drop_ix2, decide_eq_true_iff] at hn
    have hp : p' = p := congrFun hn 0
    subst hp
    rw [hpq]
    exact ⟨q, rfl⟩
  · rintro ⟨q, rfl⟩
    refine ⟨S576x5.rowMajor (ix2 p q), List.mem_filter.mpr ⟨List.mem_finRange _, ?_⟩, ?_⟩
    · rw [Equiv.symm_apply_apply, drop_ix2, decide_eq_true_iff]
    · rw [Equiv.symm_apply_apply]
      rfl

theorem bits_top : Ideal.ofBits .f32 0x7F800000#32 = ⊤ := by
  simp [Ideal.ofBits, Ideal.ieee]

/-- The reference's nearest centre, when every distance is a real number. -/
theorem assign_of_real (D : S576x5.Idx → EReal) (s : ℕ → ℝ) (p : Fin 576) (hD : ∀ q : Fin 5, D (ix2 p q) = (s q : EReal)) :
    (Host.argReduce (F := Ideal) (φ := .f32) reducer_argmin_f32_i32 D (iotaInDim S576x5 32 1) (constant S_ .f32 0x7F800000#32) (constantI S_ 32 0#32) reducesTo_S576x5_S576_d1 h_S_ (ix1 p)).2
      = BitVec.ofNat 32 (firstMin s) := by
  rw [Ideal.argReduce_eq_reduce2, Host.reduce2_eq_foldl_fiber]
  have hm := fiber_mem D p
  revert hm
  generalize Host.argReduceFiber (α := EReal) (β := BitVec 32) D (iotaInDim S576x5 32 1) reducesTo_S576x5_S576_d1 (ix1 p) = L
  intro hm
  change (List.foldl (reducer_argmin_f32_i32 (F := Ideal)) ((Ideal.ofBits .f32 0x7F800000#32, 0#32) : EReal × BitVec 32) L).2 = _
  obtain ⟨h1, h2⟩ := fold_rank L (Ideal.ofBits .f32 0x7F800000#32, 0#32) (reducer_argmin_f32_i32 (F := Ideal)) reducer_eq
  revert h1 h2
  generalize (List.foldl (reducer_argmin_f32_i32 (F := Ideal)) ((Ideal.ofBits .f32 0x7F800000#32, 0#32) : EReal × BitVec 32) L : EReal × BitVec 32) = r
  intro h1 h2
  have hle : ∀ q : Fin 5, r.1 < (s q : EReal) ∨ r.1 = (s q : EReal) ∧ r.2.toInt ≤ (BitVec.ofNat 32 q.val).toInt := by
    intro q
    have := h2 _ (List.mem_cons_of_mem _ ((hm _).mpr ⟨q, rfl⟩))
    rw [hD] at this
    exact Prod.Lex.toLex_le_toLex.mp this
  have hr : ∃ q : Fin 5, r = ((s q : EReal), BitVec.ofNat 32 q) := by
    rcases List.mem_cons.mp h1 with h | h
    · exfalso
      rw [bits_top] at h
      rcases hle 0 with h' | h'
      · rw [h] at h'
        exact not_top_lt h'
      · rw [h] at h'
        exact EReal.coe_ne_top _ h'.1.symm
    · obtain ⟨q, hq⟩ := (hm r).mp h
      exact ⟨q, by rw [hq, hD]⟩
  obtain ⟨q, rfl⟩ := hr
  have hi : ∀ q : Fin 5, (BitVec.ofNat 32 q.val).toInt = q.val := by decide
  have hf : FirstMin s q := by
    refine ⟨q.2, fun k hk => ?_, fun k hk => ?_⟩
    · rcases hle ⟨k, hk⟩ with h | h
      · exact (EReal.coe_lt_coe_iff.mp h).le
      · exact (EReal.coe_eq_coe_iff.mp h.1).le
    · rcases hle ⟨k, hk.trans q.2⟩ with h | h
      · exact EReal.coe_lt_coe_iff.mp h
      · exfalso
        have h := h.2
        rw [hi, hi] at h
        have : (q : ℕ) ≤ k := by exact_mod_cast h
        omega
  rw [firstMin_eq hf]

/-- One step over the reals. -/
theorem stepR_real {X : S576x768.Idx → EReal} {C : S5x768.Idx → EReal} (xN cN : ℕ → ℕ → ℝ)
    (hX : ∀ (p : Fin 576) (d : Fin 768), X (ix2 p d) = (xN p d : EReal)) (hC : ∀ (q : Fin 5) (d : Fin 768), C (ix2 q d) = (cN q d : EReal))
    (q : Fin 5) (d : Fin 768) : @Eq EReal (stepR X C (ix2 q d)) ((stepN xN cN q d : ℝ) : EReal) := by
  have hw : ∀ p : Fin 576, (wordsR (assignR X C) (ix2 p 0)).toInt = firstMin (scoreN xN cN p) := fun p =>
    wordsR_at _ p _ (firstMin_spec _).1 (assign_of_real _ _ p fun q => distR_real xN cN hX hC p q)
  rw [stepR_at]
  have e1 : (∑ p : Fin 576, if (wordsR (assignR X C) (ix2 p 0)).toInt = q.val then X (ix2 p d) else 0)
      = ((∑ p ∈ Finset.range 576, if firstMin (scoreN xN cN p) = q then xN p d else 0 : ℝ) : EReal) := by
    rw [Finset.sum_range, coe_sum]
    refine Finset.sum_congr rfl fun p _ => ?_
    rw [hw, hX]
    by_cases h : firstMin (scoreN xN cN p) = q
    · rw [if_pos h, if_pos (by rw [h])]
    · rw [if_neg h, if_neg (by exact_mod_cast h)]
      rfl
  have e2 : (∑ p : Fin 576, if (wordsR (assignR X C) (ix2 p 0)).toInt = q.val then (1 : EReal) else 0)
      = ((countN xN cN q : ℝ) : EReal) := by
    unfold countN
    rw [Finset.sum_range, coe_sum]
    refine Finset.sum_congr rfl fun p _ => ?_
    rw [hw]
    by_cases h : firstMin (scoreN xN cN p) = q
    · rw [if_pos h, if_pos (by rw [h])]
      rfl
    · rw [if_neg h, if_neg (by exact_mod_cast h)]
      rfl
  have em : max (1 : EReal) ((countN xN cN q : ℝ) : EReal) = ((max (countN xN cN q) 1 : ℝ) : EReal) := by
    rw [max_comm]
    exact (EReal.coe_strictMono.monotone.map_max (a := countN xN cN q) (b := 1)).symm
  have hpos : (max (countN xN cN q) 1 : ℝ) ≠ 0 := (lt_of_lt_of_le one_pos (le_max_right _ _)).ne'
  rw [e1, e2, em, Ideal.div_coe hpos, ← EReal.coe_mul]
  rfl

end Cert.ReferenceIdeal.Val
-- ==== Proof.RCent.lean ====
/- The reference's centres over the reals. -/
module

public import proofs.«01_k».proof.Proof.RFeat
public import proofs.«01_k».proof.Proof.RArg

@[expose] public section

set_option maxRecDepth 16384

noncomputable section

namespace Cert.ReferenceIdeal.Val

open Cert.ReferenceIdeal.Gen Cert.Sums
open Idealize.ShloMosaic Idealize.ShloMosaic.TcCoe Idealize.ShloMosaic.Tactic
open scoped BigOperators

theorem points_of (E : S8x576x768.Idx → EReal) (p : Fin 576) (d : Fin 768) :
    @Eq EReal (shapeCast S576x768 (extractStridedSlice S1x576x768 ![0, 0, 0] E slices_S8x576x768_S1x576x768_0_0_0) shapeCasts_S1x576x768_S576x768 (ix2 p d)) (E (ix3 0 p d)) := by
  pointwise

theorem pointsR_real {x : S8x3x384x384.Idx → EReal} {W : S768x768.Idx → EReal} (hx : Fin1 x) (hW : Fin1 W) (p : Fin 576) (d : Fin 768) :
    @Eq EReal (pointsR x W (ix2 p d)) ((embN x W 0 p.val d.val : ℝ) : EReal) :=
  (points_of (embR x W) p d).trans (embR_real hx hW 0 p d)

theorem firsts_of (X : S576x768.Idx → EReal) (q : Fin 5) (d : Fin 768) :
    @Eq EReal (extractStridedSlice S5x768 ![0, 0] X slices_S576x768_S5x768_0_0 (ix2 q d)) (X (ix2 ⟨q.val, by omega⟩ d)) := by
  pointwise

theorem iterate_real (X : S576x768.Idx → EReal) (C : S5x768.Idx → EReal) (xN cN : ℕ → ℕ → ℝ)
    (hX : ∀ (p : Fin 576) (d : Fin 768), X (ix2 p d) = (xN p d : EReal)) (hC : ∀ (q : Fin 5) (d : Fin 768), C (ix2 q d) = (cN q d : EReal)) (i : ℕ) :
    ∀ (q : Fin 5) (d : Fin 768), @Eq EReal ((stepR X)^[i] C (ix2 q d)) (((stepN xN)^[i] cN q.val d.val : ℝ) : EReal) := by
  induction i with
  | zero => exact hC
  | succ i ih =>
    intro q d
    rw [Function.iterate_succ_apply', Function.iterate_succ_apply']
    exact stepR_real xN ((stepN xN)^[i] cN) hX ih q d

theorem centR_real {x : S8x3x384x384.Idx → EReal} {W : S768x768.Idx → EReal} (hx : Fin1 x) (hW : Fin1 W) (q : Fin 5) (d : Fin 768) :
    @Eq EReal (centR x W (ix2 q d)) (((stepN (embN x W 0))^[10] (embN x W 0) q.val d.val : ℝ) : EReal) :=
  iterate_real (pointsR x W) _ (embN x W 0) (embN x W 0) (pointsR_real hx hW)
    (fun q d => (firsts_of (pointsR x W) q d).trans (pointsR_real hx hW ⟨q.val, by omega⟩ d)) 10 q d

end Cert.ReferenceIdeal.Val
-- ==== Proof.CentEq.lean ====
/- The two programs' centres are equal. -/
module

public import proofs.«01_k».proof.Proof.KCent
public import proofs.«01_k».proof.Proof.RCent

@[expose] public section

set_option maxRecDepth 16384

noncomputable section

namespace Cert.Both

open Cert.Sums
open Idealize.ShloMosaic Idealize.ShloMosaic.TcCoe Idealize.ShloMosaic.Tactic
open scoped BigOperators

/-- The `e`-th of three weight matrices. -/
def weightN (W0 W1 W2 : KernelIdeal.S768x768.Idx → EReal) : ℕ → KernelIdeal.S768x768.Idx → EReal
  | 0 => W0
  | 1 => W1
  | _ => W2

/-- One block of the kernel's points is the embedded patches of the first image, in the kernel's order. -/
theorem kemb_real (x : KernelIdeal.S8x3x384x384.Idx → EReal) (W : KernelIdeal.S768x768.Idx → EReal) (hW : Fin1 W)
    (B : KernelIdeal.S6x24x16x384.Idx → EReal)
    (hB : ∀ (a : Fin 6) (g : Fin 24) (i : Fin 16) (w : Fin 384), @Eq EReal (B (ix4 a g i w)) ((xN x (a.val / 3) (a.val % 3) (g.val * 16 + i.val) w.val : ℝ) : EReal))
    (r : Fin 576) (d : Fin 768) :
    @Eq EReal (KernelIdeal.Val.kemb (F := Ideal) (KernelIdeal.Val.kp0 (F := Ideal) B) W (ix2 r d))
      ((ReferenceIdeal.Val.embN x W 0 (KernelIdeal.Val.patchOf r.val) d.val : ℝ) : EReal) := by
  refine (KernelIdeal.Val.kemb_at _ W r d).trans ?_
  unfold ReferenceIdeal.Val.embN
  rw [Finset.sum_range, coe_sum]
  refine Finset.sum_congr rfl fun k _ => ?_
  have hr := r.isLt
  have hk := k.isLt
  rw [EReal.coe_mul, w_at hW k d]
  refine congrArg (· * _) ?_
  refine (show @Eq EReal _ _ from KernelIdeal.Val.kp0_at (F := Ideal) B r k).trans ?_
  refine (hB _ _ _ _).trans ?_
  unfold patchN KernelIdeal.Val.patchOf
  refine congrArg Real.toEReal ?_
  dsimp only
  congr 1 <;> omega

/-- Ten steps of the kernel's clustering, entry by entry. -/
theorem kcent_real (x : KernelIdeal.S8x3x384x384.Idx → EReal) (W0 W1 W2 : KernelIdeal.S768x768.Idx → EReal) (h0 : Fin1 W0) (h1 : Fin1 W1) (h2 : Fin1 W2)
    (B : KernelIdeal.S6x24x16x384.Idx → EReal)
    (hB : ∀ (a : Fin 6) (g : Fin 24) (i : Fin 16) (w : Fin 384), @Eq EReal (B (ix4 a g i w)) ((xN x (a.val / 3) (a.val % 3) (g.val * 16 + i.val) w.val : ℝ) : EReal))
    (r : Fin 24) (d : Fin 768) (hr : r.val % 8 < 5) :
    @Eq EReal ((KernelIdeal.Val.kstep (F := Ideal) (KernelIdeal.Val.kpoints (KernelIdeal.Val.kemb (KernelIdeal.Val.kp0 B) W0) (KernelIdeal.Val.kemb (KernelIdeal.Val.kp0 B) W1) (KernelIdeal.Val.kemb (KernelIdeal.Val.kp0 B) W2)))^[10]
        (KernelIdeal.Val.kfirsts (KernelIdeal.Val.kemb (KernelIdeal.Val.kp0 B) W0) (KernelIdeal.Val.kemb (KernelIdeal.Val.kp0 B) W1) (KernelIdeal.Val.kemb (KernelIdeal.Val.kp0 B) W2)) (ix2 r d))
      (((stepN (ReferenceIdeal.Val.embN x (weightN W0 W1 W2 (r.val / 8)) 0))^[10] (ReferenceIdeal.Val.embN x (weightN W0 W1 W2 (r.val / 8)) 0) (r.val % 8) d.val : ℝ) : EReal) := by
  refine KernelIdeal.Val.iterate_real _ _ (fun e => ReferenceIdeal.Val.embN x (weightN W0 W1 W2 e) 0) (fun e => ReferenceIdeal.Val.embN x (weightN W0 W1 W2 e) 0) ?_ ?_ 10 r d hr
  · intro n d
    exact KernelIdeal.Val.kpoints_at _ _ _ (fun e r d => ((ReferenceIdeal.Val.embN x (weightN W0 W1 W2 e) 0 (KernelIdeal.Val.patchOf r) d : ℝ) : EReal))
      (kemb_real x W0 h0 B hB) (kemb_real x W1 h1 B hB) (kemb_real x W2 h2 B hB) n d
  · intro r d hr
    refine (KernelIdeal.Val.kfirsts_at _ _ _ (fun e r d => ((ReferenceIdeal.Val.embN x (weightN W0 W1 W2 e) 0 (KernelIdeal.Val.patchOf r) d : ℝ) : EReal))
      (kemb_real x W0 h0 B hB) (kemb_real x W1 h1 B hB) (kemb_real x W2 h2 B hB) r d).trans ?_
    rw [show KernelIdeal.Val.patchOf (24 * (r.val % 8)) = r.val % 8 from by unfold KernelIdeal.Val.patchOf; omega]

/-- The three clusterings' centres, one under the other. -/
theorem stack3_at (C0 C1 C2 : ReferenceIdeal.S5x768.Idx → EReal) (e : Fin 3) (q : Fin 5) (d : Fin 768) :
    @Eq EReal (concatenate (α := EReal) ReferenceIdeal.S3x1x5x768 0
      [⟨ReferenceIdeal.S1x1x5x768, broadcastInDim ReferenceIdeal.S1x1x5x768 ![1, 2, 3] ReferenceIdeal.Gen.bcast_S1x5x768_S1x1x5x768_1_2_3 (broadcastInDim ReferenceIdeal.S1x5x768 ![1, 2] ReferenceIdeal.Gen.bcast_S5x768_S1x5x768_1_2 C0)⟩,
       ⟨ReferenceIdeal.S1x1x5x768, broadcastInDim ReferenceIdeal.S1x1x5x768 ![1, 2, 3] ReferenceIdeal.Gen.bcast_S1x5x768_S1x1x5x768_1_2_3 (broadcastInDim ReferenceIdeal.S1x5x768 ![1, 2] ReferenceIdeal.Gen.bcast_S5x768_S1x5x768_1_2 C1)⟩,
       ⟨ReferenceIdeal.S1x1x5x768, broadcastInDim ReferenceIdeal.S1x1x5x768 ![1, 2, 3] ReferenceIdeal.Gen.bcast_S1x5x768_S1x1x5x768_1_2_3 (broadcastInDim ReferenceIdeal.S1x5x768 ![1, 2] ReferenceIdeal.Gen.bcast_S5x768_S1x5x768_1_2 C2)⟩]
      ReferenceIdeal.Gen.concatenates_S1x1x5x768_S1x1x5x768_S1x1x5x768_S3x1x5x768_d0 (ix4 e 0 q d))
      (match e with | 0 => C0 (ix2 q d) | 1 => C1 (ix2 q d) | 2 => C2 (ix2 q d)) := by
  match e with
  | 0 => pointwise
  | 1 => pointwise
  | 2 => pointwise

theorem cut_at (Z : KernelIdeal.S3x8x768.Idx → EReal) (e : Fin 3) (q : Fin 5) (d : Fin 768) :
    @Eq EReal (broadcastInDim KernelIdeal.S3x1x5x768 ![0, 2, 3] KernelIdeal.Gen.bcast_S3x5x768_S3x1x5x768_0_2_3
      (extractStridedSlice KernelIdeal.S3x5x768 ![0, 0, 0] Z KernelIdeal.Gen.slices_S3x8x768_S3x5x768_0_0_0) (ix4 e 0 q d)) (Z (ix3 e ⟨q.val, by omega⟩ d)) := by
  pointwise

theorem centsR_real (x : KernelIdeal.S8x3x384x384.Idx → EReal) (W0 W1 W2 : KernelIdeal.S768x768.Idx → EReal) (hx : Fin1 x) (h0 : Fin1 W0) (h1 : Fin1 W1) (h2 : Fin1 W2)
    (e : Fin 3) (q : Fin 5) (d : Fin 768) :
    @Eq EReal (ReferenceIdeal.Val.centsR x W0 W1 W2 (ix4 e 0 q d))
      (((stepN (ReferenceIdeal.Val.embN x (weightN W0 W1 W2 e.val) 0))^[10] (ReferenceIdeal.Val.embN x (weightN W0 W1 W2 e.val) 0) q.val d.val : ℝ) : EReal) := by
  refine (stack3_at (ReferenceIdeal.Val.centR x W0) (ReferenceIdeal.Val.centR x W1) (ReferenceIdeal.Val.centR x W2) e q d).trans ?_
  match e with
  | 0 => exact ReferenceIdeal.Val.centR_real hx h0 q d
  | 1 => exact ReferenceIdeal.Val.centR_real hx h1 q d
  | 2 => exact ReferenceIdeal.Val.centR_real hx h2 q d

theorem centAt_real (m : (ℓ : Loc KernelIdeal.nD KernelIdeal.τ KernelIdeal.sig) → Buf (Elt Ideal) ℓ) (c : Dev KernelIdeal.nD)
    (hx : Fin1 (s := KernelIdeal.S8x3x384x384) (m ((c : Thread KernelIdeal.nD KernelIdeal.τ).loc KernelIdeal.main_arg0)))
    (h1 : Fin1 (s := KernelIdeal.S768x768) (m ((c : Thread KernelIdeal.nD KernelIdeal.τ).loc KernelIdeal.main_arg1)))
    (h2 : Fin1 (s := KernelIdeal.S768x768) (m ((c : Thread KernelIdeal.nD KernelIdeal.τ).loc KernelIdeal.main_arg2)))
    (h3 : Fin1 (s := KernelIdeal.S768x768) (m ((c : Thread KernelIdeal.nD KernelIdeal.τ).loc KernelIdeal.main_arg3))) (e : Fin 3) (q : Fin 5) (d : Fin 768) :
    @Eq EReal (KernelIdeal.Val.centAt m c (ix3 e ⟨q.val, by omega⟩ d))
      (((stepN (ReferenceIdeal.Val.embN (m ((c : Thread KernelIdeal.nD KernelIdeal.τ).loc KernelIdeal.main_arg0)) (weightN (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) e.val) 0))^[10]
        (ReferenceIdeal.Val.embN (m ((c : Thread KernelIdeal.nD KernelIdeal.τ).loc KernelIdeal.main_arg0)) (weightN (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) e.val) 0) q.val d.val : ℝ) : EReal) := by
  have he := e.isLt
  have hq := q.isLt
  unfold KernelIdeal.Val.centAt KernelIdeal.Val.centOut
  rw [KernelIdeal.Val.centres_from, KernelIdeal.Val.iblk1 m c, KernelIdeal.Val.iblk2 m c, KernelIdeal.Val.iblk3 m c]
  refine (kcent_real (m ((c : Thread KernelIdeal.nD KernelIdeal.τ).loc KernelIdeal.main_arg0)) _ _ _ h1 h2 h3 _ (fun a g i w => ?_) _ d ?_).trans ?_
  · refine (KernelIdeal.Val.blk0_at m c hx KernelIdeal.Val.tFirst a g i w).trans ?_
    rw [show 6 * (KernelIdeal.Val.tFirst).val + a.val = a.val from Nat.zero_add _]
  · show (8 * e.val + q.val) % 8 < 5
    omega
  · show @Eq EReal (((stepN (ReferenceIdeal.Val.embN _ (weightN _ _ _ ((8 * e.val + q.val) / 8)) 0))^[10] (ReferenceIdeal.Val.embN _ (weightN _ _ _ ((8 * e.val + q.val) / 8)) 0) ((8 * e.val + q.val) % 8) d.val : ℝ) : EReal) _
    rw [show (8 * e.val + q.val) / 8 = e.val by omega, show (8 * e.val + q.val) % 8 = q.val by omega]

theorem cent_eq (m : (ℓ : Loc KernelIdeal.nD KernelIdeal.τ KernelIdeal.sig) → Buf (Elt Ideal) ℓ) (c : Dev KernelIdeal.nD)
    (hx : Fin1 (s := KernelIdeal.S8x3x384x384) (m ((c : Thread KernelIdeal.nD KernelIdeal.τ).loc KernelIdeal.main_arg0)))
    (h1 : Fin1 (s := KernelIdeal.S768x768) (m ((c : Thread KernelIdeal.nD KernelIdeal.τ).loc KernelIdeal.main_arg1)))
    (h2 : Fin1 (s := KernelIdeal.S768x768) (m ((c : Thread KernelIdeal.nD KernelIdeal.τ).loc KernelIdeal.main_arg2)))
    (h3 : Fin1 (s := KernelIdeal.S768x768) (m ((c : Thread KernelIdeal.nD KernelIdeal.τ).loc KernelIdeal.main_arg3))) :
    @Eq (KernelIdeal.S3x1x5x768.Idx → EReal) (KernelIdeal.Val.centRes m c)
      (ReferenceIdeal.Val.centsR (m ((c : Thread KernelIdeal.nD KernelIdeal.τ).loc KernelIdeal.main_arg0))
        (m ((c : Thread KernelIdeal.nD KernelIdeal.τ).loc KernelIdeal.main_arg1)) (m ((c : Thread KernelIdeal.nD KernelIdeal.τ).loc KernelIdeal.main_arg2))
        (m ((c : Thread KernelIdeal.nD KernelIdeal.τ).loc KernelIdeal.main_arg3))) := by
  have key : ∀ (e : Fin 3) (q : Fin 5) (d : Fin 768), @Eq EReal (KernelIdeal.Val.centRes m c (ix4 e 0 q d))
      (ReferenceIdeal.Val.centsR (m ((c : Thread KernelIdeal.nD KernelIdeal.τ).loc KernelIdeal.main_arg0))
        (m ((c : Thread KernelIdeal.nD KernelIdeal.τ).loc KernelIdeal.main_arg1)) (m ((c : Thread KernelIdeal.nD KernelIdeal.τ).loc KernelIdeal.main_arg2))
        (m ((c : Thread KernelIdeal.nD KernelIdeal.τ).loc KernelIdeal.main_arg3)) (ix4 e 0 q d)) := by
    intro e q d
    refine (cut_at (KernelIdeal.Val.centAt m c) e q d).trans ?_
    exact (centAt_real m c hx h1 h2 h3 e q d).trans (centsR_real _ _ _ _ hx h1 h2 h3 e q d).symm
  funext y
  rw [show y = (ix4 (y 0) 0 (y 2) (y 3) : KernelIdeal.S3x1x5x768.Idx) from by
    funext a; match a with | 0 => rfl | 1 => exact Fin.ext (Nat.lt_one_iff.mp (y 1).isLt) | 2 => rfl | 3 => rfl]
  exact key (y 0) (y 2) (y 3)

end Cert.Both
-- ==== Proof.lean ====
/- The claims of this certificate, assembled from the runs of the three programs and the
   equality of their results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.Pre_finite_arguments
public import proofs.«01_k».proof.Proof.Finite
public import proofs.«01_k».proof.Proof.BFrame
public import proofs.«01_k».proof.Proof.KEnd
public import proofs.«01_k».proof.Proof.RefEnd
public import proofs.«01_k».proof.Proof.FeatEq
public import proofs.«01_k».proof.Proof.CentEq

@[expose] public section

noncomputable section

namespace Cert.Proof

open Idealize.ShloMosaic Idealize.SL.Sem

/-- Both runs end with the same features and the same centres, whatever the finite arguments. -/
theorem same_results : Cert.algebraic_KernelIdeal_ReferenceIdeal_pre_finite_arguments := by
  intro m g m' g' hpre hargs
  refine ⟨fun c => Cert.KernelIdeal.Val.featAt m c, fun c => Cert.KernelIdeal.Val.centRes m c, ?_, ?_⟩
  · exact Cert.KernelIdeal.Val.run_vals m g
  · have h := Cert.ReferenceIdeal.Val.run_vals m' g'
    refine (θ_run Cert.ReferenceIdeal.defs _ _).mono (fun r h c => ?_) h
    obtain ⟨a0, a1, a2, a3⟩ := hargs c
    obtain ⟨h0, h1, h2, h3⟩ := Cert.Both.args_finite m hpre c
    obtain ⟨r0, r1, r2⟩ := h c
    refine ⟨r0.trans ?_, r1.trans ?_, r2⟩
    · rw [a0, a1, a2, a3]
      exact (Cert.Both.feat_eq m c h0 h1 h2 h3).symm
    · rw [a0, a1, a2, a3]
      exact (Cert.Both.cent_eq m c h0 h1 h2 h3).symm

theorem claim : Cert.Claim := ⟨Cert.Kernel.Gen.facts, Cert.KernelIdeal.Gen.facts, Cert.ReferenceIdeal.Gen.facts, Cert.Pre_finite_arguments.Gen.facts,
  fun m g _ => Cert.Kernel.Val.frame m g,
  fun m g _ => Cert.KernelIdeal.Val.frame m g,
  fun m g _ => Cert.KernelIdeal.Val.frame m g,
  fun m g _ => Cert.ReferenceIdeal.Val.frame m g,
  fun m g _ => Cert.ReferenceIdeal.Val.frame m g,
  IdealRules.named_const.statement Cert.KernelIdeal.κ "inv_patches" .f32 0x3AE38E39#32 (((1/576 : ℝ)) : EReal) rfl,
  same_results⟩

end Cert.Proof

end
